-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_on_separated_pre_well_posed [hKernelIdeal : Cert.KernelIdeal.Facts] [hReferenceIdeal : Cert.ReferenceIdeal.Facts] [hPre_well_posed : Cert.Pre_well_posed.Facts] [hOn_separated : Cert.On_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨0, ![]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v0_0) i = v0 c i)
          ∧ (∀ i : (⟨0, ![]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨0, ![]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v262) i = v0 c i)
          ∧ (∀ i : (⟨0, ![]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 i = 1#1 → r.2.mem ((c.tc : Thread Cert.ReferenceIdeal.nD Cert.ReferenceIdeal.τ).loc Cert.ReferenceIdeal.main_v263) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_well_posed : Cert.Pre_well_posed.Facts) (hOn_separated : Cert.On_separated.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_on_separated_pre_well_posed (hKernelIdeal := hKernelIdeal) (hReferenceIdeal := hReferenceIdeal) (hPre_well_posed := hPre_well_posed) (hOn_separated := hOn_separated)
-- ==== On_separated.lean ====
abbrev S32x16320x4 : Shape := ⟨3, ![32, 16320, 4]⟩
abbrev S32x16320x21 : Shape := ⟨3, ![32, 16320, 21]⟩
abbrev S16320x4 : Shape := ⟨2, ![16320, 4]⟩
abbrev S32x50x5 : Shape := ⟨3, ![32, 50, 5]⟩
abbrev S16320x1 : Shape := ⟨2, ![16320, 1]⟩
abbrev S16320 : Shape := ⟨1, ![16320]⟩
abbrev S_ : Shape := ⟨0, ![]⟩
abbrev S32x50x1 : Shape := ⟨3, ![32, 50, 1]⟩
abbrev S32x50 : Shape := ⟨2, ![32, 50]⟩
abbrev S1x1x16320 : Shape := ⟨3, ![1, 1, 16320]⟩
abbrev S32x50x16320 : Shape := ⟨3, ![32, 50, 16320]⟩
abbrev S32x16320 : Shape := ⟨2, ![32, 16320]⟩
abbrev S32x1x16320 : Shape := ⟨3, ![32, 1, 16320]⟩
abbrev S50 : Shape := ⟨1, ![50]⟩
abbrev S1x50x1 : Shape := ⟨3, ![1, 50, 1]⟩
abbrev S32x16320x1 : Shape := ⟨3, ![32, 16320, 1]⟩
abbrev S32x16320x5 : Shape := ⟨3, ![32, 16320, 5]⟩
abbrev S32x16320x1x1 : Shape := ⟨4, ![32, 16320, 1, 1]⟩
abbrev S32 : Shape := ⟨1, ![32]⟩
abbrev S32x1 : Shape := ⟨2, ![32, 1]⟩

class Facts : Prop where
  slices_S16320x4_S16320x1_0_0 : S16320x4.Slices ![0, 0] S16320x1
  shapeCasts_S16320x1_S16320 : S16320x1.ShapeCasts S16320
  slices_S16320x4_S16320x1_0_2 : S16320x4.Slices ![0, 2] S16320x1
  bcast_S_S16320 : S_.BroadcastsInDim S16320 (![] : Fin 0 → Fin S16320.rank)
  slices_S16320x4_S16320x1_0_1 : S16320x4.Slices ![0, 1] S16320x1
  slices_S16320x4_S16320x1_0_3 : S16320x4.Slices ![0, 3] S16320x1
  slices_S32x50x5_S32x50x1_0_0_0 : S32x50x5.Slices ![0, 0, 0] S32x50x1
  shapeCasts_S32x50x1_S32x50 : S32x50x1.ShapeCasts S32x50
  bcast_S32x50_S32x50x1_0_1 : S32x50.BroadcastsInDim S32x50x1 (![0, 1] : Fin 2 → Fin S32x50x1.rank)
  slices_S32x50x5_S32x50x1_0_0_1 : S32x50x5.Slices ![0, 0, 1] S32x50x1
  slices_S32x50x5_S32x50x1_0_0_2 : S32x50x5.Slices ![0, 0, 2] S32x50x1
  slices_S32x50x5_S32x50x1_0_0_3 : S32x50x5.Slices ![0, 0, 3] S32x50x1
  bcast_S16320_S1x1x16320_2 : S16320.BroadcastsInDim S1x1x16320 (![2] : Fin 1 → Fin S1x1x16320.rank)
  bcast_S1x1x16320_S32x50x16320_0_1_2 : S1x1x16320.BroadcastsInDim S32x50x16320 (![0, 1, 2] : Fin 3 → Fin S32x50x16320.rank)
  bcast_S32x50x1_S32x50x16320_0_1_2 : S32x50x1.BroadcastsInDim S32x50x16320 (![0, 1, 2] : Fin 3 → Fin S32x50x16320.rank)
  bcast_S_S32x50x16320 : S_.BroadcastsInDim S32x50x16320 (![] : Fin 0 → Fin S32x50x16320.rank)
  reducesTo_S32x50x16320_S32x50_d2 : S32x50x16320.ReducesTo [2] S32x50
  h_S_ : 0 < S_.numel
  reducesTo_S32x50x16320_S32x16320_d1 : S32x50x16320.ReducesTo [1] S32x16320
  bcast_S32x16320_S32x1x16320_0_2 : S32x16320.BroadcastsInDim S32x1x16320 (![0, 2] : Fin 2 → Fin S32x1x16320.rank)
  bcast_S32x1x16320_S32x50x16320_0_1_2 : S32x1x16320.BroadcastsInDim S32x50x16320 (![0, 1, 2] : Fin 3 → Fin S32x50x16320.rank)
  bcast_S50_S1x50x1_1 : S50.BroadcastsInDim S1x50x1 (![1] : Fin 1 → Fin S1x50x1.rank)
  bcast_S1x50x1_S32x50x16320_0_1_2 : S1x50x1.BroadcastsInDim S32x50x16320 (![0, 1, 2] : Fin 3 → Fin S32x50x16320.rank)
  bcast_S_S32x16320 : S_.BroadcastsInDim S32x16320 (![] : Fin 0 → Fin S32x16320.rank)
  bcast_S32x16320_S32x16320x1_0_1 : S32x16320.BroadcastsInDim S32x16320x1 (![0, 1] : Fin 2 → Fin S32x16320x1.rank)
  bcast_S_S32x16320x1 : S_.BroadcastsInDim S32x16320x1 (![] : Fin 0 → Fin S32x16320x1.rank)
  slices_S32x16320x5_S32x16320x1_0_0_4 : S32x16320x5.Slices ![0, 0, 4] S32x16320x1
  shapeCasts_S32x16320x1_S32x16320 : S32x16320x1.ShapeCasts S32x16320
  reducesTo_S32x16320x21_S32x16320_d2 : S32x16320x21.ReducesTo [2] S32x16320
  bcast_S32x16320x1_S32x16320x21_0_1_2 : S32x16320x1.BroadcastsInDim S32x16320x21 (![0, 1, 2] : Fin 3 → Fin S32x16320x21.rank)
  shapeCasts_S32x16320x1_S32x16320x1x1 : S32x16320x1.ShapeCasts S32x16320x1x1
  natLt_1_32 : 1 < 32
  reducesTo_S32x16320_S32_d1 : S32x16320.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x16320_0_1 : S32x1.BroadcastsInDim S32x16320 (![0, 1] : Fin 2 → Fin S32x16320.rank)
  bcast_S_S32 : S_.BroadcastsInDim S32 (![] : Fin 0 → Fin S32.rank)
  reducesTo_S32_S_d0 : S32.ReducesTo [0] S_
  bcast_S_S32x16320x21 : S_.BroadcastsInDim S32x16320x21 (![] : Fin 0 → Fin S32x16320x21.rank)
  reducesTo_S32x16320x21_S_d0_1_2 : S32x16320x21.ReducesTo [0, 1, 2] S_
  slices_S32x50x5_S32x50x1_0_0_4 : S32x50x5.Slices ![0, 0, 4] S32x50x1
  reducesTo_S32x50_S_d0_1 : S32x50.ReducesTo [0, 1] S_
  gather_S32x50x5_S32x16320x1_S32x16320x5_2_1_0_0_1_2_115_wf : GatherDims.WF S32x50x5 S32x16320x1 S32x16320x5 [2] [1] [0] [1] [0] 2 ![1, 1, 5]
  gather_S32x16320x21_S32x16320x1x1_S32x16320x1_n_2_01_01_2_3_111_wf : GatherDims.WF S32x16320x21 S32x16320x1x1 S32x16320x1 [] [2] [0, 1] [2] [0, 1] 3 ![1, 1, 1]

variable [Facts]

variable {F : FTy → Type} [FloatOps F]
def gather_S32x50x5_S32x16320x1_S32x16320x5_2_1_0_0_1_2_115 : GatherDims S32x50x5 S32x16320x1 S32x16320x5 where
  offsetDims := [2]
  collapsedSliceDims := [1]
  operandBatchingDims := [0]
  startIndicesBatchingDims := [0]
  startIndexMap := [1]
  indexVectorDim := 2
  sliceSizes := ![1, 1, 5]
  wf := gather_S32x50x5_S32x16320x1_S32x16320x5_2_1_0_0_1_2_115_wf
def gather_S32x16320x21_S32x16320x1x1_S32x16320x1_n_2_01_01_2_3_111 : GatherDims S32x16320x21 S32x16320x1x1 S32x16320x1 where
  offsetDims := []
  collapsedSliceDims := [2]
  operandBatchingDims := [0, 1]
  startIndicesBatchingDims := [0, 1]
  startIndexMap := [2]
  indexVectorDim := 3
  sliceSizes := ![1, 1, 1]
  wf := gather_S32x16320x21_S32x16320x1x1_S32x16320x1_n_2_01_01_2_3_111_wf
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def comparator_i32_i32_d1 : BitVec 32 × BitVec 32 → BitVec 32 × BitVec 32 → BitVec 1 :=
  fun l r =>
    let v2 := IntOp.cmpi .slt l.1 r.1
    v2

def fn_where {F : FTy → Type} [FloatOps F] (arg0 : IVec S32x50x16320 1) (arg1 : IVec S32x50x16320 32) (arg2 : IVec S_ 32) : IVec S32x50x16320 32 :=
  let v0 : IVec S_ 32 := id arg2
  let v1 : IVec S32x50x16320 32 := broadcastInDim S32x50x16320 ![] bcast_S_S32x50x16320 v0
  let v2 : IVec S32x50x16320 32 := select arg0 arg1 v1
  v2

def fn_where_0 {F : FTy → Type} [FloatOps F] (arg0 : IVec S32x50x16320 1) (arg1 : IVec S1x50x1 32) (arg2 : IVec S_ 32) : IVec S32x50x16320 32 :=
  let v0 : IVec S_ 32 := id arg2
  let v1 : IVec S32x50x16320 32 := broadcastInDim S32x50x16320 ![0, 1, 2] bcast_S1x50x1_S32x50x16320_0_1_2 arg1
  let v2 : IVec S32x50x16320 32 := broadcastInDim S32x50x16320 ![] bcast_S_S32x50x16320 v0
  let v3 : IVec S32x50x16320 32 := select arg0 v1 v2
  v3

def fn_where_1 {F : FTy → Type} [FloatOps F] (arg0 : IVec S32x16320 1) (arg1 : FVec F S_ .f32) (arg2 : FVec F S32x16320 .f32) : FVec F S32x16320 .f32 :=
  let v0 : FVec F S_ .f32 := id arg1
  let v1 : FVec F S32x16320 .f32 := broadcastInDim S32x16320 ![] bcast_S_S32x16320 v0
  let v2 : FVec F S32x16320 .f32 := select arg0 v1 arg2
  v2

def fn_where_2 {F : FTy → Type} [FloatOps F] (arg0 : IVec S32x16320 1) (arg1 : IVec S32x16320 32) (arg2 : IVec S32x16320 32) : IVec S32x16320 32 :=
  let v0 : IVec S32x16320 32 := select arg0 arg1 arg2
  v0

def fn_take_along_axis {F : FTy → Type} [FloatOps F] (arg0 : FVec F S32x50x5 .f32) (arg1 : IVec S32x16320x1 32) : FVec F S32x16320x5 .f32 :=
  let c : IVec S_ 32 := constantI S_ 32 0#32
  let v0 : IVec S32x16320x1 32 := broadcastInDim S32x16320x1 ![] bcast_S_S32x16320x1 c
  let v1 : IVec S32x16320x1 1 := cmpi .slt arg1 v0
  let c_0 : IVec S_ 32 := constantI S_ 32 50#32
  let v2 : IVec S32x16320x1 32 := broadcastInDim S32x16320x1 ![] bcast_S_S32x16320x1 c_0
  let v3 : IVec S32x16320x1 32 := addi arg1 v2
  let v4 : IVec S32x16320x1 32 := select v1 v3 arg1
  let v5 : FVec F S32x16320x5 .f32 := (fun x i => Host.gather gather_S32x50x5_S32x16320x1_S32x16320x5_2_1_0_0_1_2_115 x i) arg0 v4
  v5

def fn_where_3 {F : FTy → Type} [FloatOps F] (arg0 : IVec S32x16320 1) (arg1 : IVec S_ 32) (arg2 : IVec S32x16320 32) : IVec S32x16320 32 :=
  let v0 : IVec S_ 32 := id arg1
  let v1 : IVec S32x16320 32 := broadcastInDim S32x16320 ![] bcast_S_S32x16320 v0
  let v2 : IVec S32x16320 32 := select arg0 v1 arg2
  v2

def fn_take_along_axis_4 {F : FTy → Type} [FloatOps F] (arg0 : FVec F S32x16320x21 .f32) (arg1 : IVec S32x16320x1 32) : FVec F S32x16320x1 .f32 :=
  let c : IVec S_ 32 := constantI S_ 32 0#32
  let v0 : IVec S32x16320x1 32 := broadcastInDim S32x16320x1 ![] bcast_S_S32x16320x1 c
  let v1 : IVec S32x16320x1 1 := cmpi .slt arg1 v0
  let c_0 : IVec S_ 32 := constantI S_ 32 21#32
  let v2 : IVec S32x16320x1 32 := broadcastInDim S32x16320x1 ![] bcast_S_S32x16320x1 c_0
  let v3 : IVec S32x16320x1 32 := addi arg1 v2
  let v4 : IVec S32x16320x1 32 := select v1 v3 arg1
  let v5 : IVec S32x16320x1x1 32 := shapeCast S32x16320x1x1 v4 shapeCasts_S32x16320x1_S32x16320x1x1
  let v6 : FVec F S32x16320x1 .f32 := (fun x i => Host.gather gather_S32x16320x21_S32x16320x1x1_S32x16320x1_n_2_01_01_2_3_111 x i) arg0 v5
  v6

def fn_argsort {F : FTy → Type} [FloatOps F] (arg0 : FVec F S32x16320 .f32) : IVec S32x16320 32 :=
  let v0 : IVec S32x16320 32 := iotaInDim S32x16320 32 1
  let v1_0 : FVec F S32x16320 .f32 := (fun x y => (Host.sort2 S32x16320 1 comparator_f32_i32_d1 x y).1) arg0 v0
  let v1_1 : IVec S32x16320 32 := (fun x y => (Host.sort2 S32x16320 1 comparator_f32_i32_d1 x y).2) arg0 v0
  v1_1

def fn_argsort_5 {F : FTy → Type} [FloatOps F] (arg0 : IVec S32x16320 32) : IVec S32x16320 32 :=
  let v0 : IVec S32x16320 32 := iotaInDim S32x16320 32 1
  let v1_0 : IVec S32x16320 32 := (fun x y => (Host.sort2 S32x16320 1 comparator_i32_i32_d1 x y).1) arg0 v0
  let v1_1 : IVec S32x16320 32 := (fun x y => (Host.sort2 S32x16320 1 comparator_i32_i32_d1 x y).2) arg0 v0
  v1_1

def fn_where_6 {F : FTy → Type} [FloatOps F] (arg0 : IVec S32x16320 1) (arg1 : FVec F S32x16320 .f32) (arg2 : FVec F S_ .f32) : FVec F S32x16320 .f32 :=
  let v0 : FVec F S_ .f32 := id arg2
  let v1 : FVec F S32x16320 .f32 := broadcastInDim S32x16320 ![] bcast_S_S32x16320 v0
  let v2 : FVec F S32x16320 .f32 := select arg0 arg1 v1
  v2

def fn_part8 {F : FTy → Type} [FloatOps F] (main_arg5 : FVec F S32x50x5 .f32) (main_v155 : IVec S_ 1) (main_v156 : FVec F S32x16320x21 .f32) : IVec S_ 1 × IVec S_ 1 :=
  let main_cst_33 : FVec F S_ .f32 := constant S_ .f32 0x7F800000#32
  let main_v157 : FVec F S32x16320x21 .f32 := broadcastInDim S32x16320x21 ![] bcast_S_S32x16320x21 main_cst_33
  let main_v158 : IVec S32x16320x21 1 := cmpf .olt main_v156 main_v157
  let main_c_34 : IVec S_ 1 := constantI S_ 1 1#1
  let main_v159 : IVec S_ 1 := (fun x v => Host.reduce IntOp.andi x v reducesTo_S32x16320x21_S_d0_1_2 h_S_) main_v158 main_c_34
  let main_v160 : FVec F S32x50x1 .f32 := (extractStridedSlice S32x50x1 ![0, 0, 4] · slices_S32x50x5_S32x50x1_0_0_4) main_arg5
  let main_v161 : FVec F S32x50 .f32 := shapeCast S32x50 main_v160 shapeCasts_S32x50x1_S32x50
  let main_v162 : IVec S_ 1 := andi main_v155 main_v159
  let main_v163 : FVec F S32x50 .f32 := Host.floor main_v161
  let main_v164 : IVec S32x50 1 := cmpf .oeq main_v161 main_v163
  let main_c_35 : IVec S_ 1 := constantI S_ 1 1#1
  let main_v165 : IVec S_ 1 := (fun x v => Host.reduce IntOp.andi x v reducesTo_S32x50_S_d0_1 h_S_) main_v164 main_c_35
  let main_v166 : IVec S_ 1 := andi main_v162 main_v165
  let main_c_36 : IVec S_ 1 := constantI S_ 1 1#1
  (main_c_36, main_v166)

def fn_part7 {F : FTy → Type} [FloatOps F] (main_arg1 : FVec F S32x16320x21 .f32) (main_arg5 : FVec F S32x50x5 .f32) (main_v133 : FVec F S32x16320 .f32) (main_v136 : IVec S32x16320 32) (main_v139 : IVec S32x1 32) (main_v140 : IVec S32x1 32) : IVec S_ 1 × IVec S_ 1 :=
  let main_v141 : IVec S32x1 32 := muli main_v140 main_v139
  let main_c_25 : IVec S_ 32 := constantI S_ 32 16319#32
  let main_v142 : IVec S32x1 32 := broadcastInDim S32x1 ![] bcast_S_S32x1 main_c_25
  let main_v143 : IVec S32x1 32 := minsi main_v141 main_v142
  let main_v144 : IVec S32x16320 32 := broadcastInDim S32x16320 ![0, 1] bcast_S32x1_S32x16320_0_1 main_v143
  let main_v145 : IVec S32x16320 1 := cmpi .slt main_v136 main_v144
  let main_cst_26 : FVec F S_ .f32 := constant S_ .f32 0x7F800000#32
  let main_v146 : FVec F S32x16320 .f32 := fn_where_6 (F := F) main_v145 main_v133 main_cst_26
  let main_cst_27 : FVec F S_ .f32 := constant S_ .f32 0x7F800000#32
  let main_v147 : FVec F S32 .f32 := (fun x v => Host.reduce FloatOps.minimumf x v reducesTo_S32x16320_S32_d1 h_S_) main_v146 main_cst_27
  let main_cst_28 : FVec F S_ .f32 := constant S_ .f32 0xFF800000#32
  let main_v148 : FVec F S32x16320 .f32 := fn_where_1 (F := F) main_v145 main_cst_28 main_v133
  let main_cst_29 : FVec F S_ .f32 := constant S_ .f32 0xFF800000#32
  let main_v149 : FVec F S32 .f32 := (fun x v => Host.reduce FloatOps.maximumf x v reducesTo_S32x16320_S32_d1 h_S_) main_v148 main_cst_29
  let main_v150 : FVec F S32 .f32 := subf main_v147 main_v149
  let main_cst_30 : FVec F S_ .f32 := constant S_ .f32 0xFF800000#32
  let main_v151 : FVec F S32 .f32 := (fun x v => Host.reduce FloatOps.maximumf x v reducesTo_S32x16320_S32_d1 h_S_) main_v133 main_cst_30
  let main_cst_31 : FVec F S_ .f32 := constant S_ .f32 0x47800000#32
  let main_v152 : FVec F S32 .f32 := broadcastInDim S32 ![] bcast_S_S32 main_cst_31
  let main_v153 : FVec F S32 .f32 := Host.divf main_v151 main_v152
  let main_v154 : IVec S32 1 := cmpf .oge main_v150 main_v153
  let main_c_32 : IVec S_ 1 := constantI S_ 1 1#1
  let main_v155 : IVec S_ 1 := (fun x v => Host.reduce IntOp.andi x v reducesTo_S32_S_d0 h_S_) main_v154 main_c_32
  let main_v156 : FVec F S32x16320x21 .f32 := Host.absf main_arg1
  fn_part8 (F := F) main_arg5 main_v155 main_v156

def fn_part6 {F : FTy → Type} [FloatOps F] (main_arg1 : FVec F S32x16320x21 .f32) (main_arg5 : FVec F S32x50x5 .f32) (main_v115 : IVec S32x16320 32) (main_v117 : IVec S32x16320 1) (main_v119 : FVec F S32x16320x1 .f32) (main_v120 : FVec F S32x16320x21 .f32) : IVec S_ 1 × IVec S_ 1 :=
  let main_v121 : FVec F S32x16320x21 .f32 := subf main_arg1 main_v120
  let main_v122 : FVec F S32x16320x21 .f32 := Host.exp main_v121
  let main_cst_21 : FVec F S_ .f32 := constant S_ .f32 0x00000000#32
  let main_v123 : FVec F S32x16320 .f32 := (fun x v => Host.reduceAdd x v reducesTo_S32x16320x21_S32x16320_d2 h_S_) main_v122 main_cst_21
  let main_v124 : FVec F S32x16320x1 .f32 := broadcastInDim S32x16320x1 ![0, 1] bcast_S32x16320_S32x16320x1_0_1 main_v123
  let main_v125 : FVec F S32x16320x1 .f32 := Host.log main_v124
  let main_v126 : FVec F S32x16320x1 .f32 := addf main_v119 main_v125
  let main_v127 : FVec F S32x16320x21 .f32 := broadcastInDim S32x16320x21 ![0, 1, 2] bcast_S32x16320x1_S32x16320x21_0_1_2 main_v126
  let main_v128 : FVec F S32x16320x21 .f32 := subf main_arg1 main_v127
  let main_v129 : IVec S32x16320x1 32 := broadcastInDim S32x16320x1 ![0, 1] bcast_S32x16320_S32x16320x1_0_1 main_v115
  let main_v130 : FVec F S32x16320x1 .f32 := fn_take_along_axis_4 (F := F) main_v128 main_v129
  let main_v131 : FVec F S32x16320 .f32 := shapeCast S32x16320 main_v130 shapeCasts_S32x16320x1_S32x16320
  let main_v132 : FVec F S32x16320 .f32 := Host.negf main_v131
  let main_cst_22 : FVec F S_ .f32 := constant S_ .f32 0x00000000#32
  let main_v133 : FVec F S32x16320 .f32 := fn_where_1 (F := F) main_v117 main_cst_22 main_v132
  let main_v134 : FVec F S32x16320 .f32 := Host.negf main_v133
  let main_v135 : IVec S32x16320 32 := fn_argsort (F := F) main_v134
  let main_v136 : IVec S32x16320 32 := fn_argsort_5 (F := F) main_v135
  let main_v137 : IVec S32x16320 32 := (extui 32 · natLt_1_32) main_v117
  let main_c_23 : IVec S_ 32 := constantI S_ 32 0#32
  let main_v138 : IVec S32 32 := (fun x v => Host.reduce IntOp.addi x v reducesTo_S32x16320_S32_d1 h_S_) main_v137 main_c_23
  let main_v139 : IVec S32x1 32 := broadcastInDim S32x1 ![0] bcast_S32_S32x1_0 main_v138
  let main_c_24 : IVec S_ 32 := constantI S_ 32 3#32
  let main_v140 : IVec S32x1 32 := broadcastInDim S32x1 ![] bcast_S_S32x1 main_c_24
  fn_part7 (F := F) main_arg1 main_arg5 main_v133 main_v136 main_v139 main_v140

def fn_part5 {F : FTy → Type} [FloatOps F] (main_arg1 : FVec F S32x16320x21 .f32) (main_arg5 : FVec F S32x50x5 .f32) (main_v89 : IVec S32x16320 32) (main_v99 : IVec S32x16320 32) (main_v102 : FVec F S32x16320 .f32) : IVec S_ 1 × IVec S_ 1 :=
  let main_c_15 : IVec S_ 32 := constantI S_ 32 0#32
  let main_v103 : IVec S32x16320 32 := broadcastInDim S32x16320 ![] bcast_S_S32x16320 main_c_15
  let main_v104 : IVec S32x16320 1 := cmpi .sge main_v99 main_v103
  let main_v105 : IVec S32x16320 32 := fn_where_2 (F := F) main_v104 main_v99 main_v89
  let main_v106 : IVec S32x16320x1 32 := broadcastInDim S32x16320x1 ![0, 1] bcast_S32x16320_S32x16320x1_0_1 main_v105
  let main_v107 : FVec F S32x16320x5 .f32 := fn_take_along_axis (F := F) main_arg5 main_v106
  let main_cst_16 : FVec F S_ .f32 := constant S_ .f32 0x3F000000#32
  let main_v108 : FVec F S32x16320 .f32 := broadcastInDim S32x16320 ![] bcast_S_S32x16320 main_cst_16
  let main_v109 : IVec S32x16320 1 := cmpf .olt main_v102 main_v108
  let main_v110 : FVec F S32x16320x1 .f32 := (extractStridedSlice S32x16320x1 ![0, 0, 4] · slices_S32x16320x5_S32x16320x1_0_0_4) main_v107
  let main_v111 : FVec F S32x16320 .f32 := shapeCast S32x16320 main_v110 shapeCasts_S32x16320x1_S32x16320
  let main_v112 : IVec S32x16320 32 := fptosi 32 main_v111
  let main_c_17 : IVec S_ 32 := constantI S_ 32 1#32
  let main_v113 : IVec S32x16320 32 := broadcastInDim S32x16320 ![] bcast_S_S32x16320 main_c_17
  let main_v114 : IVec S32x16320 32 := addi main_v112 main_v113
  let main_c_18 : IVec S_ 32 := constantI S_ 32 0#32
  let main_v115 : IVec S32x16320 32 := fn_where_3 (F := F) main_v109 main_c_18 main_v114
  let main_c_19 : IVec S_ 32 := constantI S_ 32 0#32
  let main_v116 : IVec S32x16320 32 := broadcastInDim S32x16320 ![] bcast_S_S32x16320 main_c_19
  let main_v117 : IVec S32x16320 1 := cmpi .sgt main_v115 main_v116
  let main_cst_20 : FVec F S_ .f32 := constant S_ .f32 0xFF800000#32
  let main_v118 : FVec F S32x16320 .f32 := (fun x v => Host.reduce FloatOps.maximumf x v reducesTo_S32x16320x21_S32x16320_d2 h_S_) main_arg1 main_cst_20
  let main_v119 : FVec F S32x16320x1 .f32 := broadcastInDim S32x16320x1 ![0, 1] bcast_S32x16320_S32x16320x1_0_1 main_v118
  let main_v120 : FVec F S32x16320x21 .f32 := broadcastInDim S32x16320x21 ![0, 1, 2] bcast_S32x16320x1_S32x16320x21_0_1_2 main_v119
  fn_part6 (F := F) main_arg1 main_arg5 main_v115 main_v117 main_v119 main_v120

def fn_part4 {F : FTy → Type} [FloatOps F] (main_arg1 : FVec F S32x16320x21 .f32) (main_arg5 : FVec F S32x50x5 .f32) (main_v74 : FVec F S32x50x16320 .f32) (main_v81 : IVec S32x50 32) (main_v82 : FVec F S32x16320 .f32) (main_v83 : IVec S32x50x16320 32) (main_v84 : FVec F S32x16320 .f32) : IVec S_ 1 × IVec S_ 1 :=
  let main_v85 : FVec F S32x1x16320 .f32 := broadcastInDim S32x1x16320 ![0, 2] bcast_S32x16320_S32x1x16320_0_2 main_v84
  let main_v86 : FVec F S32x50x16320 .f32 := broadcastInDim S32x50x16320 ![0, 1, 2] bcast_S32x1x16320_S32x50x16320_0_1_2 main_v85
  let main_v87 : IVec S32x50x16320 1 := cmpf .oeq main_v74 main_v86
  let main_c_9 : IVec S_ 32 := constantI S_ 32 50#32
  let main_v88 : IVec S32x50x16320 32 := fn_where (F := F) main_v87 main_v83 main_c_9
  let main_c_10 : IVec S_ 32 := constantI S_ 32 2147483647#32
  let main_v89 : IVec S32x16320 32 := (fun x v => Host.reduce IntOp.minsi x v reducesTo_S32x50x16320_S32x16320_d1 h_S_) main_v88 main_c_10
  let main_v90 : IVec S32x50x1 32 := broadcastInDim S32x50x1 ![0, 1] bcast_S32x50_S32x50x1_0_1 main_v81
  let main_v91 : IVec S16320 32 := iotaInDim S16320 32 0
  let main_v92 : IVec S1x1x16320 32 := broadcastInDim S1x1x16320 ![2] bcast_S16320_S1x1x16320_2 main_v91
  let main_v93 : IVec S32x50x16320 32 := broadcastInDim S32x50x16320 ![0, 1, 2] bcast_S32x50x1_S32x50x16320_0_1_2 main_v90
  let main_v94 : IVec S32x50x16320 32 := broadcastInDim S32x50x16320 ![0, 1, 2] bcast_S1x1x16320_S32x50x16320_0_1_2 main_v92
  let main_v95 : IVec S32x50x16320 1 := cmpi .eq main_v93 main_v94
  let main_v96 : IVec S50 32 := iotaInDim S50 32 0
  let main_v97 : IVec S1x50x1 32 := broadcastInDim S1x50x1 ![1] bcast_S50_S1x50x1_1 main_v96
  let main_c_11 : IVec S_ 32 := constantI S_ 32 4294967295#32
  let main_v98 : IVec S32x50x16320 32 := fn_where_0 (F := F) main_v95 main_v97 main_c_11
  let main_c_12 : IVec S_ 32 := constantI S_ 32 2147483648#32
  let main_v99 : IVec S32x16320 32 := (fun x v => Host.reduce IntOp.maxsi x v reducesTo_S32x50x16320_S32x16320_d1 h_S_) main_v98 main_c_12
  let main_c_13 : IVec S_ 32 := constantI S_ 32 0#32
  let main_v100 : IVec S32x16320 32 := broadcastInDim S32x16320 ![] bcast_S_S32x16320 main_c_13
  let main_v101 : IVec S32x16320 1 := cmpi .sge main_v99 main_v100
  let main_cst_14 : FVec F S_ .f32 := constant S_ .f32 0x40000000#32
  let main_v102 : FVec F S32x16320 .f32 := fn_where_1 (F := F) main_v101 main_cst_14 main_v82
  fn_part5 (F := F) main_arg1 main_arg5 main_v89 main_v99 main_v102

def fn_part3 {F : FTy → Type} [FloatOps F] (main_arg1 : FVec F S32x16320x21 .f32) (main_arg5 : FVec F S32x50x5 .f32) (main_v6 : FVec F S16320 .f32) (main_v13 : FVec F S16320 .f32) (main_v20 : FVec F S16320 .f32) (main_v27 : FVec F S16320 .f32) (main_v62 : FVec F S32x50x16320 .f32) (main_v65 : FVec F S32x50x1 .f32) : IVec S_ 1 × IVec S_ 1 :=
  let main_v66 : FVec F S16320 .f32 := subf main_v20 main_v6
  let main_v67 : FVec F S16320 .f32 := subf main_v27 main_v13
  let main_v68 : FVec F S16320 .f32 := mulf main_v66 main_v67
  let main_v69 : FVec F S1x1x16320 .f32 := broadcastInDim S1x1x16320 ![2] bcast_S16320_S1x1x16320_2 main_v68
  let main_v70 : FVec F S32x50x16320 .f32 := broadcastInDim S32x50x16320 ![0, 1, 2] bcast_S32x50x1_S32x50x16320_0_1_2 main_v65
  let main_v71 : FVec F S32x50x16320 .f32 := broadcastInDim S32x50x16320 ![0, 1, 2] bcast_S1x1x16320_S32x50x16320_0_1_2 main_v69
  let main_v72 : FVec F S32x50x16320 .f32 := addf main_v70 main_v71
  let main_v73 : FVec F S32x50x16320 .f32 := subf main_v72 main_v62
  let main_v74 : FVec F S32x50x16320 .f32 := Host.divf main_v62 main_v73
  let main_v75 : IVec S32x50x16320 32 := iotaInDim S32x50x16320 32 2
  let main_cst_5 : FVec F S_ .f32 := constant S_ .f32 0xFF800000#32
  let main_v76 : FVec F S32x50 .f32 := (fun x v => Host.reduce FloatOps.maximumf x v reducesTo_S32x50x16320_S32x50_d2 h_S_) main_v74 main_cst_5
  let main_v77 : FVec F S32x50x1 .f32 := broadcastInDim S32x50x1 ![0, 1] bcast_S32x50_S32x50x1_0_1 main_v76
  let main_v78 : FVec F S32x50x16320 .f32 := broadcastInDim S32x50x16320 ![0, 1, 2] bcast_S32x50x1_S32x50x16320_0_1_2 main_v77
  let main_v79 : IVec S32x50x16320 1 := cmpf .oeq main_v74 main_v78
  let main_c : IVec S_ 32 := constantI S_ 32 16320#32
  let main_v80 : IVec S32x50x16320 32 := fn_where (F := F) main_v79 main_v75 main_c
  let main_c_6 : IVec S_ 32 := constantI S_ 32 2147483647#32
  let main_v81 : IVec S32x50 32 := (fun x v => Host.reduce IntOp.minsi x v reducesTo_S32x50x16320_S32x50_d2 h_S_) main_v80 main_c_6
  let main_cst_7 : FVec F S_ .f32 := constant S_ .f32 0xFF800000#32
  let main_v82 : FVec F S32x16320 .f32 := (fun x v => Host.reduce FloatOps.maximumf x v reducesTo_S32x50x16320_S32x16320_d1 h_S_) main_v74 main_cst_7
  let main_v83 : IVec S32x50x16320 32 := iotaInDim S32x50x16320 32 1
  let main_cst_8 : FVec F S_ .f32 := constant S_ .f32 0xFF800000#32
  let main_v84 : FVec F S32x16320 .f32 := (fun x v => Host.reduce FloatOps.maximumf x v reducesTo_S32x50x16320_S32x16320_d1 h_S_) main_v74 main_cst_8
  fn_part4 (F := F) main_arg1 main_arg5 main_v74 main_v81 main_v82 main_v83 main_v84

def fn_part2 {F : FTy → Type} [FloatOps F] (main_arg1 : FVec F S32x16320x21 .f32) (main_arg5 : FVec F S32x50x5 .f32) (main_v6 : FVec F S16320 .f32) (main_v13 : FVec F S16320 .f32) (main_v20 : FVec F S16320 .f32) (main_v27 : FVec F S16320 .f32) (main_v30 : FVec F S32x50x1 .f32) (main_v33 : FVec F S32x50x1 .f32) (main_v36 : FVec F S32x50x1 .f32) (main_v39 : FVec F S32x50x1 .f32) (main_v43 : FVec F S32x50x16320 .f32) : IVec S_ 1 × IVec S_ 1 :=
  let main_v44 : FVec F S1x1x16320 .f32 := broadcastInDim S1x1x16320 ![2] bcast_S16320_S1x1x16320_2 main_v6
  let main_v45 : FVec F S32x50x16320 .f32 := broadcastInDim S32x50x16320 ![0, 1, 2] bcast_S1x1x16320_S32x50x16320_0_1_2 main_v44
  let main_v46 : FVec F S32x50x16320 .f32 := broadcastInDim S32x50x16320 ![0, 1, 2] bcast_S32x50x1_S32x50x16320_0_1_2 main_v30
  let main_v47 : FVec F S32x50x16320 .f32 := maximumf main_v45 main_v46
  let main_v48 : FVec F S32x50x16320 .f32 := subf main_v43 main_v47
  let main_cst_3 : FVec F S_ .f32 := constant S_ .f32 0x00000000#32
  let main_v49 : FVec F S32x50x16320 .f32 := broadcastInDim S32x50x16320 ![] bcast_S_S32x50x16320 main_cst_3
  let main_v50 : FVec F S32x50x16320 .f32 := maximumf main_v48 main_v49
  let main_v51 : FVec F S1x1x16320 .f32 := broadcastInDim S1x1x16320 ![2] bcast_S16320_S1x1x16320_2 main_v27
  let main_v52 : FVec F S32x50x16320 .f32 := broadcastInDim S32x50x16320 ![0, 1, 2] bcast_S1x1x16320_S32x50x16320_0_1_2 main_v51
  let main_v53 : FVec F S32x50x16320 .f32 := broadcastInDim S32x50x16320 ![0, 1, 2] bcast_S32x50x1_S32x50x16320_0_1_2 main_v39
  let main_v54 : FVec F S32x50x16320 .f32 := minimumf main_v52 main_v53
  let main_v55 : FVec F S1x1x16320 .f32 := broadcastInDim S1x1x16320 ![2] bcast_S16320_S1x1x16320_2 main_v13
  let main_v56 : FVec F S32x50x16320 .f32 := broadcastInDim S32x50x16320 ![0, 1, 2] bcast_S1x1x16320_S32x50x16320_0_1_2 main_v55
  let main_v57 : FVec F S32x50x16320 .f32 := broadcastInDim S32x50x16320 ![0, 1, 2] bcast_S32x50x1_S32x50x16320_0_1_2 main_v33
  let main_v58 : FVec F S32x50x16320 .f32 := maximumf main_v56 main_v57
  let main_v59 : FVec F S32x50x16320 .f32 := subf main_v54 main_v58
  let main_cst_4 : FVec F S_ .f32 := constant S_ .f32 0x00000000#32
  let main_v60 : FVec F S32x50x16320 .f32 := broadcastInDim S32x50x16320 ![] bcast_S_S32x50x16320 main_cst_4
  let main_v61 : FVec F S32x50x16320 .f32 := maximumf main_v59 main_v60
  let main_v62 : FVec F S32x50x16320 .f32 := mulf main_v50 main_v61
  let main_v63 : FVec F S32x50x1 .f32 := subf main_v36 main_v30
  let main_v64 : FVec F S32x50x1 .f32 := subf main_v39 main_v33
  let main_v65 : FVec F S32x50x1 .f32 := mulf main_v63 main_v64
  fn_part3 (F := F) main_arg1 main_arg5 main_v6 main_v13 main_v20 main_v27 main_v62 main_v65

def fn_part1 {F : FTy → Type} [FloatOps F] (main_arg1 : FVec F S32x16320x21 .f32) (main_arg4 : FVec F S16320x4 .f32) (main_arg5 : FVec F S32x50x5 .f32) (main_v6 : FVec F S16320 .f32) (main_v13 : FVec F S16320 .f32) (main_v20 : FVec F S16320 .f32) : IVec S_ 1 × IVec S_ 1 :=
  let main_v21 : FVec F S16320x1 .f32 := (extractStridedSlice S16320x1 ![0, 1] · slices_S16320x4_S16320x1_0_1) main_arg4
  let main_v22 : FVec F S16320 .f32 := shapeCast S16320 main_v21 shapeCasts_S16320x1_S16320
  let main_v23 : FVec F S16320x1 .f32 := (extractStridedSlice S16320x1 ![0, 3] · slices_S16320x4_S16320x1_0_3) main_arg4
  let main_v24 : FVec F S16320 .f32 := shapeCast S16320 main_v23 shapeCasts_S16320x1_S16320
  let main_cst_2 : FVec F S_ .f32 := constant S_ .f32 0x40000000#32
  let main_v25 : FVec F S16320 .f32 := broadcastInDim S16320 ![] bcast_S_S16320 main_cst_2
  let main_v26 : FVec F S16320 .f32 := Host.divf main_v24 main_v25
  let main_v27 : FVec F S16320 .f32 := addf main_v22 main_v26
  let main_v28 : FVec F S32x50x1 .f32 := (extractStridedSlice S32x50x1 ![0, 0, 0] · slices_S32x50x5_S32x50x1_0_0_0) main_arg5
  let main_v29 : FVec F S32x50 .f32 := shapeCast S32x50 main_v28 shapeCasts_S32x50x1_S32x50
  let main_v30 : FVec F S32x50x1 .f32 := broadcastInDim S32x50x1 ![0, 1] bcast_S32x50_S32x50x1_0_1 main_v29
  let main_v31 : FVec F S32x50x1 .f32 := (extractStridedSlice S32x50x1 ![0, 0, 1] · slices_S32x50x5_S32x50x1_0_0_1) main_arg5
  let main_v32 : FVec F S32x50 .f32 := shapeCast S32x50 main_v31 shapeCasts_S32x50x1_S32x50
  let main_v33 : FVec F S32x50x1 .f32 := broadcastInDim S32x50x1 ![0, 1] bcast_S32x50_S32x50x1_0_1 main_v32
  let main_v34 : FVec F S32x50x1 .f32 := (extractStridedSlice S32x50x1 ![0, 0, 2] · slices_S32x50x5_S32x50x1_0_0_2) main_arg5
  let main_v35 : FVec F S32x50 .f32 := shapeCast S32x50 main_v34 shapeCasts_S32x50x1_S32x50
  let main_v36 : FVec F S32x50x1 .f32 := broadcastInDim S32x50x1 ![0, 1] bcast_S32x50_S32x50x1_0_1 main_v35
  let main_v37 : FVec F S32x50x1 .f32 := (extractStridedSlice S32x50x1 ![0, 0, 3] · slices_S32x50x5_S32x50x1_0_0_3) main_arg5
  let main_v38 : FVec F S32x50 .f32 := shapeCast S32x50 main_v37 shapeCasts_S32x50x1_S32x50
  let main_v39 : FVec F S32x50x1 .f32 := broadcastInDim S32x50x1 ![0, 1] bcast_S32x50_S32x50x1_0_1 main_v38
  let main_v40 : FVec F S1x1x16320 .f32 := broadcastInDim S1x1x16320 ![2] bcast_S16320_S1x1x16320_2 main_v20
  let main_v41 : FVec F S32x50x16320 .f32 := broadcastInDim S32x50x16320 ![0, 1, 2] bcast_S1x1x16320_S32x50x16320_0_1_2 main_v40
  let main_v42 : FVec F S32x50x16320 .f32 := broadcastInDim S32x50x16320 ![0, 1, 2] bcast_S32x50x1_S32x50x16320_0_1_2 main_v36
  let main_v43 : FVec F S32x50x16320 .f32 := minimumf main_v41 main_v42
  fn_part2 (F := F) main_arg1 main_arg5 main_v6 main_v13 main_v20 main_v27 main_v30 main_v33 main_v36 main_v39 main_v43

def fn {F : FTy → Type} [FloatOps F] (main_arg0 : FVec F S32x16320x4 .f32) (main_arg1 : FVec F S32x16320x21 .f32) (main_arg2 : FVec F S32x16320x4 .f32) (main_arg3 : FVec F S32x16320x21 .f32) (main_arg4 : FVec F S16320x4 .f32) (main_arg5 : FVec F S32x50x5 .f32) : IVec S_ 1 × IVec S_ 1 :=
  let main_v0 : FVec F S16320x1 .f32 := (extractStridedSlice S16320x1 ![0, 0] · slices_S16320x4_S16320x1_0_0) main_arg4
  let main_v1 : FVec F S16320 .f32 := shapeCast S16320 main_v0 shapeCasts_S16320x1_S16320
  let main_v2 : FVec F S16320x1 .f32 := (extractStridedSlice S16320x1 ![0, 2] · slices_S16320x4_S16320x1_0_2) main_arg4
  let main_v3 : FVec F S16320 .f32 := shapeCast S16320 main_v2 shapeCasts_S16320x1_S16320
  let main_cst : FVec F S_ .f32 := constant S_ .f32 0x40000000#32
  let main_v4 : FVec F S16320 .f32 := broadcastInDim S16320 ![] bcast_S_S16320 main_cst
  let main_v5 : FVec F S16320 .f32 := Host.divf main_v3 main_v4
  let main_v6 : FVec F S16320 .f32 := subf main_v1 main_v5
  let main_v7 : FVec F S16320x1 .f32 := (extractStridedSlice S16320x1 ![0, 1] · slices_S16320x4_S16320x1_0_1) main_arg4
  let main_v8 : FVec F S16320 .f32 := shapeCast S16320 main_v7 shapeCasts_S16320x1_S16320
  let main_v9 : FVec F S16320x1 .f32 := (extractStridedSlice S16320x1 ![0, 3] · slices_S16320x4_S16320x1_0_3) main_arg4
  let main_v10 : FVec F S16320 .f32 := shapeCast S16320 main_v9 shapeCasts_S16320x1_S16320
  let main_cst_0 : FVec F S_ .f32 := constant S_ .f32 0x40000000#32
  let main_v11 : FVec F S16320 .f32 := broadcastInDim S16320 ![] bcast_S_S16320 main_cst_0
  let main_v12 : FVec F S16320 .f32 := Host.divf main_v10 main_v11
  let main_v13 : FVec F S16320 .f32 := subf main_v8 main_v12
  let main_v14 : FVec F S16320x1 .f32 := (extractStridedSlice S16320x1 ![0, 0] · slices_S16320x4_S16320x1_0_0) main_arg4
  let main_v15 : FVec F S16320 .f32 := shapeCast S16320 main_v14 shapeCasts_S16320x1_S16320
  let main_v16 : FVec F S16320x1 .f32 := (extractStridedSlice S16320x1 ![0, 2] · slices_S16320x4_S16320x1_0_2) main_arg4
  let main_v17 : FVec F S16320 .f32 := shapeCast S16320 main_v16 shapeCasts_S16320x1_S16320
  let main_cst_1 : FVec F S_ .f32 := constant S_ .f32 0x40000000#32
  let main_v18 : FVec F S16320 .f32 := broadcastInDim S16320 ![] bcast_S_S16320 main_cst_1
  let main_v19 : FVec F S16320 .f32 := Host.divf main_v17 main_v18
  let main_v20 : FVec F S16320 .f32 := addf main_v15 main_v19
  fn_part1 (F := F) main_arg1 main_arg4 main_arg5 main_v6 main_v13 main_v20
-- ==== Pre_well_posed.lean ====
abbrev S32x16320x4 : Shape := ⟨3, ![32, 16320, 4]⟩
abbrev S32x16320x21 : Shape := ⟨3, ![32, 16320, 21]⟩
abbrev S16320x4 : Shape := ⟨2, ![16320, 4]⟩
abbrev S32x50x5 : Shape := ⟨3, ![32, 50, 5]⟩
abbrev S16320x1 : Shape := ⟨2, ![16320, 1]⟩
abbrev S16320 : Shape := ⟨1, ![16320]⟩
abbrev S_ : Shape := ⟨0, ![]⟩
abbrev S32x50x1 : Shape := ⟨3, ![32, 50, 1]⟩
abbrev S32x50 : Shape := ⟨2, ![32, 50]⟩
abbrev S1x1x16320 : Shape := ⟨3, ![1, 1, 16320]⟩
abbrev S32x50x16320 : Shape := ⟨3, ![32, 50, 16320]⟩
abbrev S32x16320 : Shape := ⟨2, ![32, 16320]⟩
abbrev S32x1x16320 : Shape := ⟨3, ![32, 1, 16320]⟩
abbrev S50 : Shape := ⟨1, ![50]⟩
abbrev S1x50x1 : Shape := ⟨3, ![1, 50, 1]⟩

class Facts : Prop where
  slices_S16320x4_S16320x1_0_0 : S16320x4.Slices ![0, 0] S16320x1
  shapeCasts_S16320x1_S16320 : S16320x1.ShapeCasts S16320
  slices_S16320x4_S16320x1_0_2 : S16320x4.Slices ![0, 2] S16320x1
  bcast_S_S16320 : S_.BroadcastsInDim S16320 (![] : Fin 0 → Fin S16320.rank)
  slices_S16320x4_S16320x1_0_1 : S16320x4.Slices ![0, 1] S16320x1
  slices_S16320x4_S16320x1_0_3 : S16320x4.Slices ![0, 3] S16320x1
  slices_S32x50x5_S32x50x1_0_0_0 : S32x50x5.Slices ![0, 0, 0] S32x50x1
  shapeCasts_S32x50x1_S32x50 : S32x50x1.ShapeCasts S32x50
  bcast_S32x50_S32x50x1_0_1 : S32x50.BroadcastsInDim S32x50x1 (![0, 1] : Fin 2 → Fin S32x50x1.rank)
  slices_S32x50x5_S32x50x1_0_0_1 : S32x50x5.Slices ![0, 0, 1] S32x50x1
  slices_S32x50x5_S32x50x1_0_0_2 : S32x50x5.Slices ![0, 0, 2] S32x50x1
  slices_S32x50x5_S32x50x1_0_0_3 : S32x50x5.Slices ![0, 0, 3] S32x50x1
  bcast_S16320_S1x1x16320_2 : S16320.BroadcastsInDim S1x1x16320 (![2] : Fin 1 → Fin S1x1x16320.rank)
  bcast_S1x1x16320_S32x50x16320_0_1_2 : S1x1x16320.BroadcastsInDim S32x50x16320 (![0, 1, 2] : Fin 3 → Fin S32x50x16320.rank)
  bcast_S32x50x1_S32x50x16320_0_1_2 : S32x50x1.BroadcastsInDim S32x50x16320 (![0, 1, 2] : Fin 3 → Fin S32x50x16320.rank)
  bcast_S_S32x50x16320 : S_.BroadcastsInDim S32x50x16320 (![] : Fin 0 → Fin S32x50x16320.rank)
  reducesTo_S32x50x16320_S32x16320_d1 : S32x50x16320.ReducesTo [1] S32x16320
  h_S_ : 0 < S_.numel
  bcast_S32x16320_S32x1x16320_0_2 : S32x16320.BroadcastsInDim S32x1x16320 (![0, 2] : Fin 2 → Fin S32x1x16320.rank)
  bcast_S32x1x16320_S32x50x16320_0_1_2 : S32x1x16320.BroadcastsInDim S32x50x16320 (![0, 1, 2] : Fin 3 → Fin S32x50x16320.rank)
  bcast_S50_S1x50x1_1 : S50.BroadcastsInDim S1x50x1 (![1] : Fin 1 → Fin S1x50x1.rank)
  bcast_S1x50x1_S32x50x16320_0_1_2 : S1x50x1.BroadcastsInDim S32x50x16320 (![0, 1, 2] : Fin 3 → Fin S32x50x16320.rank)
  bcast_S_S32x1x16320 : S_.BroadcastsInDim S32x1x16320 (![] : Fin 0 → Fin S32x1x16320.rank)
  bcast_S_S32x50 : S_.BroadcastsInDim S32x50 (![] : Fin 0 → Fin S32x50.rank)
  slices_S32x50x5_S32x50x1_0_0_4 : S32x50x5.Slices ![0, 0, 4] S32x50x1

variable [Facts]

def fn_where {F : FTy → Type} [FloatOps F] (arg0 : IVec S32x50x16320 1) (arg1 : IVec S32x50x16320 32) (arg2 : IVec S_ 32) : IVec S32x50x16320 32 :=
  let v0 : IVec S_ 32 := id arg2
  let v1 : IVec S32x50x16320 32 := broadcastInDim S32x50x16320 ![] bcast_S_S32x50x16320 v0
  let v2 : IVec S32x50x16320 32 := select arg0 arg1 v1
  v2

def fn_part5 {F : FTy → Type} [FloatOps F] (main_arg5 : FVec F S32x50x5 .f32) (main_v96 : IVec S32x50x16320 1) (main_v100 : IVec S16320 1) (main_v104 : IVec S16320 1) (main_v106 : FVec F S32x50 .f32) : IVec S16320 1 × IVec S16320 1 × IVec S32x50 1 × IVec S32x50 1 × IVec S32x50 1 × IVec S32x50 1 × IVec S32x50 1 × IVec S32x50x16320 1 :=
  let main_cst_11 : FVec F S_ .f32 := constant S_ .f32 0xC2C70000#32
  let main_v107 : FVec F S32x50 .f32 := broadcastInDim S32x50 ![] bcast_S_S32x50 main_cst_11
  let main_v108 : IVec S32x50 1 := cmpf .oge main_v106 main_v107
  let main_v109 : FVec F S32x50x1 .f32 := (extractStridedSlice S32x50x1 ![0, 0, 0] · slices_S32x50x5_S32x50x1_0_0_0) main_arg5
  let main_v110 : FVec F S32x50 .f32 := shapeCast S32x50 main_v109 shapeCasts_S32x50x1_S32x50
  let main_v111 : FVec F S32x50x1 .f32 := (extractStridedSlice S32x50x1 ![0, 0, 2] · slices_S32x50x5_S32x50x1_0_0_2) main_arg5
  let main_v112 : FVec F S32x50 .f32 := shapeCast S32x50 main_v111 shapeCasts_S32x50x1_S32x50
  let main_v113 : IVec S32x50 1 := cmpf .ole main_v110 main_v112
  let main_v114 : FVec F S32x50x1 .f32 := (extractStridedSlice S32x50x1 ![0, 0, 1] · slices_S32x50x5_S32x50x1_0_0_1) main_arg5
  let main_v115 : FVec F S32x50 .f32 := shapeCast S32x50 main_v114 shapeCasts_S32x50x1_S32x50
  let main_v116 : FVec F S32x50x1 .f32 := (extractStridedSlice S32x50x1 ![0, 0, 3] · slices_S32x50x5_S32x50x1_0_0_3) main_arg5
  let main_v117 : FVec F S32x50 .f32 := shapeCast S32x50 main_v116 shapeCasts_S32x50x1_S32x50
  let main_v118 : IVec S32x50 1 := cmpf .ole main_v115 main_v117
  let main_v119 : FVec F S32x50x1 .f32 := (extractStridedSlice S32x50x1 ![0, 0, 4] · slices_S32x50x5_S32x50x1_0_0_4) main_arg5
  let main_v120 : FVec F S32x50 .f32 := shapeCast S32x50 main_v119 shapeCasts_S32x50x1_S32x50
  let main_cst_12 : FVec F S_ .f32 := constant S_ .f32 0x00000000#32
  let main_v121 : FVec F S32x50 .f32 := broadcastInDim S32x50 ![] bcast_S_S32x50 main_cst_12
  let main_v122 : IVec S32x50 1 := cmpf .oge main_v120 main_v121
  let main_v123 : FVec F S32x50x1 .f32 := (extractStridedSlice S32x50x1 ![0, 0, 4] · slices_S32x50x5_S32x50x1_0_0_4) main_arg5
  let main_v124 : FVec F S32x50 .f32 := shapeCast S32x50 main_v123 shapeCasts_S32x50x1_S32x50
  let main_cst_13 : FVec F S_ .f32 := constant S_ .f32 0x41980000#32
  let main_v125 : FVec F S32x50 .f32 := broadcastInDim S32x50 ![] bcast_S_S32x50 main_cst_13
  let main_v126 : IVec S32x50 1 := cmpf .ole main_v124 main_v125
  (main_v100, main_v104, main_v108, main_v113, main_v118, main_v122, main_v126, main_v96)

def fn_part4 {F : FTy → Type} [FloatOps F] (main_arg4 : FVec F S16320x4 .f32) (main_arg5 : FVec F S32x50x5 .f32) (main_v74 : FVec F S32x50x16320 .f32) (main_v76 : FVec F S32x1x16320 .f32) (main_v84 : IVec S32x1x16320 32) (main_v85 : FVec F S32x50x16320 .f32) : IVec S16320 1 × IVec S16320 1 × IVec S32x50 1 × IVec S32x50 1 × IVec S32x50 1 × IVec S32x50 1 × IVec S32x50 1 × IVec S32x50x16320 1 :=
  let main_v86 : IVec S32x50x16320 1 := cmpf .olt main_v74 main_v85
  let main_v87 : IVec S50 32 := iotaInDim S50 32 0
  let main_v88 : IVec S1x50x1 32 := broadcastInDim S1x50x1 ![1] bcast_S50_S1x50x1_1 main_v87
  let main_v89 : IVec S32x50x16320 32 := broadcastInDim S32x50x16320 ![0, 1, 2] bcast_S1x50x1_S32x50x16320_0_1_2 main_v88
  let main_v90 : IVec S32x50x16320 32 := broadcastInDim S32x50x16320 ![0, 1, 2] bcast_S32x1x16320_S32x50x16320_0_1_2 main_v84
  let main_v91 : IVec S32x50x16320 1 := cmpi .eq main_v89 main_v90
  let main_v92 : IVec S32x50x16320 1 := ori main_v86 main_v91
  let main_cst_8 : FVec F S_ .f32 := constant S_ .f32 0x3F000000#32
  let main_v93 : FVec F S32x1x16320 .f32 := broadcastInDim S32x1x16320 ![] bcast_S_S32x1x16320 main_cst_8
  let main_v94 : IVec S32x1x16320 1 := cmpf .olt main_v76 main_v93
  let main_v95 : IVec S32x50x16320 1 := broadcastInDim S32x50x16320 ![0, 1, 2] bcast_S32x1x16320_S32x50x16320_0_1_2 main_v94
  let main_v96 : IVec S32x50x16320 1 := ori main_v92 main_v95
  let main_v97 : FVec F S16320x1 .f32 := (extractStridedSlice S16320x1 ![0, 2] · slices_S16320x4_S16320x1_0_2) main_arg4
  let main_v98 : FVec F S16320 .f32 := shapeCast S16320 main_v97 shapeCasts_S16320x1_S16320
  let main_cst_9 : FVec F S_ .f32 := constant S_ .f32 0x00000000#32
  let main_v99 : FVec F S16320 .f32 := broadcastInDim S16320 ![] bcast_S_S16320 main_cst_9
  let main_v100 : IVec S16320 1 := cmpf .ogt main_v98 main_v99
  let main_v101 : FVec F S16320x1 .f32 := (extractStridedSlice S16320x1 ![0, 3] · slices_S16320x4_S16320x1_0_3) main_arg4
  let main_v102 : FVec F S16320 .f32 := shapeCast S16320 main_v101 shapeCasts_S16320x1_S16320
  let main_cst_10 : FVec F S_ .f32 := constant S_ .f32 0x00000000#32
  let main_v103 : FVec F S16320 .f32 := broadcastInDim S16320 ![] bcast_S_S16320 main_cst_10
  let main_v104 : IVec S16320 1 := cmpf .ogt main_v102 main_v103
  let main_v105 : FVec F S32x50x1 .f32 := (extractStridedSlice S32x50x1 ![0, 0, 0] · slices_S32x50x5_S32x50x1_0_0_0) main_arg5
  let main_v106 : FVec F S32x50 .f32 := shapeCast S32x50 main_v105 shapeCasts_S32x50x1_S32x50
  fn_part5 (F := F) main_arg5 main_v96 main_v100 main_v104 main_v106

def fn_part3 {F : FTy → Type} [FloatOps F] (main_arg4 : FVec F S16320x4 .f32) (main_arg5 : FVec F S32x50x5 .f32) (main_v6 : FVec F S16320 .f32) (main_v13 : FVec F S16320 .f32) (main_v20 : FVec F S16320 .f32) (main_v27 : FVec F S16320 .f32) (main_v62 : FVec F S32x50x16320 .f32) (main_v65 : FVec F S32x50x1 .f32) : IVec S16320 1 × IVec S16320 1 × IVec S32x50 1 × IVec S32x50 1 × IVec S32x50 1 × IVec S32x50 1 × IVec S32x50 1 × IVec S32x50x16320 1 :=
  let main_v66 : FVec F S16320 .f32 := subf main_v20 main_v6
  let main_v67 : FVec F S16320 .f32 := subf main_v27 main_v13
  let main_v68 : FVec F S16320 .f32 := mulf main_v66 main_v67
  let main_v69 : FVec F S1x1x16320 .f32 := broadcastInDim S1x1x16320 ![2] bcast_S16320_S1x1x16320_2 main_v68
  let main_v70 : FVec F S32x50x16320 .f32 := broadcastInDim S32x50x16320 ![0, 1, 2] bcast_S32x50x1_S32x50x16320_0_1_2 main_v65
  let main_v71 : FVec F S32x50x16320 .f32 := broadcastInDim S32x50x16320 ![0, 1, 2] bcast_S1x1x16320_S32x50x16320_0_1_2 main_v69
  let main_v72 : FVec F S32x50x16320 .f32 := addf main_v70 main_v71
  let main_v73 : FVec F S32x50x16320 .f32 := subf main_v72 main_v62
  let main_v74 : FVec F S32x50x16320 .f32 := Host.divf main_v62 main_v73
  let main_cst_5 : FVec F S_ .f32 := constant S_ .f32 0xFF800000#32
  let main_v75 : FVec F S32x16320 .f32 := (fun x v => Host.reduce FloatOps.maximumf x v reducesTo_S32x50x16320_S32x16320_d1 h_S_) main_v74 main_cst_5
  let main_v76 : FVec F S32x1x16320 .f32 := broadcastInDim S32x1x16320 ![0, 2] bcast_S32x16320_S32x1x16320_0_2 main_v75
  let main_v77 : IVec S32x50x16320 32 := iotaInDim S32x50x16320 32 1
  let main_cst_6 : FVec F S_ .f32 := constant S_ .f32 0xFF800000#32
  let main_v78 : FVec F S32x16320 .f32 := (fun x v => Host.reduce FloatOps.maximumf x v reducesTo_S32x50x16320_S32x16320_d1 h_S_) main_v74 main_cst_6
  let main_v79 : FVec F S32x1x16320 .f32 := broadcastInDim S32x1x16320 ![0, 2] bcast_S32x16320_S32x1x16320_0_2 main_v78
  let main_v80 : FVec F S32x50x16320 .f32 := broadcastInDim S32x50x16320 ![0, 1, 2] bcast_S32x1x16320_S32x50x16320_0_1_2 main_v79
  let main_v81 : IVec S32x50x16320 1 := cmpf .oeq main_v74 main_v80
  let main_c : IVec S_ 32 := constantI S_ 32 50#32
  let main_v82 : IVec S32x50x16320 32 := fn_where (F := F) main_v81 main_v77 main_c
  let main_c_7 : IVec S_ 32 := constantI S_ 32 2147483647#32
  let main_v83 : IVec S32x16320 32 := (fun x v => Host.reduce IntOp.minsi x v reducesTo_S32x50x16320_S32x16320_d1 h_S_) main_v82 main_c_7
  let main_v84 : IVec S32x1x16320 32 := broadcastInDim S32x1x16320 ![0, 2] bcast_S32x16320_S32x1x16320_0_2 main_v83
  let main_v85 : FVec F S32x50x16320 .f32 := broadcastInDim S32x50x16320 ![0, 1, 2] bcast_S32x1x16320_S32x50x16320_0_1_2 main_v76
  fn_part4 (F := F) main_arg4 main_arg5 main_v74 main_v76 main_v84 main_v85

def fn_part2 {F : FTy → Type} [FloatOps F] (main_arg4 : FVec F S16320x4 .f32) (main_arg5 : FVec F S32x50x5 .f32) (main_v6 : FVec F S16320 .f32) (main_v13 : FVec F S16320 .f32) (main_v20 : FVec F S16320 .f32) (main_v27 : FVec F S16320 .f32) (main_v30 : FVec F S32x50x1 .f32) (main_v33 : FVec F S32x50x1 .f32) (main_v36 : FVec F S32x50x1 .f32) (main_v39 : FVec F S32x50x1 .f32) (main_v43 : FVec F S32x50x16320 .f32) : IVec S16320 1 × IVec S16320 1 × IVec S32x50 1 × IVec S32x50 1 × IVec S32x50 1 × IVec S32x50 1 × IVec S32x50 1 × IVec S32x50x16320 1 :=
  let main_v44 : FVec F S1x1x16320 .f32 := broadcastInDim S1x1x16320 ![2] bcast_S16320_S1x1x16320_2 main_v6
  let main_v45 : FVec F S32x50x16320 .f32 := broadcastInDim S32x50x16320 ![0, 1, 2] bcast_S1x1x16320_S32x50x16320_0_1_2 main_v44
  let main_v46 : FVec F S32x50x16320 .f32 := broadcastInDim S32x50x16320 ![0, 1, 2] bcast_S32x50x1_S32x50x16320_0_1_2 main_v30
  let main_v47 : FVec F S32x50x16320 .f32 := maximumf main_v45 main_v46
  let main_v48 : FVec F S32x50x16320 .f32 := subf main_v43 main_v47
  let main_cst_3 : FVec F S_ .f32 := constant S_ .f32 0x00000000#32
  let main_v49 : FVec F S32x50x16320 .f32 := broadcastInDim S32x50x16320 ![] bcast_S_S32x50x16320 main_cst_3
  let main_v50 : FVec F S32x50x16320 .f32 := maximumf main_v48 main_v49
  let main_v51 : FVec F S1x1x16320 .f32 := broadcastInDim S1x1x16320 ![2] bcast_S16320_S1x1x16320_2 main_v27
  let main_v52 : FVec F S32x50x16320 .f32 := broadcastInDim S32x50x16320 ![0, 1, 2] bcast_S1x1x16320_S32x50x16320_0_1_2 main_v51
  let main_v53 : FVec F S32x50x16320 .f32 := broadcastInDim S32x50x16320 ![0, 1, 2] bcast_S32x50x1_S32x50x16320_0_1_2 main_v39
  let main_v54 : FVec F S32x50x16320 .f32 := minimumf main_v52 main_v53
  let main_v55 : FVec F S1x1x16320 .f32 := broadcastInDim S1x1x16320 ![2] bcast_S16320_S1x1x16320_2 main_v13
  let main_v56 : FVec F S32x50x16320 .f32 := broadcastInDim S32x50x16320 ![0, 1, 2] bcast_S1x1x16320_S32x50x16320_0_1_2 main_v55
  let main_v57 : FVec F S32x50x16320 .f32 := broadcastInDim S32x50x16320 ![0, 1, 2] bcast_S32x50x1_S32x50x16320_0_1_2 main_v33
  let main_v58 : FVec F S32x50x16320 .f32 := maximumf main_v56 main_v57
  let main_v59 : FVec F S32x50x16320 .f32 := subf main_v54 main_v58
  let main_cst_4 : FVec F S_ .f32 := constant S_ .f32 0x00000000#32
  let main_v60 : FVec F S32x50x16320 .f32 := broadcastInDim S32x50x16320 ![] bcast_S_S32x50x16320 main_cst_4
  let main_v61 : FVec F S32x50x16320 .f32 := maximumf main_v59 main_v60
  let main_v62 : FVec F S32x50x16320 .f32 := mulf main_v50 main_v61
  let main_v63 : FVec F S32x50x1 .f32 := subf main_v36 main_v30
  let main_v64 : FVec F S32x50x1 .f32 := subf main_v39 main_v33
  let main_v65 : FVec F S32x50x1 .f32 := mulf main_v63 main_v64
  fn_part3 (F := F) main_arg4 main_arg5 main_v6 main_v13 main_v20 main_v27 main_v62 main_v65

def fn_part1 {F : FTy → Type} [FloatOps F] (main_arg4 : FVec F S16320x4 .f32) (main_arg5 : FVec F S32x50x5 .f32) (main_v6 : FVec F S16320 .f32) (main_v13 : FVec F S16320 .f32) (main_v20 : FVec F S16320 .f32) : IVec S16320 1 × IVec S16320 1 × IVec S32x50 1 × IVec S32x50 1 × IVec S32x50 1 × IVec S32x50 1 × IVec S32x50 1 × IVec S32x50x16320 1 :=
  let main_v21 : FVec F S16320x1 .f32 := (extractStridedSlice S16320x1 ![0, 1] · slices_S16320x4_S16320x1_0_1) main_arg4
  let main_v22 : FVec F S16320 .f32 := shapeCast S16320 main_v21 shapeCasts_S16320x1_S16320
  let main_v23 : FVec F S16320x1 .f32 := (extractStridedSlice S16320x1 ![0, 3] · slices_S16320x4_S16320x1_0_3) main_arg4
  let main_v24 : FVec F S16320 .f32 := shapeCast S16320 main_v23 shapeCasts_S16320x1_S16320
  let main_cst_2 : FVec F S_ .f32 := constant S_ .f32 0x40000000#32
  let main_v25 : FVec F S16320 .f32 := broadcastInDim S16320 ![] bcast_S_S16320 main_cst_2
  let main_v26 : FVec F S16320 .f32 := Host.divf main_v24 main_v25
  let main_v27 : FVec F S16320 .f32 := addf main_v22 main_v26
  let main_v28 : FVec F S32x50x1 .f32 := (extractStridedSlice S32x50x1 ![0, 0, 0] · slices_S32x50x5_S32x50x1_0_0_0) main_arg5
  let main_v29 : FVec F S32x50 .f32 := shapeCast S32x50 main_v28 shapeCasts_S32x50x1_S32x50
  let main_v30 : FVec F S32x50x1 .f32 := broadcastInDim S32x50x1 ![0, 1] bcast_S32x50_S32x50x1_0_1 main_v29
  let main_v31 : FVec F S32x50x1 .f32 := (extractStridedSlice S32x50x1 ![0, 0, 1] · slices_S32x50x5_S32x50x1_0_0_1) main_arg5
  let main_v32 : FVec F S32x50 .f32 := shapeCast S32x50 main_v31 shapeCasts_S32x50x1_S32x50
  let main_v33 : FVec F S32x50x1 .f32 := broadcastInDim S32x50x1 ![0, 1] bcast_S32x50_S32x50x1_0_1 main_v32
  let main_v34 : FVec F S32x50x1 .f32 := (extractStridedSlice S32x50x1 ![0, 0, 2] · slices_S32x50x5_S32x50x1_0_0_2) main_arg5
  let main_v35 : FVec F S32x50 .f32 := shapeCast S32x50 main_v34 shapeCasts_S32x50x1_S32x50
  let main_v36 : FVec F S32x50x1 .f32 := broadcastInDim S32x50x1 ![0, 1] bcast_S32x50_S32x50x1_0_1 main_v35
  let main_v37 : FVec F S32x50x1 .f32 := (extractStridedSlice S32x50x1 ![0, 0, 3] · slices_S32x50x5_S32x50x1_0_0_3) main_arg5
  let main_v38 : FVec F S32x50 .f32 := shapeCast S32x50 main_v37 shapeCasts_S32x50x1_S32x50
  let main_v39 : FVec F S32x50x1 .f32 := broadcastInDim S32x50x1 ![0, 1] bcast_S32x50_S32x50x1_0_1 main_v38
  let main_v40 : FVec F S1x1x16320 .f32 := broadcastInDim S1x1x16320 ![2] bcast_S16320_S1x1x16320_2 main_v20
  let main_v41 : FVec F S32x50x16320 .f32 := broadcastInDim S32x50x16320 ![0, 1, 2] bcast_S1x1x16320_S32x50x16320_0_1_2 main_v40
  let main_v42 : FVec F S32x50x16320 .f32 := broadcastInDim S32x50x16320 ![0, 1, 2] bcast_S32x50x1_S32x50x16320_0_1_2 main_v36
  let main_v43 : FVec F S32x50x16320 .f32 := minimumf main_v41 main_v42
  fn_part2 (F := F) main_arg4 main_arg5 main_v6 main_v13 main_v20 main_v27 main_v30 main_v33 main_v36 main_v39 main_v43

def fn {F : FTy → Type} [FloatOps F] (main_arg0 : FVec F S32x16320x4 .f32) (main_arg1 : FVec F S32x16320x21 .f32) (main_arg2 : FVec F S32x16320x4 .f32) (main_arg3 : FVec F S32x16320x21 .f32) (main_arg4 : FVec F S16320x4 .f32) (main_arg5 : FVec F S32x50x5 .f32) : IVec S16320 1 × IVec S16320 1 × IVec S32x50 1 × IVec S32x50 1 × IVec S32x50 1 × IVec S32x50 1 × IVec S32x50 1 × IVec S32x50x16320 1 :=
  let main_v0 : FVec F S16320x1 .f32 := (extractStridedSlice S16320x1 ![0, 0] · slices_S16320x4_S16320x1_0_0) main_arg4
  let main_v1 : FVec F S16320 .f32 := shapeCast S16320 main_v0 shapeCasts_S16320x1_S16320
  let main_v2 : FVec F S16320x1 .f32 := (extractStridedSlice S16320x1 ![0, 2] · slices_S16320x4_S16320x1_0_2) main_arg4
  let main_v3 : FVec F S16320 .f32 := shapeCast S16320 main_v2 shapeCasts_S16320x1_S16320
  let main_cst : FVec F S_ .f32 := constant S_ .f32 0x40000000#32
  let main_v4 : FVec F S16320 .f32 := broadcastInDim S16320 ![] bcast_S_S16320 main_cst
  let main_v5 : FVec F S16320 .f32 := Host.divf main_v3 main_v4
  let main_v6 : FVec F S16320 .f32 := subf main_v1 main_v5
  let main_v7 : FVec F S16320x1 .f32 := (extractStridedSlice S16320x1 ![0, 1] · slices_S16320x4_S16320x1_0_1) main_arg4
  let main_v8 : FVec F S16320 .f32 := shapeCast S16320 main_v7 shapeCasts_S16320x1_S16320
  let main_v9 : FVec F S16320x1 .f32 := (extractStridedSlice S16320x1 ![0, 3] · slices_S16320x4_S16320x1_0_3) main_arg4
  let main_v10 : FVec F S16320 .f32 := shapeCast S16320 main_v9 shapeCasts_S16320x1_S16320
  let main_cst_0 : FVec F S_ .f32 := constant S_ .f32 0x40000000#32
  let main_v11 : FVec F S16320 .f32 := broadcastInDim S16320 ![] bcast_S_S16320 main_cst_0
  let main_v12 : FVec F S16320 .f32 := Host.divf main_v10 main_v11
  let main_v13 : FVec F S16320 .f32 := subf main_v8 main_v12
  let main_v14 : FVec F S16320x1 .f32 := (extractStridedSlice S16320x1 ![0, 0] · slices_S16320x4_S16320x1_0_0) main_arg4
  let main_v15 : FVec F S16320 .f32 := shapeCast S16320 main_v14 shapeCasts_S16320x1_S16320
  let main_v16 : FVec F S16320x1 .f32 := (extractStridedSlice S16320x1 ![0, 2] · slices_S16320x4_S16320x1_0_2) main_arg4
  let main_v17 : FVec F S16320 .f32 := shapeCast S16320 main_v16 shapeCasts_S16320x1_S16320
  let main_cst_1 : FVec F S_ .f32 := constant S_ .f32 0x40000000#32
  let main_v18 : FVec F S16320 .f32 := broadcastInDim S16320 ![] bcast_S_S16320 main_cst_1
  let main_v19 : FVec F S16320 .f32 := Host.divf main_v17 main_v18
  let main_v20 : FVec F S16320 .f32 := addf main_v15 main_v19
  fn_part1 (F := F) main_arg4 main_arg5 main_v6 main_v13 main_v20
-- ==== Kernel.lean ====
abbrev S32x16320x4 : Shape := ⟨3, ![32, 16320, 4]⟩
abbrev S32x16320x21 : Shape := ⟨3, ![32, 16320, 21]⟩
abbrev S16320x4 : Shape := ⟨2, ![16320, 4]⟩
abbrev S32x50x5 : Shape := ⟨3, ![32, 50, 5]⟩
abbrev S4x1 : Shape := ⟨2, ![4, 1]⟩
abbrev S1x4x1x1 : Shape := ⟨4, ![1, 4, 1, 1]⟩
abbrev S1x4x64x1 : Shape := ⟨4, ![1, 4, 64, 1]⟩
abbrev S4x64 : Shape := ⟨2, ![4, 64]⟩
abbrev S4x16320 : Shape := ⟨2, ![4, 16320]⟩
abbrev S4x16384 : Shape := ⟨2, ![4, 16384]⟩
abbrev S4x128x128 : Shape := ⟨3, ![4, 128, 128]⟩
abbrev S16x16320x4 : Shape := ⟨3, ![16, 16320, 4]⟩
abbrev S16x16320x21 : Shape := ⟨3, ![16, 16320, 21]⟩
abbrev S16x50x5 : Shape := ⟨3, ![16, 50, 5]⟩
abbrev S16x21x16320 : Shape := ⟨3, ![16, 21, 16320]⟩
abbrev S_ : Shape := ⟨0, ![]⟩
abbrev S16x21x16384 : Shape := ⟨3, ![16, 21, 16384]⟩
abbrev S16x21x128x128 : Shape := ⟨4, ![16, 21, 128, 128]⟩
abbrev S16x4x16320 : Shape := ⟨3, ![16, 4, 16320]⟩
abbrev S16x4x16384 : Shape := ⟨3, ![16, 4, 16384]⟩
abbrev S16x4x128x128 : Shape := ⟨4, ![16, 4, 128, 128]⟩
abbrev S16x8x128 : Shape := ⟨3, ![16, 8, 128]⟩
abbrev S16x1x1 : Shape := ⟨3, ![16, 1, 1]⟩
abbrev S16 : Shape := ⟨1, ![16]⟩
abbrev S1x21x128x128 : Shape := ⟨4, ![1, 21, 128, 128]⟩
abbrev S1x4x128x128 : Shape := ⟨4, ![1, 4, 128, 128]⟩
abbrev S1x50x5 : Shape := ⟨3, ![1, 50, 5]⟩
abbrev S1x8x128 : Shape := ⟨3, ![1, 8, 128]⟩
abbrev S50x128x128 : Shape := ⟨3, ![50, 128, 128]⟩
abbrev S128x128 : Shape := ⟨2, ![128, 128]⟩
abbrev S64x128 : Shape := ⟨2, ![64, 128]⟩
abbrev S128x1 : Shape := ⟨2, ![128, 1]⟩
abbrev S1x1x1 : Shape := ⟨3, ![1, 1, 1]⟩
abbrev S1x1 : Shape := ⟨2, ![1, 1]⟩
abbrev S32x128 : Shape := ⟨2, ![32, 128]⟩
abbrev S1x32x128 : Shape := ⟨3, ![1, 32, 128]⟩
abbrev S1x128x128 : Shape := ⟨3, ![1, 128, 128]⟩
abbrev S128 : Shape := ⟨1, ![128]⟩
abbrev S1x128 : Shape := ⟨2, ![1, 128]⟩
abbrev S50x128 : Shape := ⟨2, ![50, 128]⟩
abbrev S50 : Shape := ⟨1, ![50]⟩
abbrev S50x1 : Shape := ⟨2, ![50, 1]⟩
abbrev S1x1x32x128 : Shape := ⟨4, ![1, 1, 32, 128]⟩
abbrev S32x1 : Shape := ⟨2, ![32, 1]⟩
abbrev S1 : Shape := ⟨1, ![1]⟩
abbrev S8x128 : Shape := ⟨2, ![8, 128]⟩

abbrev nBuf : Space → Nat
  | .hbm => 82
  | .vmem => 34
  | .smem => 0
  | _ => 0

abbrev bufTy : (tb : Table) → Fin (tcTables nBuf tb) → BufTy
  | .hbm, ⟨0, _⟩ => ⟨S32x16320x4, .f32⟩
  | .hbm, ⟨1, _⟩ => ⟨S32x16320x21, .f32⟩
  | .hbm, ⟨2, _⟩ => ⟨S32x16320x4, .f32⟩
  | .hbm, ⟨3, _⟩ => ⟨S32x16320x21, .f32⟩
  | .hbm, ⟨4, _⟩ => ⟨S16320x4, .f32⟩
  | .hbm, ⟨5, _⟩ => ⟨S32x50x5, .f32⟩
  | .hbm, ⟨6, _⟩ => ⟨S4x1, .f32⟩
  | .hbm, ⟨7, _⟩ => ⟨S1x4x1x1, .f32⟩
  | .hbm, ⟨8, _⟩ => ⟨S1x4x64x1, .f32⟩
  | .hbm, ⟨9, _⟩ => ⟨S4x64, .f32⟩
  | .hbm, ⟨10, _⟩ => ⟨S4x16320, .f32⟩
  | .hbm, ⟨11, _⟩ => ⟨S4x16384, .f32⟩
  | .hbm, ⟨12, _⟩ => ⟨S4x128x128, .f32⟩
  | .hbm, ⟨13, _⟩ => ⟨S16x16320x4, .f32⟩
  | .hbm, ⟨14, _⟩ => ⟨S16x16320x21, .f32⟩
  | .hbm, ⟨15, _⟩ => ⟨S16x50x5, .f32⟩
  | .hbm, ⟨16, _⟩ => ⟨S16x21x16320, .f32⟩
  | .hbm, ⟨17, _⟩ => ⟨S_, .i32⟩
  | .hbm, ⟨18, _⟩ => ⟨S_, .f32⟩
  | .hbm, ⟨19, _⟩ => ⟨S16x21x16384, .f32⟩
  | .hbm, ⟨20, _⟩ => ⟨S16x21x128x128, .f32⟩
  | .hbm, ⟨21, _⟩ => ⟨S16x4x16320, .f32⟩
  | .hbm, ⟨22, _⟩ => ⟨S_, .i32⟩
  | .hbm, ⟨23, _⟩ => ⟨S_, .f32⟩
  | .hbm, ⟨24, _⟩ => ⟨S16x4x16384, .f32⟩
  | .hbm, ⟨25, _⟩ => ⟨S16x4x128x128, .f32⟩
  | .hbm, ⟨26, _⟩ => ⟨S16x8x128, .f32⟩
  | .hbm, ⟨27, _⟩ => ⟨S16x8x128, .f32⟩
  | .hbm, ⟨28, _⟩ => ⟨S16x8x128, .f32⟩
  | .hbm, ⟨29, _⟩ => ⟨S16x16320x4, .f32⟩
  | .hbm, ⟨30, _⟩ => ⟨S16x16320x21, .f32⟩
  | .hbm, ⟨31, _⟩ => ⟨S16x50x5, .f32⟩
  | .hbm, ⟨32, _⟩ => ⟨S16x21x16320, .f32⟩
  | .hbm, ⟨33, _⟩ => ⟨S_, .i32⟩
  | .hbm, ⟨34, _⟩ => ⟨S_, .f32⟩
  | .hbm, ⟨35, _⟩ => ⟨S16x21x16384, .f32⟩
  | .hbm, ⟨36, _⟩ => ⟨S16x21x128x128, .f32⟩
  | .hbm, ⟨37, _⟩ => ⟨S16x4x16320, .f32⟩
  | .hbm, ⟨38, _⟩ => ⟨S_, .i32⟩
  | .hbm, ⟨39, _⟩ => ⟨S_, .f32⟩
  | .hbm, ⟨40, _⟩ => ⟨S16x4x16384, .f32⟩
  | .hbm, ⟨41, _⟩ => ⟨S16x4x128x128, .f32⟩
  | .hbm, ⟨42, _⟩ => ⟨S16x8x128, .f32⟩
  | .hbm, ⟨43, _⟩ => ⟨S16x8x128, .f32⟩
  | .hbm, ⟨44, _⟩ => ⟨S16x8x128, .f32⟩
  | .hbm, ⟨45, _⟩ => ⟨S16x1x1, .f32⟩
  | .hbm, ⟨46, _⟩ => ⟨S16, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S16x1x1, .f32⟩
  | .hbm, ⟨52, _⟩ => ⟨S16, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16x1x1, .f32⟩
  | .hbm, ⟨57, _⟩ => ⟨S16, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S16x1x1, .f32⟩
  | .hbm, ⟨63, _⟩ => ⟨S16, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S16x1x1, .f32⟩
  | .hbm, ⟨68, _⟩ => ⟨S16, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S16x1x1, .f32⟩
  | .hbm, ⟨74, _⟩ => ⟨S16, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S1x21x128x128, .f32⟩
  | .local _ .vmem, ⟨1, _⟩ => ⟨S1x21x128x128, .f32⟩
  | .local _ .vmem, ⟨2, _⟩ => ⟨S1x4x128x128, .f32⟩
  | .local _ .vmem, ⟨3, _⟩ => ⟨S1x4x128x128, .f32⟩
  | .local _ .vmem, ⟨4, _⟩ => ⟨S4x128x128, .f32⟩
  | .local _ .vmem, ⟨5, _⟩ => ⟨S1x50x5, .f32⟩
  | .local _ .vmem, ⟨6, _⟩ => ⟨S1x50x5, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S50x128x128, .f32⟩
  | .local _ .vmem, ⟨14, _⟩ => ⟨S128x128, .f32⟩
  | .local _ .vmem, ⟨15, _⟩ => ⟨S64x128, .f32⟩
  | .local _ .vmem, ⟨16, _⟩ => ⟨S64x128, .f32⟩
  | .local _ .vmem, ⟨17, _⟩ => ⟨S1x21x128x128, .f32⟩
  | .local _ .vmem, ⟨18, _⟩ => ⟨S1x21x128x128, .f32⟩
  | .local _ .vmem, ⟨19, _⟩ => ⟨S1x4x128x128, .f32⟩
  | .local _ .vmem, ⟨20, _⟩ => ⟨S1x4x128x128, .f32⟩
  | .local _ .vmem, ⟨21, _⟩ => ⟨S4x128x128, .f32⟩
  | .local _ .vmem, ⟨22, _⟩ => ⟨S1x50x5, .f32⟩
  | .local _ .vmem, ⟨23, _⟩ => ⟨S1x50x5, .f32⟩
  | .local _ .vmem, ⟨24, _⟩ => ⟨S1x8x128, .f32⟩
  | .local _ .vmem, ⟨25, _⟩ => ⟨S1x8x128, .f32⟩
  | .local _ .vmem, ⟨26, _⟩ => ⟨S1x8x128, .f32⟩
  | .local _ .vmem, ⟨27, _⟩ => ⟨S1x8x128, .f32⟩
  | .local _ .vmem, ⟨28, _⟩ => ⟨S1x8x128, .f32⟩
  | .local _ .vmem, ⟨29, _⟩ => ⟨S1x8x128, .f32⟩
  | .local _ .vmem, ⟨30, _⟩ => ⟨S50x128x128, .f32⟩
  | .local _ .vmem, ⟨31, _⟩ => ⟨S128x128, .f32⟩
  | .local _ .vmem, ⟨32, _⟩ => ⟨S64x128, .f32⟩
  | .local _ .vmem, ⟨33, _⟩ => ⟨S64x128, .f32⟩
  | _, _ => ⟨S32x16320x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_c : Ref sig .tc := ⟨.hbm, 17, rfl⟩
abbrev main_call0_call0_v0 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_c_0 : Ref sig .tc := ⟨.hbm, 22, rfl⟩
abbrev main_call0_call1_v0 : Ref sig .tc := ⟨.hbm, 23, rfl⟩
abbrev main_call0_v13 : Ref sig .tc := ⟨.hbm, 24, rfl⟩
abbrev main_call0_v14 : Ref sig .tc := ⟨.hbm, 25, rfl⟩
abbrev main_call0_v15_0 : Ref sig .tc := ⟨.hbm, 26, rfl⟩
abbrev main_call0_v15_1 : Ref sig .tc := ⟨.hbm, 27, rfl⟩
abbrev main_call0_v15_2 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_c_1 : Ref sig .tc := ⟨.hbm, 33, rfl⟩
abbrev main_call0_call2_v0 : Ref sig .tc := ⟨.hbm, 34, rfl⟩
abbrev main_call0_v20 : Ref sig .tc := ⟨.hbm, 35, rfl⟩
abbrev main_call0_v21 : Ref sig .tc := ⟨.hbm, 36, rfl⟩
abbrev main_call0_v22 : Ref sig .tc := ⟨.hbm, 37, rfl⟩
abbrev main_call0_c_2 : Ref sig .tc := ⟨.hbm, 38, rfl⟩
abbrev main_call0_call3_v0 : Ref sig .tc := ⟨.hbm, 39, rfl⟩
abbrev main_call0_v23 : Ref sig .tc := ⟨.hbm, 40, rfl⟩
abbrev main_call0_v24 : Ref sig .tc := ⟨.hbm, 41, rfl⟩
abbrev main_call0_v25_0 : Ref sig .tc := ⟨.hbm, 42, rfl⟩
abbrev main_call0_v25_1 : Ref sig .tc := ⟨.hbm, 43, rfl⟩
abbrev main_call0_v25_2 : Ref sig .tc := ⟨.hbm, 44, rfl⟩
abbrev main_call0_v26 : Ref sig .tc := ⟨.hbm, 45, rfl⟩
abbrev main_call0_v27 : Ref sig .tc := ⟨.hbm, 46, rfl⟩
abbrev main_call0_cst_3 : Ref sig .tc := ⟨.hbm, 47, rfl⟩
abbrev main_call0_v28 : Ref sig .tc := ⟨.hbm, 48, rfl⟩
abbrev main_call0_cst_4 : Ref sig .tc := ⟨.hbm, 49, rfl⟩
abbrev main_call0_v29 : Ref sig .tc := ⟨.hbm, 50, rfl⟩
abbrev main_call0_v30 : Ref sig .tc := ⟨.hbm, 51, rfl⟩
abbrev main_call0_v31 : Ref sig .tc := ⟨.hbm, 52, rfl⟩
abbrev main_call0_cst_5 : Ref sig .tc := ⟨.hbm, 53, rfl⟩
abbrev main_call0_v32 : Ref sig .tc := ⟨.hbm, 54, rfl⟩
abbrev main_call0_v33 : Ref sig .tc := ⟨.hbm, 55, rfl⟩
abbrev main_call0_v34 : Ref sig .tc := ⟨.hbm, 56, rfl⟩
abbrev main_call0_v35 : Ref sig .tc := ⟨.hbm, 57, rfl⟩
abbrev main_call0_cst_6 : Ref sig .tc := ⟨.hbm, 58, rfl⟩
abbrev main_call0_v36 : Ref sig .tc := ⟨.hbm, 59, rfl⟩
abbrev main_call0_cst_7 : Ref sig .tc := ⟨.hbm, 60, rfl⟩
abbrev main_call0_v37 : Ref sig .tc := ⟨.hbm, 61, rfl⟩
abbrev main_call0_v38 : Ref sig .tc := ⟨.hbm, 62, rfl⟩
abbrev main_call0_v39 : Ref sig .tc := ⟨.hbm, 63, rfl⟩
abbrev main_call0_cst_8 : Ref sig .tc := ⟨.hbm, 64, rfl⟩
abbrev main_call0_v40 : Ref sig .tc := ⟨.hbm, 65, rfl⟩
abbrev main_call0_v41 : Ref sig .tc := ⟨.hbm, 66, rfl⟩
abbrev main_call0_v42 : Ref sig .tc := ⟨.hbm, 67, rfl⟩
abbrev main_call0_v43 : Ref sig .tc := ⟨.hbm, 68, rfl⟩
abbrev main_call0_cst_9 : Ref sig .tc := ⟨.hbm, 69, rfl⟩
abbrev main_call0_v44 : Ref sig .tc := ⟨.hbm, 70, rfl⟩
abbrev main_call0_cst_10 : Ref sig .tc := ⟨.hbm, 71, rfl⟩
abbrev main_call0_v45 : Ref sig .tc := ⟨.hbm, 72, rfl⟩
abbrev main_call0_v46 : Ref sig .tc := ⟨.hbm, 73, rfl⟩
abbrev main_call0_v47 : Ref sig .tc := ⟨.hbm, 74, rfl⟩
abbrev main_call0_cst_11 : Ref sig .tc := ⟨.hbm, 75, rfl⟩
abbrev main_call0_v48 : Ref sig .tc := ⟨.hbm, 76, rfl⟩
abbrev main_call0_v49 : Ref sig .tc := ⟨.hbm, 77, rfl⟩
abbrev main_call0_cst_12 : Ref sig .tc := ⟨.hbm, 78, rfl⟩
abbrev main_call0_v50 : Ref sig .tc := ⟨.hbm, 79, rfl⟩
abbrev main_v0_0 : Ref sig .tc := ⟨.hbm, 80, rfl⟩
abbrev main_v0_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc1_scratch3 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x21x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x50x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x21x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x50x5 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S32x16320x4 : Shape := ⟨3, ![32, 16320, 4]⟩
abbrev S32x16320x21 : Shape := ⟨3, ![32, 16320, 21]⟩
abbrev S16320x4 : Shape := ⟨2, ![16320, 4]⟩
abbrev S32x50x5 : Shape := ⟨3, ![32, 50, 5]⟩
abbrev S16320x1 : Shape := ⟨2, ![16320, 1]⟩
abbrev S16320 : Shape := ⟨1, ![16320]⟩
abbrev S_ : Shape := ⟨0, ![]⟩
abbrev S32x50x1 : Shape := ⟨3, ![32, 50, 1]⟩
abbrev S32x50 : Shape := ⟨2, ![32, 50]⟩
abbrev S1x1x16320 : Shape := ⟨3, ![1, 1, 16320]⟩
abbrev S32x50x16320 : Shape := ⟨3, ![32, 50, 16320]⟩
abbrev S32x16320 : Shape := ⟨2, ![32, 16320]⟩
abbrev S32x1x16320 : Shape := ⟨3, ![32, 1, 16320]⟩
abbrev S50 : Shape := ⟨1, ![50]⟩
abbrev S1x50x1 : Shape := ⟨3, ![1, 50, 1]⟩
abbrev S32x16320x1 : Shape := ⟨3, ![32, 16320, 1]⟩
abbrev S32x16320x5 : Shape := ⟨3, ![32, 16320, 5]⟩
abbrev S1x16320 : Shape := ⟨2, ![1, 16320]⟩
abbrev S32x16320x1x1 : Shape := ⟨4, ![32, 16320, 1, 1]⟩
abbrev S32 : Shape := ⟨1, ![32]⟩
abbrev S32x1 : Shape := ⟨2, ![32, 1]⟩

abbrev nBuf : Space → Nat
  | .hbm => 355
  | .vmem => 0
  | .smem => 0
  | _ => 0

abbrev hbmTy0_0 (i : Nat) : BufTy := match i % 128 with
  | 0 => ⟨S32x16320x4, .f32⟩
  | 1 => ⟨S32x16320x21, .f32⟩
  | 2 => ⟨S32x16320x4, .f32⟩
  | 3 => ⟨S32x16320x21, .f32⟩
  | 4 => ⟨S16320x4, .f32⟩
  | 5 => ⟨S32x50x5, .f32⟩
  | 6 => ⟨S16320x1, .f32⟩
  | 7 => ⟨S16320, .f32⟩
  | 8 => ⟨S16320x1, .f32⟩
  | 9 => ⟨S16320, .f32⟩
  | 10 => ⟨S_, .f32⟩
  | 11 => ⟨S16320, .f32⟩
  | 12 => ⟨S16320, .f32⟩
  | 13 => ⟨S16320, .f32⟩
  | 14 => ⟨S16320x1, .f32⟩
  | 15 => ⟨S16320, .f32⟩
  | 16 => ⟨S16320x1, .f32⟩
  | 17 => ⟨S16320, .f32⟩
  | 18 => ⟨S_, .f32⟩
  | 19 => ⟨S16320, .f32⟩
  | 20 => ⟨S16320, .f32⟩
  | 21 => ⟨S16320, .f32⟩
  | 22 => ⟨S16320x1, .f32⟩
  | 23 => ⟨S16320, .f32⟩
  | 24 => ⟨S16320x1, .f32⟩
  | 25 => ⟨S16320, .f32⟩
  | 26 => ⟨S_, .f32⟩
  | 27 => ⟨S16320, .f32⟩
  | 28 => ⟨S16320, .f32⟩
  | 29 => ⟨S16320, .f32⟩
  | 30 => ⟨S16320x1, .f32⟩
  | 31 => ⟨S16320, .f32⟩
  | 32 => ⟨S16320x1, .f32⟩
  | 33 => ⟨S16320, .f32⟩
  | 34 => ⟨S_, .f32⟩
  | 35 => ⟨S16320, .f32⟩
  | 36 => ⟨S16320, .f32⟩
  | 37 => ⟨S16320, .f32⟩
  | 38 => ⟨S32x50x1, .f32⟩
  | 39 => ⟨S32x50, .f32⟩
  | 40 => ⟨S32x50x1, .f32⟩
  | 41 => ⟨S32x50x1, .f32⟩
  | 42 => ⟨S32x50, .f32⟩
  | 43 => ⟨S32x50x1, .f32⟩
  | 44 => ⟨S32x50x1, .f32⟩
  | 45 => ⟨S32x50, .f32⟩
  | 46 => ⟨S32x50x1, .f32⟩
  | 47 => ⟨S32x50x1, .f32⟩
  | 48 => ⟨S32x50, .f32⟩
  | 49 => ⟨S32x50x1, .f32⟩
  | 50 => ⟨S1x1x16320, .f32⟩
  | 51 => ⟨S32x50x16320, .f32⟩
  | 52 => ⟨S32x50x16320, .f32⟩
  | 53 => ⟨S32x50x16320, .f32⟩
  | 54 => ⟨S1x1x16320, .f32⟩
  | 55 => ⟨S32x50x16320, .f32⟩
  | 56 => ⟨S32x50x16320, .f32⟩
  | 57 => ⟨S32x50x16320, .f32⟩
  | 58 => ⟨S32x50x16320, .f32⟩
  | 59 => ⟨S_, .f32⟩
  | 60 => ⟨S32x50x16320, .f32⟩
  | 61 => ⟨S32x50x16320, .f32⟩
  | 62 => ⟨S1x1x16320, .f32⟩
  | 63 => ⟨S32x50x16320, .f32⟩
  | 64 => ⟨S32x50x16320, .f32⟩
  | 65 => ⟨S32x50x16320, .f32⟩
  | 66 => ⟨S1x1x16320, .f32⟩
  | 67 => ⟨S32x50x16320, .f32⟩
  | 68 => ⟨S32x50x16320, .f32⟩
  | 69 => ⟨S32x50x16320, .f32⟩
  | 70 => ⟨S32x50x16320, .f32⟩
  | 71 => ⟨S_, .f32⟩
  | 72 => ⟨S32x50x16320, .f32⟩
  | 73 => ⟨S32x50x16320, .f32⟩
  | 74 => ⟨S32x50x16320, .f32⟩
  | 75 => ⟨S32x50x1, .f32⟩
  | 76 => ⟨S32x50x1, .f32⟩
  | 77 => ⟨S32x50x1, .f32⟩
  | 78 => ⟨S16320, .f32⟩
  | 79 => ⟨S16320, .f32⟩
  | 80 => ⟨S16320, .f32⟩
  | 81 => ⟨S1x1x16320, .f32⟩
  | 82 => ⟨S32x50x16320, .f32⟩
  | 83 => ⟨S32x50x16320, .f32⟩
  | 84 => ⟨S32x50x16320, .f32⟩
  | 85 => ⟨S32x50x16320, .f32⟩
  | 86 => ⟨S32x50x16320, .f32⟩
  | 87 => ⟨S32x50x16320, .i32⟩
  | 88 => ⟨S_, .f32⟩
  | 89 => ⟨S32x50, .f32⟩
  | 90 => ⟨S32x50x1, .f32⟩
  | 91 => ⟨S32x50x16320, .f32⟩
  | 92 => ⟨S32x50x16320, .i1⟩
  | 93 => ⟨S_, .i32⟩
  | 94 => ⟨S_, .i32⟩
  | 95 => ⟨S32x50x16320, .i32⟩
  | 96 => ⟨S32x50x16320, .i32⟩
  | 97 => ⟨S_, .i32⟩
  | 98 => ⟨S32x50, .i32⟩
  | 99 => ⟨S_, .f32⟩
  | 100 => ⟨S32x16320, .f32⟩
  | 101 => ⟨S32x50x16320, .i32⟩
  | 102 => ⟨S_, .f32⟩
  | 103 => ⟨S32x16320, .f32⟩
  | 104 => ⟨S32x1x16320, .f32⟩
  | 105 => ⟨S32x50x16320, .f32⟩
  | 106 => ⟨S32x50x16320, .i1⟩
  | 107 => ⟨S_, .i32⟩
  | 108 => ⟨S_, .i32⟩
  | 109 => ⟨S32x50x16320, .i32⟩
  | 110 => ⟨S32x50x16320, .i32⟩
  | 111 => ⟨S_, .i32⟩
  | 112 => ⟨S32x16320, .i32⟩
  | 113 => ⟨S32x50x1, .i32⟩
  | 114 => ⟨S16320, .i32⟩
  | 115 => ⟨S1x1x16320, .i32⟩
  | 116 => ⟨S32x50x16320, .i32⟩
  | 117 => ⟨S32x50x16320, .i32⟩
  | 118 => ⟨S32x50x16320, .i1⟩
  | 119 => ⟨S50, .i32⟩
  | 120 => ⟨S1x50x1, .i32⟩
  | 121 => ⟨S_, .i32⟩
  | 122 => ⟨S_, .i32⟩
  | 123 => ⟨S32x50x16320, .i32⟩
  | 124 => ⟨S32x50x16320, .i32⟩
  | 125 => ⟨S32x50x16320, .i32⟩
  | 126 => ⟨S_, .i32⟩
  | 127 => ⟨S32x16320, .i32⟩
  | _ => ⟨S32x16320x4, .f32⟩

abbrev hbmTy0_1 (i : Nat) : BufTy := match i % 128 with
  | 0 => ⟨S_, .i32⟩
  | 1 => ⟨S32x16320, .i32⟩
  | 2 => ⟨S32x16320, .i1⟩
  | 3 => ⟨S_, .f32⟩
  | 4 => ⟨S_, .f32⟩
  | 5 => ⟨S32x16320, .f32⟩
  | 6 => ⟨S32x16320, .f32⟩
  | 7 => ⟨S_, .i32⟩
  | 8 => ⟨S32x16320, .i32⟩
  | 9 => ⟨S32x16320, .i1⟩
  | 10 => ⟨S32x16320, .i32⟩
  | 11 => ⟨S32x16320x1, .i32⟩
  | 12 => ⟨S_, .i32⟩
  | 13 => ⟨S32x16320x1, .i32⟩
  | 14 => ⟨S32x16320x1, .i1⟩
  | 15 => ⟨S_, .i32⟩
  | 16 => ⟨S32x16320x1, .i32⟩
  | 17 => ⟨S32x16320x1, .i32⟩
  | 18 => ⟨S32x16320x1, .i32⟩
  | 19 => ⟨S32x16320x5, .f32⟩
  | 20 => ⟨S_, .f32⟩
  | 21 => ⟨S32x16320, .f32⟩
  | 22 => ⟨S32x16320, .i1⟩
  | 23 => ⟨S32x16320x1, .f32⟩
  | 24 => ⟨S32x16320, .f32⟩
  | 25 => ⟨S32x16320, .i32⟩
  | 26 => ⟨S_, .i32⟩
  | 27 => ⟨S32x16320, .i32⟩
  | 28 => ⟨S32x16320, .i32⟩
  | 29 => ⟨S_, .i32⟩
  | 30 => ⟨S_, .i32⟩
  | 31 => ⟨S32x16320, .i32⟩
  | 32 => ⟨S32x16320, .i32⟩
  | 33 => ⟨S_, .i32⟩
  | 34 => ⟨S32x16320, .i32⟩
  | 35 => ⟨S32x16320, .i1⟩
  | 36 => ⟨S32x16320x1, .f32⟩
  | 37 => ⟨S32x16320, .f32⟩
  | 38 => ⟨S32x16320x1, .f32⟩
  | 39 => ⟨S32x16320, .f32⟩
  | 40 => ⟨S32x16320x1, .f32⟩
  | 41 => ⟨S32x16320, .f32⟩
  | 42 => ⟨S32x16320x1, .f32⟩
  | 43 => ⟨S32x16320, .f32⟩
  | 44 => ⟨S16320x1, .f32⟩
  | 45 => ⟨S16320, .f32⟩
  | 46 => ⟨S1x16320, .f32⟩
  | 47 => ⟨S16320x1, .f32⟩
  | 48 => ⟨S16320, .f32⟩
  | 49 => ⟨S1x16320, .f32⟩
  | 50 => ⟨S16320x1, .f32⟩
  | 51 => ⟨S16320, .f32⟩
  | 52 => ⟨S1x16320, .f32⟩
  | 53 => ⟨S16320x1, .f32⟩
  | 54 => ⟨S16320, .f32⟩
  | 55 => ⟨S1x16320, .f32⟩
  | 56 => ⟨S32x16320x1, .f32⟩
  | 57 => ⟨S32x16320, .f32⟩
  | 58 => ⟨S32x16320, .f32⟩
  | 59 => ⟨S_, .f32⟩
  | 60 => ⟨S32x16320, .f32⟩
  | 61 => ⟨S32x16320, .f32⟩
  | 62 => ⟨S32x16320, .f32⟩
  | 63 => ⟨S32x16320, .f32⟩
  | 64 => ⟨S_, .f32⟩
  | 65 => ⟨S1x16320, .f32⟩
  | 66 => ⟨S1x16320, .f32⟩
  | 67 => ⟨S32x16320, .f32⟩
  | 68 => ⟨S32x16320, .f32⟩
  | 69 => ⟨S32x16320, .f32⟩
  | 70 => ⟨S32x16320, .f32⟩
  | 71 => ⟨S_, .f32⟩
  | 72 => ⟨S32x16320, .f32⟩
  | 73 => ⟨S32x16320, .i1⟩
  | 74 => ⟨S_, .f32⟩
  | 75 => ⟨S32x16320, .f32⟩
  | 76 => ⟨S32x16320, .f32⟩
  | 77 => ⟨S32x16320, .f32⟩
  | 78 => ⟨S32x16320, .f32⟩
  | 79 => ⟨S_, .f32⟩
  | 80 => ⟨S32x16320, .f32⟩
  | 81 => ⟨S32x16320, .f32⟩
  | 82 => ⟨S32x16320, .f32⟩
  | 83 => ⟨S32x16320x1, .f32⟩
  | 84 => ⟨S32x16320, .f32⟩
  | 85 => ⟨S32x16320, .f32⟩
  | 86 => ⟨S_, .f32⟩
  | 87 => ⟨S32x16320, .f32⟩
  | 88 => ⟨S32x16320, .f32⟩
  | 89 => ⟨S32x16320, .f32⟩
  | 90 => ⟨S32x16320, .f32⟩
  | 91 => ⟨S_, .f32⟩
  | 92 => ⟨S1x16320, .f32⟩
  | 93 => ⟨S1x16320, .f32⟩
  | 94 => ⟨S32x16320, .f32⟩
  | 95 => ⟨S32x16320, .f32⟩
  | 96 => ⟨S32x16320, .f32⟩
  | 97 => ⟨S32x16320, .f32⟩
  | 98 => ⟨S_, .f32⟩
  | 99 => ⟨S32x16320, .f32⟩
  | 100 => ⟨S32x16320, .i1⟩
  | 101 => ⟨S_, .f32⟩
  | 102 => ⟨S32x16320, .f32⟩
  | 103 => ⟨S32x16320, .f32⟩
  | 104 => ⟨S32x16320, .f32⟩
  | 105 => ⟨S32x16320, .f32⟩
  | 106 => ⟨S_, .f32⟩
  | 107 => ⟨S32x16320, .f32⟩
  | 108 => ⟨S32x16320, .f32⟩
  | 109 => ⟨S32x16320, .f32⟩
  | 110 => ⟨S32x16320, .f32⟩
  | 111 => ⟨S32x16320x1, .f32⟩
  | 112 => ⟨S32x16320, .f32⟩
  | 113 => ⟨S32x16320, .f32⟩
  | 114 => ⟨S32x16320, .f32⟩
  | 115 => ⟨S32x16320, .f32⟩
  | 116 => ⟨S32x16320, .f32⟩
  | 117 => ⟨S_, .f32⟩
  | 118 => ⟨S32x16320, .f32⟩
  | 119 => ⟨S32x16320, .f32⟩
  | 120 => ⟨S32x16320, .f32⟩
  | 121 => ⟨S32x16320, .f32⟩
  | 122 => ⟨S_, .f32⟩
  | 123 => ⟨S32x16320, .f32⟩
  | 124 => ⟨S32x16320, .i1⟩
  | 125 => ⟨S_, .f32⟩
  | 126 => ⟨S32x16320, .f32⟩
  | 127 => ⟨S32x16320, .f32⟩
  | _ => ⟨S32x16320x4, .f32⟩

abbrev hbmTy0_2 (i : Nat) : BufTy := match i % 128 with
  | 0 => ⟨S32x16320, .f32⟩
  | 1 => ⟨S32x16320, .f32⟩
  | 2 => ⟨S_, .f32⟩
  | 3 => ⟨S32x16320, .f32⟩
  | 4 => ⟨S32x16320, .f32⟩
  | 5 => ⟨S32x16320, .f32⟩
  | 6 => ⟨S32x16320, .f32⟩
  | 7 => ⟨S32x16320x1, .f32⟩
  | 8 => ⟨S32x16320, .f32⟩
  | 9 => ⟨S32x16320, .f32⟩
  | 10 => ⟨S32x16320, .f32⟩
  | 11 => ⟨S32x16320, .f32⟩
  | 12 => ⟨S32x16320, .f32⟩
  | 13 => ⟨S_, .f32⟩
  | 14 => ⟨S32x16320, .f32⟩
  | 15 => ⟨S32x16320, .f32⟩
  | 16 => ⟨S32x16320, .f32⟩
  | 17 => ⟨S32x16320, .f32⟩
  | 18 => ⟨S_, .f32⟩
  | 19 => ⟨S32x16320, .f32⟩
  | 20 => ⟨S32x16320, .i1⟩
  | 21 => ⟨S_, .f32⟩
  | 22 => ⟨S32x16320, .f32⟩
  | 23 => ⟨S32x16320, .f32⟩
  | 24 => ⟨S32x16320, .f32⟩
  | 25 => ⟨S32x16320, .f32⟩
  | 26 => ⟨S_, .f32⟩
  | 27 => ⟨S32x16320, .f32⟩
  | 28 => ⟨S32x16320, .f32⟩
  | 29 => ⟨S32x16320, .f32⟩
  | 30 => ⟨S32x16320, .f32⟩
  | 31 => ⟨S32x16320, .f32⟩
  | 32 => ⟨S32x16320, .f32⟩
  | 33 => ⟨S_, .f32⟩
  | 34 => ⟨S_, .f32⟩
  | 35 => ⟨S32x16320, .i32⟩
  | 36 => ⟨S_, .i32⟩
  | 37 => ⟨S_, .i32⟩
  | 38 => ⟨S_, .f32⟩
  | 39 => ⟨S_, .f32⟩
  | 40 => ⟨S_, .f32⟩
  | 41 => ⟨S_, .f32⟩
  | 42 => ⟨S32x16320, .f32⟩
  | 43 => ⟨S32x16320x1, .f32⟩
  | 44 => ⟨S32x16320x21, .f32⟩
  | 45 => ⟨S32x16320x21, .f32⟩
  | 46 => ⟨S32x16320x21, .f32⟩
  | 47 => ⟨S_, .f32⟩
  | 48 => ⟨S32x16320, .f32⟩
  | 49 => ⟨S32x16320x1, .f32⟩
  | 50 => ⟨S32x16320x1, .f32⟩
  | 51 => ⟨S32x16320x1, .f32⟩
  | 52 => ⟨S32x16320x21, .f32⟩
  | 53 => ⟨S32x16320x21, .f32⟩
  | 54 => ⟨S32x16320x1, .i32⟩
  | 55 => ⟨S_, .i32⟩
  | 56 => ⟨S32x16320x1, .i32⟩
  | 57 => ⟨S32x16320x1, .i1⟩
  | 58 => ⟨S_, .i32⟩
  | 59 => ⟨S32x16320x1, .i32⟩
  | 60 => ⟨S32x16320x1, .i32⟩
  | 61 => ⟨S32x16320x1, .i32⟩
  | 62 => ⟨S32x16320x1x1, .i32⟩
  | 63 => ⟨S32x16320x1, .f32⟩
  | 64 => ⟨S32x16320, .f32⟩
  | 65 => ⟨S32x16320, .f32⟩
  | 66 => ⟨S_, .f32⟩
  | 67 => ⟨S_, .f32⟩
  | 68 => ⟨S32x16320, .f32⟩
  | 69 => ⟨S32x16320, .f32⟩
  | 70 => ⟨S32x16320, .f32⟩
  | 71 => ⟨S32x16320, .i32⟩
  | 72 => ⟨S32x16320, .f32⟩
  | 73 => ⟨S32x16320, .i32⟩
  | 74 => ⟨S32x16320, .i32⟩
  | 75 => ⟨S32x16320, .i32⟩
  | 76 => ⟨S32x16320, .i32⟩
  | 77 => ⟨S32x16320, .i32⟩
  | 78 => ⟨S_, .i32⟩
  | 79 => ⟨S32, .i32⟩
  | 80 => ⟨S32x1, .i32⟩
  | 81 => ⟨S_, .i32⟩
  | 82 => ⟨S32x1, .i32⟩
  | 83 => ⟨S32x1, .i32⟩
  | 84 => ⟨S_, .i32⟩
  | 85 => ⟨S32x1, .i32⟩
  | 86 => ⟨S32x1, .i32⟩
  | 87 => ⟨S32x16320, .i32⟩
  | 88 => ⟨S32x16320, .i1⟩
  | 89 => ⟨S32x16320, .i1⟩
  | 90 => ⟨S_, .f32⟩
  | 91 => ⟨S_, .f32⟩
  | 92 => ⟨S32x16320, .f32⟩
  | 93 => ⟨S32x16320, .f32⟩
  | 94 => ⟨S_, .f32⟩
  | 95 => ⟨S_, .f32⟩
  | 96 => ⟨S_, .f32⟩
  | 97 => ⟨S_, .f32⟩
  | 98 => ⟨S_, .f32⟩
  | _ => ⟨S32x16320x4, .f32⟩

abbrev hbmTy (i : Nat) : BufTy := match i / 128 with
  | 0 => hbmTy0_0 i
  | 1 => hbmTy0_1 i
  | 2 => hbmTy0_2 i
  | _ => ⟨S32x16320x4, .f32⟩

abbrev bufTy : (tb : Table) → Fin (tcTables nBuf tb) → BufTy
  | .hbm, ⟨i, _⟩ => hbmTy i
  | _, _ => ⟨S32x16320x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_3 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_4 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_5 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_c : Ref sig .tc := ⟨.hbm, 93, rfl⟩
abbrev main_call0_v0 : Ref sig .tc := ⟨.hbm, 94, rfl⟩
abbrev main_call0_v1 : Ref sig .tc := ⟨.hbm, 95, rfl⟩
abbrev main_v80 : Ref sig .tc := ⟨.hbm, 96, rfl⟩
abbrev main_c_6 : Ref sig .tc := ⟨.hbm, 97, rfl⟩
abbrev main_v81 : Ref sig .tc := ⟨.hbm, 98, rfl⟩
abbrev main_cst_7 : Ref sig .tc := ⟨.hbm, 99, rfl⟩
abbrev main_v82 : Ref sig .tc := ⟨.hbm, 100, rfl⟩
abbrev main_v83 : Ref sig .tc := ⟨.hbm, 101, rfl⟩
abbrev main_cst_8 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_c_9 : Ref sig .tc := ⟨.hbm, 107, rfl⟩
abbrev main_call1_v0 : Ref sig .tc := ⟨.hbm, 108, rfl⟩
abbrev main_call1_v1 : Ref sig .tc := ⟨.hbm, 109, rfl⟩
abbrev main_v88 : Ref sig .tc := ⟨.hbm, 110, rfl⟩
abbrev main_c_10 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_c_11 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_v98 : Ref sig .tc := ⟨.hbm, 125, rfl⟩
abbrev main_c_12 : Ref sig .tc := ⟨.hbm, 126, rfl⟩
abbrev main_v99 : Ref sig .tc := ⟨.hbm, 127, rfl⟩
abbrev main_c_13 : Ref sig .tc := ⟨.hbm, 128, rfl⟩
abbrev main_v100 : Ref sig .tc := ⟨.hbm, 129, rfl⟩
abbrev main_v101 : Ref sig .tc := ⟨.hbm, 130, rfl⟩
abbrev main_cst_14 : Ref sig .tc := ⟨.hbm, 131, rfl⟩
abbrev main_call3_v0 : Ref sig .tc := ⟨.hbm, 132, rfl⟩
abbrev main_call3_v1 : Ref sig .tc := ⟨.hbm, 133, rfl⟩
abbrev main_v102 : Ref sig .tc := ⟨.hbm, 134, rfl⟩
abbrev main_c_15 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_call5_c : Ref sig .tc := ⟨.hbm, 140, rfl⟩
abbrev main_call5_v0 : Ref sig .tc := ⟨.hbm, 141, rfl⟩
abbrev main_call5_v1 : Ref sig .tc := ⟨.hbm, 142, rfl⟩
abbrev main_call5_c_0 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_v107 : Ref sig .tc := ⟨.hbm, 147, rfl⟩
abbrev main_cst_16 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_c_17 : Ref sig .tc := ⟨.hbm, 154, rfl⟩
abbrev main_v113 : Ref sig .tc := ⟨.hbm, 155, rfl⟩
abbrev main_v114 : Ref sig .tc := ⟨.hbm, 156, rfl⟩
abbrev main_c_18 : Ref sig .tc := ⟨.hbm, 157, rfl⟩
abbrev main_call6_v0 : Ref sig .tc := ⟨.hbm, 158, rfl⟩
abbrev main_call6_v1 : Ref sig .tc := ⟨.hbm, 159, rfl⟩
abbrev main_v115 : Ref sig .tc := ⟨.hbm, 160, rfl⟩
abbrev main_c_19 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_20 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_21 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_22 : Ref sig .tc := ⟨.hbm, 199, rfl⟩
abbrev main_v151 : Ref sig .tc := ⟨.hbm, 200, rfl⟩
abbrev main_v152 : Ref sig .tc := ⟨.hbm, 201, rfl⟩
abbrev main_cst_23 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_cst_24 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_cst_25 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_cst_26 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_cst_27 : Ref sig .tc := ⟨.hbm, 226, rfl⟩
abbrev main_v173 : Ref sig .tc := ⟨.hbm, 227, rfl⟩
abbrev main_v174 : Ref sig .tc := ⟨.hbm, 228, rfl⟩
abbrev main_cst_28 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_cst_29 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_cst_30 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_cst_31 : Ref sig .tc := ⟨.hbm, 250, rfl⟩
abbrev main_v193 : Ref sig .tc := ⟨.hbm, 251, rfl⟩
abbrev main_v194 : Ref sig .tc := ⟨.hbm, 252, rfl⟩
abbrev main_cst_32 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_cst_33 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_cst_34 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_cst_35 : Ref sig .tc := ⟨.hbm, 274, rfl⟩
abbrev main_v213 : Ref sig .tc := ⟨.hbm, 275, rfl⟩
abbrev main_v214 : Ref sig .tc := ⟨.hbm, 276, rfl⟩
abbrev main_cst_36 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_cst_37 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_cst_38 : Ref sig .tc := ⟨.hbm, 289, rfl⟩
abbrev main_v225 : Ref sig .tc := ⟨.hbm, 290, rfl⟩
abbrev main_v226 : Ref sig .tc := ⟨.hbm, 291, rfl⟩
abbrev main_c_39 : Ref sig .tc := ⟨.hbm, 292, rfl⟩
abbrev main_v227 : Ref sig .tc := ⟨.hbm, 293, rfl⟩
abbrev main_v228 : Ref sig .tc := ⟨.hbm, 294, rfl⟩
abbrev main_cst_40 : Ref sig .tc := ⟨.hbm, 295, rfl⟩
abbrev main_v229 : Ref sig .tc := ⟨.hbm, 296, rfl⟩
abbrev main_cst_41 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_cst_42 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_call11_c : Ref sig .tc := ⟨.hbm, 311, rfl⟩
abbrev main_call11_v0 : Ref sig .tc := ⟨.hbm, 312, rfl⟩
abbrev main_call11_v1 : Ref sig .tc := ⟨.hbm, 313, rfl⟩
abbrev main_call11_c_0 : Ref sig .tc := ⟨.hbm, 314, rfl⟩
abbrev main_call11_v2 : Ref sig .tc := ⟨.hbm, 315, rfl⟩
abbrev main_call11_v3 : Ref sig .tc := ⟨.hbm, 316, rfl⟩
abbrev main_call11_v4 : Ref sig .tc := ⟨.hbm, 317, rfl⟩
abbrev main_call11_v5 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_cst_43 : Ref sig .tc := ⟨.hbm, 322, rfl⟩
abbrev main_call12_v0 : Ref sig .tc := ⟨.hbm, 323, rfl⟩
abbrev main_call12_v1 : Ref sig .tc := ⟨.hbm, 324, rfl⟩
abbrev main_v245 : Ref sig .tc := ⟨.hbm, 325, rfl⟩
abbrev main_v246 : Ref sig .tc := ⟨.hbm, 326, rfl⟩
abbrev main_call13_v0 : Ref sig .tc := ⟨.hbm, 327, rfl⟩
abbrev main_call13_v1_0 : Ref sig .tc := ⟨.hbm, 328, rfl⟩
abbrev main_v247 : Ref sig .tc := ⟨.hbm, 329, rfl⟩
abbrev main_call14_v0 : Ref sig .tc := ⟨.hbm, 330, rfl⟩
abbrev main_call14_v1_0 : Ref sig .tc := ⟨.hbm, 331, rfl⟩
abbrev main_v248 : Ref sig .tc := ⟨.hbm, 332, rfl⟩
abbrev main_v249 : Ref sig .tc := ⟨.hbm, 333, rfl⟩
abbrev main_c_44 : Ref sig .tc := ⟨.hbm, 334, rfl⟩
abbrev main_v250 : Ref sig .tc := ⟨.hbm, 335, rfl⟩
abbrev main_v251 : Ref sig .tc := ⟨.hbm, 336, rfl⟩
abbrev main_c_45 : Ref sig .tc := ⟨.hbm, 337, rfl⟩
abbrev main_v252 : Ref sig .tc := ⟨.hbm, 338, rfl⟩
abbrev main_v253 : Ref sig .tc := ⟨.hbm, 339, rfl⟩
abbrev main_c_46 : Ref sig .tc := ⟨.hbm, 340, rfl⟩
abbrev main_v254 : Ref sig .tc := ⟨.hbm, 341, rfl⟩
abbrev main_v255 : Ref sig .tc := ⟨.hbm, 342, rfl⟩
abbrev main_v256 : Ref sig .tc := ⟨.hbm, 343, rfl⟩
abbrev main_v257 : Ref sig .tc := ⟨.hbm, 344, rfl⟩
abbrev main_v258 : Ref sig .tc := ⟨.hbm, 345, rfl⟩
abbrev main_cst_47 : Ref sig .tc := ⟨.hbm, 346, rfl⟩
abbrev main_call15_v0 : Ref sig .tc := ⟨.hbm, 347, rfl⟩
abbrev main_call15_v1 : Ref sig .tc := ⟨.hbm, 348, rfl⟩
abbrev main_v259 : Ref sig .tc := ⟨.hbm, 349, rfl⟩
abbrev main_cst_48 : Ref sig .tc := ⟨.hbm, 350, rfl⟩
abbrev main_v260 : Ref sig .tc := ⟨.hbm, 351, rfl⟩
abbrev main_v261 : Ref sig .tc := ⟨.hbm, 352, rfl⟩
abbrev main_v262 : Ref sig .tc := ⟨.hbm, 353, rfl⟩
abbrev main_v263 : Ref sig .tc := ⟨.hbm, 354, rfl⟩

abbrev nD : Nat := 1
abbrev τ : Topo := Topo.v7x

variable {F : FTy → Type} [FloatOps F]
-- ==== Proof.Body.lean ====
/-
  The kernel's body written with loops: one program over the eleven memrefs of a launch, generic in
  the program's signature and in the arithmetic. The printed bodies (fully unrolled) are shown equal
  to it in other modules; everything else is proved about this text.
-/
module

public import Idealize.ShloMosaic.Lib.Pipeline
public import Idealize.ShloMosaic.Lib.Scf
public import Idealize.ShloMosaic.PureOps

@[expose] public section

noncomputable section

namespace Cert.Body

open Idealize.ShloMosaic Idealize.SL.Sem

universe v

/-- Two programs are equal when their walks are. -/
theorem eq_of_walk {E : Type → Type v} {α : Type} (p q : Prog E α)
    (h : (@Prog.rec E α (fun _ => Prog E α) (fun a => Prog.ret a) (fun e _ ih => Prog.op e ih) p)
       = (@Prog.rec E α (fun _ => Prog E α) (fun a => Prog.ret a) (fun e _ ih => Prog.op e ih) q)) : p = q := by
  have key : ∀ p : Prog E α, (@Prog.rec E α (fun _ => Prog E α) (fun a => Prog.ret a) (fun e _ ih => Prog.op e ih) p) = p := by
    intro p
    induction p with
    | ret a => rfl
    | op e k ih => exact congrArg (Prog.op e) (funext ih)
  rw [key, key] at h
  exact h

/-! ## Shapes -/

abbrev S1x21x128x128 : Shape := ⟨4, ![1, 21, 128, 128]⟩
abbrev S1x4x128x128 : Shape := ⟨4, ![1, 4, 128, 128]⟩
abbrev S4x128x128 : Shape := ⟨3, ![4, 128, 128]⟩
abbrev S1x50x5 : Shape := ⟨3, ![1, 50, 5]⟩
abbrev S1x8x128 : Shape := ⟨3, ![1, 8, 128]⟩
abbrev S50x128x128 : Shape := ⟨3, ![50, 128, 128]⟩
abbrev S128x128 : Shape := ⟨2, ![128, 128]⟩
abbrev S64x128 : Shape := ⟨2, ![64, 128]⟩
abbrev S128x1 : Shape := ⟨2, ![128, 1]⟩
abbrev S1x1x1 : Shape := ⟨3, ![1, 1, 1]⟩
abbrev S1x1 : Shape := ⟨2, ![1, 1]⟩
abbrev S32x128 : Shape := ⟨2, ![32, 128]⟩
abbrev S1x32x128 : Shape := ⟨3, ![1, 32, 128]⟩
abbrev S1x128x128 : Shape := ⟨3, ![1, 128, 128]⟩
abbrev S128 : Shape := ⟨1, ![128]⟩
abbrev S1x128 : Shape := ⟨2, ![1, 128]⟩
abbrev S50x128 : Shape := ⟨2, ![50, 128]⟩
abbrev S50 : Shape := ⟨1, ![50]⟩
abbrev S50x1 : Shape := ⟨2, ![50, 1]⟩
abbrev S1x1x32x128 : Shape := ⟨4, ![1, 1, 32, 128]⟩
abbrev S32x1 : Shape := ⟨2, ![32, 1]⟩
abbrev S1 : Shape := ⟨1, ![1]⟩
abbrev S8x128 : Shape := ⟨2, ![8, 128]⟩

variable {F : FTy → Type} [FloatOps F]

/-! ## The pure steps -/

/-- One truth: its corners and its label, each a one-element vector. -/
structure Tx (F : FTy → Type) where
  x1 : FVec F S1x1 .f32
  y1 : FVec F S1x1 .f32
  x2 : FVec F S1x1 .f32
  y2 : FVec F S1x1 .f32
  lab : FVec F S1x1 .f32

abbrev k32 (b : BitVec 32) : FVec F S32x128 .f32 := broadcast S32x128 (Scalar.ofBits .f32 b : F .f32)
abbrev k128 (b : BitVec 32) : FVec F S128x128 .f32 := broadcast S128x128 (Scalar.ofBits .f32 b : F .f32)
abbrev k1 (b : BitVec 32) : FVec F S1x1 .f32 := broadcast S1x1 (Scalar.ofBits .f32 b : F .f32)
abbrev up32 (x : FVec F S1x1 .f32) : FVec F S32x128 .f32 := broadcastTo S32x128 x (by decide)
abbrev up128 (x : FVec F S1x1 .f32) : FVec F S128x128 .f32 := broadcastTo S128x128 x (by decide)
/-- A one-element vector spread over a chunk, as the printed text spreads a `select`'s operand. -/
abbrev upc (x : FVec F S1x1 .f32) : FVec F S32x128 .f32 := up32 (shapeCast S1x1 x (by decide))

/-- The position of each element of a chunk, as a float. -/
def iotaJ : FVec F S32x128 .f32 :=
  sitofp .f32 (addi (muli (iota .tc S32x128 32 [0] (by decide)) (broadcast S32x128 (128#32 : BitVec 32)))
    (iota .tc S32x128 32 [1] (by decide)))

/-- The position of each prior, as a float. -/
def pFull : FVec F S128x128 .f32 :=
  sitofp .f32 (addi (muli (iota .tc S128x128 32 [0] (by decide)) (broadcast S128x128 (128#32 : BitVec 32)))
    (iota .tc S128x128 32 [1] (by decide)))

/-- A chunk's priors by their corners, with their areas. -/
structure Box (F : FTy → Type) where
  x1 : FVec F S32x128 .f32
  y1 : FVec F S32x128 .f32
  x2 : FVec F S32x128 .f32
  y2 : FVec F S32x128 .f32
  area : FVec F S32x128 .f32

def boxOf (cx cy w h : FVec F S32x128 .f32) : Box F :=
  let x1 := subf cx (mulf w (k32 0x3F000000#32))
  let y1 := subf cy (mulf h (k32 0x3F000000#32))
  let x2 := addf cx (mulf w (k32 0x3F000000#32))
  let y2 := addf cy (mulf h (k32 0x3F000000#32))
  ⟨x1, y1, x2, y2, mulf (subf x2 x1) (subf y2 y1)⟩

/-- The overlap of a chunk's priors with one truth. -/
def ovVec (b : Box F) (t : Tx F) : FVec F S32x128 .f32 :=
  let iw := maximumf (subf (minimumf b.x2 (up32 t.x2)) (maximumf b.x1 (up32 t.x1))) (k32 0x00000000#32)
  let ih := maximumf (subf (minimumf b.y2 (up32 t.y2)) (maximumf b.y1 (up32 t.y1))) (k32 0x00000000#32)
  let inter := mulf iw ih
  divf inter (subf (addf (up32 (mulf (subf t.x2 t.x1) (subf t.y2 t.y1))) b.area) inter)

/-- What a chunk's matching carries from truth to truth. -/
structure Acc (F : FTy → Type) where
  bto : FVec F S32x128 .f32
  x1 : FVec F S32x128 .f32
  y1 : FVec F S32x128 .f32
  x2 : FVec F S32x128 .f32
  y2 : FVec F S32x128 .f32
  lab : FVec F S32x128 .f32

def acc0 : Acc F :=
  ⟨k32 0xBF800000#32, k32 0x00000000#32, k32 0x00000000#32, k32 0x00000000#32, k32 0x00000000#32, k32 0x00000000#32⟩

def matchStep (base : BitVec 32) (t : Tx F) (bp : FVec F S1x1 .f32) (ov : FVec F S32x128 .f32) (a : Acc F) : Acc F :=
  let ovf := select (cmpf .oeq iotaJ (up32 (subf bp (k1 base)))) (k32 0x40000000#32) ov
  let upd := cmpf .oge ovf a.bto
  ⟨select upd ovf a.bto, select upd (upc t.x1) a.x1, select upd (upc t.y1) a.y1, select upd (upc t.x2) a.x2,
    select upd (upc t.y2) a.y2, select upd (upc t.lab) a.lab⟩

def posOf (a : Acc F) : IVec S32x128 1 := cmpf .oge a.bto (k32 0x3F000000#32)

def recip (w : FVec F S32x128 .f32) : FVec F S32x128 .f32 := divf (k32 0x3F800000#32) w

def gCen (lo hi c r : FVec F S32x128 .f32) : FVec F S32x128 .f32 :=
  mulf (subf (mulf (addf lo hi) (k32 0x3F000000#32)) c) (mulf (k32 0x41200000#32) r)

def gLog (lo hi r : FVec F S32x128 .f32) : FVec F S32x128 .f32 :=
  mulf (log (mulf (subf hi lo) r)) (k32 0x40A00000#32)

def sl1Of (l g : FVec F S32x128 .f32) : FVec F S32x128 .f32 :=
  let d := subf l g
  let ad := absf d
  select (cmpf .olt ad (k32 0x3F800000#32)) (mulf (mulf (k32 0x3F000000#32) d) d) (subf ad (k32 0x3F000000#32))

/-- What a chunk's walk over the classes carries: the sum of exponentials, the gathered entry. -/
structure Cls (F : FTy → Type) where
  s : FVec F S32x128 .f32
  g : FVec F S32x128 .f32

def cls0 : Cls F := ⟨k32 0x00000000#32, k32 0x00000000#32⟩

def clsStep (ct : FVec F S32x128 .f32) (b : BitVec 32) (cc : FVec F S32x128 .f32) (a : Cls F) : Cls F :=
  ⟨addf a.s (exp cc), select (cmpf .oeq ct (k32 b)) cc a.g⟩

/-- The three sums a body keeps over its chunks. -/
structure Sums (F : FTy → Type) where
  ll : FVec F S32x128 .f32
  lp : FVec F S32x128 .f32
  np : FVec F S32x128 .f32

def sums0 : Sums F := ⟨k32 0x00000000#32, k32 0x00000000#32, k32 0x00000000#32⟩

def ones : FVec F S128x1 .f32 := broadcast S128x1 (Scalar.ofBits .f32 0x3F800000#32 : F .f32)

def dot32 : DotDims S32x128 S128x1 S32x1 where
  lhsContracting := [1]
  rhsContracting := [0]
  lhsNonContracting := [0]
  rhsNonContracting := [1]
  lhsBatch := []
  rhsBatch := []
  wf := by decide

def dot128 : DotDims S128x128 S128x1 S128x1 where
  lhsContracting := [1]
  rhsContracting := [0]
  lhsNonContracting := [0]
  rhsNonContracting := [1]
  lhsBatch := []
  rhsBatch := []
  wf := by decide

def laneSum32 (x : FVec F S32x128 .f32) : FVec F S1x1 .f32 :=
  shapeCast S1x1 (multiReduction .add [0] S1 (matmul dot32 none x ones (constant S32x1 .f32 0x00000000#32))
    0x00000000#32 (by decide) (.inl rfl) rfl) (by decide)

def laneSum128 (x : FVec F S128x128 .f32) : FVec F S1x1 .f32 :=
  shapeCast S1x1 (multiReduction .add [0] S1 (matmul dot128 none x ones (constant S128x1 .f32 0x00000000#32))
    0x00000000#32 (by decide) (.inl rfl) rfl) (by decide)

/-- One entry of a round's count: one where at least `k` entries reach the threshold. -/
def hitOf (lc : FVec F S128x128 .f32) (k lo span : FVec F S1x1 .f32) (b : BitVec 32) : FVec F S1x1 .f32 :=
  select (cmpf .oge (laneSum128 (select (cmpf .oge lc (up128 (addf lo (mulf span (k1 b)))))
    (k128 0x3F800000#32) (k128 0x00000000#32))) k) (k1 0x3F800000#32) (k1 0x00000000#32)

/-- The sixteenths as words. -/
def sixteenths : List (BitVec 32) :=
  [0x3D800000#32, 0x3E000000#32, 0x3E400000#32, 0x3E800000#32, 0x3EA00000#32, 0x3EC00000#32, 0x3EE00000#32,
   0x3F000000#32, 0x3F100000#32, 0x3F200000#32, 0x3F300000#32, 0x3F400000#32, 0x3F500000#32, 0x3F600000#32,
   0x3F700000#32]

def hits (lc : FVec F S128x128 .f32) (k lo span : FVec F S1x1 .f32) : List (BitVec 32) → FVec F S1x1 .f32 → FVec F S1x1 .f32
  | [], js => js
  | b :: bs, js => hits lc k lo span bs (addf js (hitOf lc k lo span b))

/-- A search's bracket: its lower end and its width. -/
structure Br (F : FTy → Type) where
  lo : FVec F S1x1 .f32
  span : FVec F S1x1 .f32

def round (lc : FVec F S128x128 .f32) (k : FVec F S1x1 .f32) (r : Br F) : Br F :=
  ⟨addf r.lo (mulf r.span (mulf (hits lc k r.lo r.span sixteenths (k1 0x00000000#32)) (k1 0x3D800000#32))),
   mulf r.span (k1 0x3D800000#32)⟩

def rounds (lc : FVec F S128x128 .f32) (k : FVec F S1x1 .f32) : Nat → Br F → Br F
  | 0, r => r
  | n + 1, r => rounds lc k n (round lc k r)

def maxAll (lc : FVec F S128x128 .f32) : FVec F S1x1 .f32 :=
  shapeCast S1x1 (multiReduction .maximumf [1] S1 (shapeCast S1x128 (multiReduction .maximumf [0] S128 lc
    0xFF800000#32 (by decide) (.inl rfl) rfl) (by decide)) 0xFF800000#32 (by decide) (.inl rfl) rfl) (by decide)

def kOf (np : FVec F S1x1 .f32) : FVec F S1x1 .f32 := minimumf (mulf (k1 0x40400000#32) np) (k1 0x467EFC00#32)

def topk (lc : FVec F S128x128 .f32) (k : FVec F S1x1 .f32) : FVec F S1x1 .f32 :=
  let thr := (rounds lc k 4 ⟨k1 0x00000000#32, maxAll lc⟩).lo
  let gt := select (cmpf .ogt lc (up128 thr)) (k128 0x3F800000#32) (k128 0x00000000#32)
  addf (laneSum128 (mulf gt lc)) (mulf (subf k (laneSum128 gt)) thr)

def outVec (x : FVec F S1x1 .f32) : FVec F S1x8x128 .f32 :=
  shapeCast S1x8x128 (broadcastTo S8x128 (shapeCast S1x1 x (by decide)) (by decide) : FVec F S8x128 .f32) (by decide)

/-- A row of the maxima: for each lane the largest overlap of the truth. -/
def rowMax (x : FVec F S1x128x128 .f32) : FVec F S1x128 .f32 :=
  shapeCast S1x128 (shapeCast S1x128 (multiReduction .maximumf [0] S128 (shapeCast S128x128 x (by decide)) 0xFF800000#32
    (by decide) (.inl rfl) rfl) (by decide)) (by decide)

/-- A row of the candidates: for each lane the first prior at which the truth's overlap is `m`. -/
def rowCand (x : FVec F S1x128x128 .f32) (m : FVec F S1x1 .f32) : FVec F S1x128 .f32 :=
  shapeCast S1x128 (shapeCast S1x128 (multiReduction .minimumf [0] S128 (select (cmpf .oeq (shapeCast S128x128 x (by decide))
    (up128 m)) pFull (k128 0x7F61B1E6#32)) 0x7F800000#32 (by decide) (.inl rfl) rfl) (by decide)) (by decide)

def colMax (x : FVec F S50x128 .f32) : FVec F S50x1 .f32 :=
  shapeCast S50x1 (multiReduction .maximumf [1] S50 x 0xFF800000#32 (by decide) (.inl rfl) rfl) (by decide)

def colMin (x : FVec F S50x128 .f32) : FVec F S50x1 .f32 :=
  shapeCast S50x1 (multiReduction .minimumf [1] S50 x 0x7F800000#32 (by decide) (.inl rfl) rfl) (by decide)

theorem slices_col (t : Nat) (h : t < 50) : S50x1.Slices ![t, 0] S1x1 := by
  refine ⟨rfl, fun a => ?_⟩
  match a with
  | ⟨0, _⟩ => show t + 1 ≤ 50; omega
  | ⟨1, _⟩ => show 0 + 1 ≤ 1; omega

/-- Entry `t` of a column of fifty. -/
def entry (x : FVec F S50x1 .f32) (t : Nat) (h : t < 50) : FVec F S1x1 .f32 :=
  extractStridedSlice S1x1 ![t, 0] x (slices_col t h)

/-- The entries of a column from `t` on. -/
def entries (x : FVec F S50x1 .f32) : (n t : Nat) → t + n ≤ 50 → List (FVec F S1x1 .f32)
  | 0, _, _ => []
  | n + 1, t, h => entry x t (by omega) :: entries x n (t + 1) (by omega)

/-! ## The program -/

variable {nD : Nat} {τ : Topo} {sig : RefSig} {Λ : Labels}

/-- A load at unit strides. -/
abbrev ld {s : Shape} (m : Memref sig .tc .vmem s .f32) (off size : Fin s.rank → Nat)
    (inb : ∀ a, off a + size a ≤ s.size a) (h : 0 < (⟨s.rank, size⟩ : Shape).numel) :
    Prog (TpuEff nD τ sig (Elt F) Λ .tc) ((Rect.unit (s := s) off size inb).toLoadRect.shape.Idx → Elt F .f32) :=
  Prog.lift (.load m (Rect.unit (s := s) off size inb).toLoadRect (View.loadsAt_vmem h))

/-- An unmasked store at unit strides. -/
abbrev st {s : Shape} (m : Memref sig .tc .vmem s .f32) (off size : Fin s.rank → Nat)
    (inb : ∀ a, off a + size a ≤ s.size a) (h : 0 < (⟨s.rank, size⟩ : Shape).numel)
    (w : (Rect.unit (s := s) off size inb).shape.Idx → Elt F .f32) :
    Prog (TpuEff nD τ sig (Elt F) Λ .tc) PUnit :=
  Prog.lift (.store m (Rect.unit (s := s) off size inb) w Finset.univ (View.stores_vmem_bits_univ h rfl) (.inl rfl))

theorem inb_tx (t c : Nat) (ht : t < 50) (hc : c < 5) :
    ∀ a, (![0, t, c] : Fin 3 → Nat) a + S1x1x1.size a ≤ S1x50x5.size a := by
  intro a
  match a with
  | ⟨0, _⟩ => show 0 + 1 ≤ 1; omega
  | ⟨1, _⟩ => show t + 1 ≤ 50; omega
  | ⟨2, _⟩ => show c + 1 ≤ 5; omega

abbrev ldTx (m : Memref sig .tc .vmem S1x50x5 .f32) (t c : Nat) (ht : t < 50) (hc : c < 5) :
    Prog (TpuEff nD τ sig (Elt F) Λ .tc) (FVec F S1x1x1 .f32) :=
  ld m ![0, t, c] S1x1x1.size (inb_tx t c ht hc) (by decide)

abbrev sq (x : FVec F S1x1x1 .f32) : FVec F S1x1 .f32 := shapeCast S1x1 x (by decide)

def loadTx (m : Memref sig .tc .vmem S1x50x5 .f32) (t : Nat) (ht : t < 50) :
    Prog (TpuEff nD τ sig (Elt F) Λ .tc) (Tx F) := do
  let a ← ldTx m t 0 ht (by omega)
  let b ← ldTx m t 1 ht (by omega)
  let c ← ldTx m t 2 ht (by omega)
  let d ← ldTx m t 3 ht (by omega)
  let e ← ldTx m t 4 ht (by omega)
  pure ⟨sq a, sq b, sq c, sq d, sq e⟩

def loadTxs (m : Memref sig .tc .vmem S1x50x5 .f32) : (n t : Nat) → t + n ≤ 50 →
    Prog (TpuEff nD τ sig (Elt F) Λ .tc) (List (Tx F))
  | 0, _, _ => pure []
  | n + 1, t, h => do
      let x ← loadTx m t (by omega)
      let xs ← loadTxs m n (t + 1) (by omega)
      pure (x :: xs)

theorem inb_prior (j c : Nat) (hj : j < 4) (hc : c < 4) :
    ∀ a, (![j, 32 * c, 0] : Fin 3 → Nat) a + S1x32x128.size a ≤ S4x128x128.size a := by
  intro a
  match a with
  | ⟨0, _⟩ => show j + 1 ≤ 4; omega
  | ⟨1, _⟩ => show 32 * c + 32 ≤ 128; omega
  | ⟨2, _⟩ => show 0 + 128 ≤ 128; omega

abbrev ldPrior (m : Memref sig .tc .vmem S4x128x128 .f32) (j c : Nat) (hj : j < 4) (hc : c < 4) :
    Prog (TpuEff nD τ sig (Elt F) Λ .tc) (FVec F S1x32x128 .f32) :=
  ld m ![j, 32 * c, 0] S1x32x128.size (inb_prior j c hj hc) (by decide)

abbrev chunk (x : FVec F S1x32x128 .f32) : FVec F S32x128 .f32 := shapeCast S32x128 x (by decide)

theorem inb_ov (t c : Nat) (ht : t < 50) (hc : c < 4) :
    ∀ a, (![t, 32 * c, 0] : Fin 3 → Nat) a + S1x32x128.size a ≤ S50x128x128.size a := by
  intro a
  match a with
  | ⟨0, _⟩ => show t + 1 ≤ 50; omega
  | ⟨1, _⟩ => show 32 * c + 32 ≤ 128; omega
  | ⟨2, _⟩ => show 0 + 128 ≤ 128; omega

/-- One chunk's overlaps, truth by truth, into the overlap buffer. -/
def ovLoop (m : Memref sig .tc .vmem S50x128x128 .f32) (c : Nat) (hc : c < 4) (b : Box F) : (xs : List (Tx F)) → (t : Nat) →
    t + xs.length ≤ 50 → Prog (TpuEff nD τ sig (Elt F) Λ .tc) PUnit
  | [], _, _ => pure ⟨⟩
  | x :: xs, t, h => do
      have ht : t < 50 := by simp only [List.length_cons] at h; omega
      let _ ← ld (F := F) m ![t, 32 * c, 0] S1x32x128.size (inb_ov t c ht hc) (by decide)
      st (F := F) m ![t, 32 * c, 0] S1x32x128.size (inb_ov t c ht hc) (by decide)
        (shapeCast S1x32x128 (ovVec b x) (by decide))
      ovLoop m c hc b xs (t + 1) (by simp only [List.length_cons] at h; omega)

def ovChunk (m3 : Memref sig .tc .vmem S4x128x128 .f32) (m8 : Memref sig .tc .vmem S50x128x128 .f32) (xs : List (Tx F))
    (hx : 0 + xs.length ≤ 50) (c : Nat) (hc : c < 4) : Prog (TpuEff nD τ sig (Elt F) Λ .tc) PUnit := do
  let cx ← ldPrior m3 0 c (by omega) hc
  let cy ← ldPrior m3 1 c (by omega) hc
  let w ← ldPrior m3 2 c (by omega) hc
  let h ← ldPrior m3 3 c (by omega) hc
  ovLoop m8 c hc (boxOf (chunk cx) (chunk cy) (chunk w) (chunk h)) xs 0 hx

theorem inb_row (t : Nat) (ht : t < 50) :
    ∀ a, (![t, 0, 0] : Fin 3 → Nat) a + S1x128x128.size a ≤ S50x128x128.size a := by
  intro a
  match a with
  | ⟨0, _⟩ => show t + 1 ≤ 50; omega
  | ⟨1, _⟩ => show 0 + 128 ≤ 128; omega
  | ⟨2, _⟩ => show 0 + 128 ≤ 128; omega

theorem inb_lane (t : Nat) (ht : t < 50) :
    ∀ a, (![t, 0] : Fin 2 → Nat) a + S1x128.size a ≤ S64x128.size a := by
  intro a
  match a with
  | ⟨0, _⟩ => show t + 1 ≤ 64; omega
  | ⟨1, _⟩ => show 0 + 128 ≤ 128; omega

abbrev ldRow (m : Memref sig .tc .vmem S50x128x128 .f32) (t : Nat) (ht : t < 50) :
    Prog (TpuEff nD τ sig (Elt F) Λ .tc) (FVec F S1x128x128 .f32) :=
  ld m ![t, 0, 0] S1x128x128.size (inb_row t ht) (by decide)

abbrev stLane (m : Memref sig .tc .vmem S64x128 .f32) (t : Nat) (ht : t < 50) (w : FVec F S1x128 .f32) :
    Prog (TpuEff nD τ sig (Elt F) Λ .tc) PUnit := do
  let _ ← ld (F := F) m ![t, 0] S1x128.size (inb_lane t ht) (by decide)
  st (F := F) m ![t, 0] S1x128.size (inb_lane t ht) (by decide) w

def maxLoop (m8 : Memref sig .tc .vmem S50x128x128 .f32) (m10 : Memref sig .tc .vmem S64x128 .f32) :
    (n t : Nat) → t + n ≤ 50 → Prog (TpuEff nD τ sig (Elt F) Λ .tc) PUnit
  | 0, _, _ => pure ⟨⟩
  | n + 1, t, h => do
      let x ← ldRow (F := F) m8 t (by omega)
      stLane m10 t (by omega) (rowMax x)
      maxLoop m8 m10 n (t + 1) (by omega)

def candLoop (m8 : Memref sig .tc .vmem S50x128x128 .f32) (m11 : Memref sig .tc .vmem S64x128 .f32) (mc : FVec F S50x1 .f32) :
    (n t : Nat) → t + n ≤ 50 → Prog (TpuEff nD τ sig (Elt F) Λ .tc) PUnit
  | 0, _, _ => pure ⟨⟩
  | n + 1, t, h => do
      let x ← ldRow (F := F) m8 t (by omega)
      stLane m11 t (by omega) (rowCand x (entry mc t (by omega)))
      candLoop m8 m11 mc n (t + 1) (by omega)

abbrev ldCol (m : Memref sig .tc .vmem S64x128 .f32) : Prog (TpuEff nD τ sig (Elt F) Λ .tc) (FVec F S50x128 .f32) :=
  ld m ![0, 0] S50x128.size (by decide) (by decide)

/-- One chunk's matching, truth by truth. -/
def matchLoop (m : Memref sig .tc .vmem S50x128x128 .f32) (c : Nat) (hc : c < 4) (base : BitVec 32) :
    (xs : List (Tx F)) → (bs : List (FVec F S1x1 .f32)) → (t : Nat) →
    t + xs.length ≤ 50 → Acc F → Prog (TpuEff nD τ sig (Elt F) Λ .tc) (Acc F)
  | [], _, _, _, a => pure a
  | _ :: _, [], _, _, a => pure a
  | x :: xs, b :: bs, t, h, a => do
      have ht : t < 50 := by simp only [List.length_cons] at h; omega
      let ov ← ld (F := F) m ![t, 32 * c, 0] S1x32x128.size (inb_ov t c ht hc) (by decide)
      matchLoop m c hc base xs bs (t + 1) (by simp only [List.length_cons] at h; omega)
        (matchStep base x b (chunk ov) a)

theorem inb_loc (j c : Nat) (hj : j < 4) (hc : c < 4) :
    ∀ a, (![0, j, 32 * c, 0] : Fin 4 → Nat) a + S1x1x32x128.size a ≤ S1x4x128x128.size a := by
  intro a
  match a with
  | ⟨0, _⟩ => show 0 + 1 ≤ 1; omega
  | ⟨1, _⟩ => show j + 1 ≤ 4; omega
  | ⟨2, _⟩ => show 32 * c + 32 ≤ 128; omega
  | ⟨3, _⟩ => show 0 + 128 ≤ 128; omega

theorem inb_conf (j c : Nat) (hj : j < 21) (hc : c < 4) :
    ∀ a, (![0, j, 32 * c, 0] : Fin 4 → Nat) a + S1x1x32x128.size a ≤ S1x21x128x128.size a := by
  intro a
  match a with
  | ⟨0, _⟩ => show 0 + 1 ≤ 1; omega
  | ⟨1, _⟩ => show j + 1 ≤ 21; omega
  | ⟨2, _⟩ => show 32 * c + 32 ≤ 128; omega
  | ⟨3, _⟩ => show 0 + 128 ≤ 128; omega

abbrev chunk4 (x : FVec F S1x1x32x128 .f32) : FVec F S32x128 .f32 := shapeCast S32x128 x (by decide)

abbrev ldLoc (m : Memref sig .tc .vmem S1x4x128x128 .f32) (j c : Nat) (hj : j < 4) (hc : c < 4) :
    Prog (TpuEff nD τ sig (Elt F) Λ .tc) (FVec F S1x1x32x128 .f32) :=
  ld m ![0, j, 32 * c, 0] S1x1x32x128.size (inb_loc j c hj hc) (by decide)

def clsLoop (m : Memref sig .tc .vmem S1x21x128x128 .f32) (c : Nat) (hc : c < 4) (ct : FVec F S32x128 .f32) :
    (bs : List (BitVec 32)) → (j : Nat) → j + bs.length ≤ 21 → Cls F → Prog (TpuEff nD τ sig (Elt F) Λ .tc) (Cls F)
  | [], _, _, a => pure a
  | b :: bs, j, h, a => do
      have hj : j < 21 := by simp only [List.length_cons] at h; omega
      let cc ← ld (F := F) m ![0, j, 32 * c, 0] S1x1x32x128.size (inb_conf j c hj hc) (by decide)
      clsLoop m c hc ct bs (j + 1) (by simp only [List.length_cons] at h; omega) (clsStep ct b (chunk4 cc) a)

/-- The class numbers as words. -/
def classBits : List (BitVec 32) :=
  [0x00000000#32, 0x3F800000#32, 0x40000000#32, 0x40400000#32, 0x40800000#32, 0x40A00000#32, 0x40C00000#32, 0x40E00000#32,
   0x41000000#32, 0x41100000#32, 0x41200000#32, 0x41300000#32, 0x41400000#32, 0x41500000#32, 0x41600000#32, 0x41700000#32,
   0x41800000#32, 0x41880000#32, 0x41900000#32, 0x41980000#32, 0x41A00000#32]

theorem inb_lc (c : Nat) (hc : c < 4) :
    ∀ a, (![32 * c, 0] : Fin 2 → Nat) a + S32x128.size a ≤ S128x128.size a := by
  intro a
  match a with
  | ⟨0, _⟩ => show 32 * c + 32 ≤ 128; omega
  | ⟨1, _⟩ => show 0 + 128 ≤ 128; omega

def posfOf (pos : IVec S32x128 1) : FVec F S32x128 .f32 := select pos (k32 0x3F800000#32) (k32 0x00000000#32)

def lossC (r : Cls F) : FVec F S32x128 .f32 := subf (log r.s) r.g

def deadLoss (pos : IVec S32x128 1) (lim : BitVec 32) (l : FVec F S32x128 .f32) : FVec F S32x128 .f32 :=
  select (ori pos (cmpf .oge (iotaJ (F := F)) (k32 lim))) (k32 0x00000000#32) l

/-- The smooth L1 loss of a chunk from its four components. -/
def sl1Sum (l0 l1 l2 l3 g0 g1 g2 g3 : FVec F S32x128 .f32) : FVec F S32x128 .f32 :=
  addf (addf (addf (addf (k32 0x00000000#32) (sl1Of l0 g0)) (sl1Of l1 g1)) (sl1Of l2 g2)) (sl1Of l3 g3)

/-- One chunk of the loss: matching, localisation, classes; the three sums and the row of candidates for the search. -/
def lossChunk (m1 : Memref sig .tc .vmem S1x21x128x128 .f32) (m2 : Memref sig .tc .vmem S1x4x128x128 .f32)
    (m3 : Memref sig .tc .vmem S4x128x128 .f32) (m8 : Memref sig .tc .vmem S50x128x128 .f32)
    (m9 : Memref sig .tc .vmem S128x128 .f32) (xs : List (Tx F)) (hx : 0 + xs.length ≤ 50) (bs : List (FVec F S1x1 .f32))
    (c : Nat) (hc : c < 4) (base lim : BitVec 32) (a : Sums F) : Prog (TpuEff nD τ sig (Elt F) Λ .tc) (Sums F) := do
  let r ← matchLoop m8 c hc base xs bs 0 hx acc0
  let cx ← ldPrior m3 0 c (by omega) hc
  let cy ← ldPrior m3 1 c (by omega) hc
  let w ← ldPrior m3 2 c (by omega) hc
  let h ← ldPrior m3 3 c (by omega) hc
  let l0 ← ldLoc m2 0 c (by omega) hc
  let l1 ← ldLoc m2 1 c (by omega) hc
  let l2 ← ldLoc m2 2 c (by omega) hc
  let l3 ← ldLoc m2 3 c (by omega) hc
  let q ← clsLoop m1 c hc (select (posOf r) (addf r.lab (k32 0x3F800000#32)) (k32 0x00000000#32)) classBits 0 (by decide) cls0
  let _ ← ld (F := F) m9 ![32 * c, 0] S32x128.size (inb_lc c hc) (by decide)
  st (F := F) m9 ![32 * c, 0] S32x128.size (inb_lc c hc) (by decide)
    (shapeCast S32x128 (deadLoss (posOf r) lim (lossC q)) (by decide))
  pure ⟨addf a.ll (select (posOf r)
      (sl1Sum (chunk4 l0) (chunk4 l1) (chunk4 l2) (chunk4 l3)
        (gCen r.x1 r.x2 (chunk cx) (recip (chunk w))) (gCen r.y1 r.y2 (chunk cy) (recip (chunk h)))
        (gLog r.x1 r.x2 (recip (chunk w))) (gLog r.y1 r.y2 (recip (chunk h)))) (k32 0x00000000#32)),
    addf a.lp (mulf (posfOf (posOf r)) (lossC q)), addf a.np (posfOf (posOf r))⟩

abbrev stOut (m : Memref sig .tc .vmem S1x8x128 .f32) (w : FVec F S1x8x128 .f32) :
    Prog (TpuEff nD τ sig (Elt F) Λ .tc) PUnit := do
  let _ ← ld (F := F) m ![0, 0, 0] S1x8x128.size (by decide) (by decide)
  st (F := F) m ![0, 0, 0] S1x8x128.size (by decide) (by decide) w

/-- What the sums and the search leave in the three outputs. -/
def tail (m5 m6 m7 : Memref sig .tc .vmem S1x8x128 .f32) (m9 : Memref sig .tc .vmem S128x128 .f32) (a : Sums F) :
    Prog (TpuEff nD τ sig (Elt F) Λ .tc) PUnit := do
  let lc : FVec F S128x128 .f32 ← ld (F := F) m9 ![0, 0] S128x128.size (by decide) (by decide)
  stOut m5 (outVec (laneSum32 a.ll))
  stOut m6 (outVec (addf (laneSum32 a.lp) (topk lc (kOf (laneSum32 a.np)))))
  stOut m7 (outVec (laneSum32 a.np))

/-- The rest of the body once the truths are loaded. -/
def main (m1 : Memref sig .tc .vmem S1x21x128x128 .f32) (m2 : Memref sig .tc .vmem S1x4x128x128 .f32)
    (m3 : Memref sig .tc .vmem S4x128x128 .f32) (m5 m6 m7 : Memref sig .tc .vmem S1x8x128 .f32)
    (m8 : Memref sig .tc .vmem S50x128x128 .f32) (m9 : Memref sig .tc .vmem S128x128 .f32)
    (m10 m11 : Memref sig .tc .vmem S64x128 .f32) (xs : List (Tx F)) (hx : 0 + xs.length ≤ 50) :
    Prog (TpuEff nD τ sig (Elt F) Λ .tc) PUnit := do
  ovChunk m3 m8 xs hx 0 (by omega)
  ovChunk m3 m8 xs hx 1 (by omega)
  ovChunk m3 m8 xs hx 2 (by omega)
  ovChunk m3 m8 xs hx 3 (by omega)
  maxLoop (F := F) m8 m10 50 0 (by omega)
  let mx ← ldCol m10
  candLoop m8 m11 (colMax mx) 50 0 (by omega)
  let cd ← ldCol m11
  let bs := entries (colMin cd) 50 0 (by omega)
  let a ← lossChunk m1 m2 m3 m8 m9 xs hx bs 0 (by omega) 0x00000000#32 0x467F0000#32 sums0
  let a ← lossChunk m1 m2 m3 m8 m9 xs hx bs 1 (by omega) 0x45800000#32 0x463F0000#32 a
  let a ← lossChunk m1 m2 m3 m8 m9 xs hx bs 2 (by omega) 0x46000000#32 0x45FE0000#32 a
  let a ← lossChunk m1 m2 m3 m8 m9 xs hx bs 3 (by omega) 0x46400000#32 0x457C0000#32 a
  tail m5 m6 m7 m9 a

/-- The truths from `t` on, each followed by nothing but the next: the continuation takes the whole list. -/
def withTxs (m : Memref sig .tc .vmem S1x50x5 .f32) (k : (xs : List (Tx F)) → 0 + xs.length ≤ 50 →
    Prog (TpuEff nD τ sig (Elt F) Λ .tc) PUnit) : (n t : Nat) → t + n ≤ 50 → (acc : List (Tx F)) → n + acc.length ≤ 50 →
    Prog (TpuEff nD τ sig (Elt F) Λ .tc) PUnit
  | 0, _, _, acc, h => k acc.reverse (by simpa using h)
  | n + 1, t, h, acc, ha => do
      let x ← loadTx m t (by omega)
      withTxs m k n (t + 1) (by omega) (x :: acc) (by simp only [List.length_cons]; omega)

/-- The body. -/
def body (m1 : Memref sig .tc .vmem S1x21x128x128 .f32) (m2 : Memref sig .tc .vmem S1x4x128x128 .f32)
    (m3 : Memref sig .tc .vmem S4x128x128 .f32) (m4 : Memref sig .tc .vmem S1x50x5 .f32)
    (m5 m6 m7 : Memref sig .tc .vmem S1x8x128 .f32)
    (m8 : Memref sig .tc .vmem S50x128x128 .f32) (m9 : Memref sig .tc .vmem S128x128 .f32)
    (m10 m11 : Memref sig .tc .vmem S64x128 .f32) : Prog (TpuEff nD τ sig (Elt F) Λ .tc) PUnit :=
  withTxs m4 (main m1 m2 m3 m5 m6 m7 m8 m9 m10 m11) 50 0 (by omega) [] (by simp)

end Cert.Body

end
-- ==== Proof.KernelBody0.lean ====
module

public import proofs.«01_k».proof.Proof.Gen.Kernel
public import proofs.«01_k».proof.Proof.Body
import Idealize.ShloMosaic.Lib.Tactic

public section

namespace Cert.Kernel.Own

open Idealize.ShloMosaic Idealize.SL.Sem
open Cert.Kernel

variable {F : FTy → Type} [FloatOps F]

/-- The first call's body is the one written with loops. -/
theorem cc0_eq (i : grid0.Coords) (a1 : Memref sig .tc .vmem S1x21x128x128 .f32) (h1 : a1.IsWhole)
    (a2 : Memref sig .tc .vmem S1x4x128x128 .f32) (h2 : a2.IsWhole) (a3 : Memref sig .tc .vmem S4x128x128 .f32) (h3 : a3.IsWhole)
    (a4 : Memref sig .tc .vmem S1x50x5 .f32) (h4 : a4.IsWhole) (a5 : Memref sig .tc .vmem S1x8x128 .f32) (h5 : a5.IsWhole)
    (a6 : Memref sig .tc .vmem S1x8x128 .f32) (h6 : a6.IsWhole) (a7 : Memref sig .tc .vmem S1x8x128 .f32) (h7 : a7.IsWhole)
    (a8 : Memref sig .tc .vmem S50x128x128 .f32) (h8 : a8.IsWhole) (a9 : Memref sig .tc .vmem S128x128 .f32) (h9 : a9.IsWhole)
    (a10 : Memref sig .tc .vmem S64x128 .f32) (h10 : a10.IsWhole) (a11 : Memref sig .tc .vmem S64x128 .f32) (h11 : a11.IsWhole) :
    cc0__loss_kernel (F := F) i a1 h1 a2 h2 a3 h3 a4 h4 a5 h5 a6 h6 a7 h7 a8 h8 a9 h9 a10 h10 a11 h11
      = Cert.Body.body a1 a2 a3 a4 a5 a6 a7 a8 a9 a10 a11 := by
  refine Cert.Body.eq_of_walk _ _ ?_
  sl_kernel_rfl

end Cert.Kernel.Own
end
-- ==== Proof.KernelBody1.lean ====
module

public import proofs.«01_k».proof.Proof.Gen.Kernel
public import proofs.«01_k».proof.Proof.Body
import Idealize.ShloMosaic.Lib.Tactic

public section

namespace Cert.Kernel.Own

open Idealize.ShloMosaic Idealize.SL.Sem
open Cert.Kernel

variable {F : FTy → Type} [FloatOps F]

/-- The second call's body is the one written with loops. -/
theorem cc1_eq (i : grid1.Coords) (a1 : Memref sig .tc .vmem S1x21x128x128 .f32) (h1 : a1.IsWhole)
    (a2 : Memref sig .tc .vmem S1x4x128x128 .f32) (h2 : a2.IsWhole) (a3 : Memref sig .tc .vmem S4x128x128 .f32) (h3 : a3.IsWhole)
    (a4 : Memref sig .tc .vmem S1x50x5 .f32) (h4 : a4.IsWhole) (a5 : Memref sig .tc .vmem S1x8x128 .f32) (h5 : a5.IsWhole)
    (a6 : Memref sig .tc .vmem S1x8x128 .f32) (h6 : a6.IsWhole) (a7 : Memref sig .tc .vmem S1x8x128 .f32) (h7 : a7.IsWhole)
    (a8 : Memref sig .tc .vmem S50x128x128 .f32) (h8 : a8.IsWhole) (a9 : Memref sig .tc .vmem S128x128 .f32) (h9 : a9.IsWhole)
    (a10 : Memref sig .tc .vmem S64x128 .f32) (h10 : a10.IsWhole) (a11 : Memref sig .tc .vmem S64x128 .f32) (h11 : a11.IsWhole) :
    cc1__loss_kernel (F := F) i a1 h1 a2 h2 a3 h3 a4 h4 a5 h5 a6 h6 a7 h7 a8 h8 a9 h9 a10 h10 a11 h11
      = Cert.Body.body a1 a2 a3 a4 a5 a6 a7 a8 a9 a10 a11 := by
  refine Cert.Body.eq_of_walk _ _ ?_
  sl_kernel_rfl

end Cert.Kernel.Own
end
-- ==== Proof.Runs.lean ====
/-
  How a body runs: the eleven buffers of a launch held at definite contents, and what a program over them
  makes of these contents, as a relation closed under sequencing. A load reads a window, a store puts one.
-/
module

public import proofs.«01_k».proof.Proof.Body
public import Idealize.ShloMosaic.Lib.VecWindow
public import Idealize.ShloMosaic.Lib.Pipeline.Kit
public import Idealize.ShloMosaic.Lib.Pipeline.FrameBody
public import Idealize.ShloMosaic.Lib.Tactic

@[expose] public section

noncomputable section

namespace Cert.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels}

/-- The memrefs of a launch. -/
structure Mems (sig : RefSig) where
  m1 : Memref sig .tc .vmem S1x21x128x128 .f32
  m2 : Memref sig .tc .vmem S1x4x128x128 .f32
  m3 : Memref sig .tc .vmem S4x128x128 .f32
  m4 : Memref sig .tc .vmem S1x50x5 .f32
  m5 : Memref sig .tc .vmem S1x8x128 .f32
  m6 : Memref sig .tc .vmem S1x8x128 .f32
  m7 : Memref sig .tc .vmem S1x8x128 .f32
  m8 : Memref sig .tc .vmem S50x128x128 .f32
  m9 : Memref sig .tc .vmem S128x128 .f32
  m10 : Memref sig .tc .vmem S64x128 .f32
  m11 : Memref sig .tc .vmem S64x128 .f32

/-- What they hold. -/
structure St (F : FTy → Type) where
  a1 : FVec F S1x21x128x128 .f32
  a2 : FVec F S1x4x128x128 .f32
  a3 : FVec F S4x128x128 .f32
  a4 : FVec F S1x50x5 .f32
  a5 : FVec F S1x8x128 .f32
  a6 : FVec F S1x8x128 .f32
  a7 : FVec F S1x8x128 .f32
  a8 : FVec F S50x128x128 .f32
  a9 : FVec F S128x128 .f32
  a10 : FVec F S64x128 .f32
  a11 : FVec F S64x128 .f32

local notation "𝕄" => MT nD τ sig Unit (Elt F) ℕ (UR sig nD τ) ℕ

variable (defs : Defs nD τ sig (Elt F) Λ) (𝒱 : Variants) (c : Dev nD) (E : Set ℕ) (ms : Mems sig)

/-- The buffers held at `s`. -/
def Own (s : St F) : sProp 𝕄 :=
  iprop(owns (c : Thread nD τ) ms.m1 fullShare s.a1 ∗ owns (c : Thread nD τ) ms.m2 fullShare s.a2
    ∗ owns (c : Thread nD τ) ms.m3 fullShare s.a3 ∗ owns (c : Thread nD τ) ms.m4 fullShare s.a4
    ∗ owns (c : Thread nD τ) ms.m5 fullShare s.a5 ∗ owns (c : Thread nD τ) ms.m6 fullShare s.a6
    ∗ owns (c : Thread nD τ) ms.m7 fullShare s.a7 ∗ owns (c : Thread nD τ) ms.m8 fullShare s.a8
    ∗ owns (c : Thread nD τ) ms.m9 fullShare s.a9 ∗ owns (c : Thread nD τ) ms.m10 fullShare s.a10
    ∗ owns (c : Thread nD τ) ms.m11 fullShare s.a11)

/-- From `s` the program ends at `s'` with the value `a`. -/
def Spec {α : Type} (s : St F) (p : Prog (TpuEff nD τ sig (Elt F) Λ .tc) α) (s' : St F) (a : α) : Prop :=
  ∀ Q : α → sProp 𝕄, iprop(Own (τ := τ) c ms s ∗ (Own (τ := τ) c ms s' -∗ Q a))
    ⊢ wp frame (wpE defs 𝒱 (c : Thread nD τ) none) E p Q

variable {defs 𝒱 c E ms}

theorem Spec.ret {α : Type} (s : St F) (a : α) :
    Spec defs 𝒱 c E ms s (pure a : Prog (TpuEff nD τ sig (Elt F) Λ .tc) α) s a := fun Q => by
  iintro ⟨H, Hk⟩
  iapply (le_wp_ret _ _ _ a Q)
  iapply Hk
  iexact H

theorem Spec.bind {α β : Type} {s s' s'' : St F} {p : Prog (TpuEff nD τ sig (Elt F) Λ .tc) α}
    {k : α → Prog (TpuEff nD τ sig (Elt F) Λ .tc) β} {a : α} {b : β}
    (hp : Spec defs 𝒱 c E ms s p s' a) (hk : Spec defs 𝒱 c E ms s' (k a) s'' b) :
    Spec defs 𝒱 c E ms s (p >>= k) s'' b := fun Q => by
  rw [wp_bind]
  iintro ⟨H, Hk⟩
  iapply (hp _)
  isplitl [H]; · iexact H
  iintro H
  iapply (hk Q)
  isplitl [H]; · iexact H
  iexact Hk

/-- One load, on the buffer alone. -/
theorem wp_ld {s : Shape} (m : Memref sig .tc .vmem s .f32) (X : s.Idx → F .f32) (off size : Fin s.rank → Nat)
    (inb : ∀ a, off a + size a ≤ s.size a) (h : 0 < (⟨s.rank, size⟩ : Shape).numel)
    (Q : (((a : Fin s.rank) → Fin (size a)) → F .f32) → sProp 𝕄) :
    iprop(owns (c : Thread nD τ) m fullShare X ∗ (owns (c : Thread nD τ) m fullShare X -∗ Q (VecWindow.window X off size inb)))
      ⊢ wp frame (wpE defs 𝒱 (c : Thread nD τ) none) E (ld (F := F) (nD := nD) (τ := τ) (Λ := Λ) m off size inb h) Q := by
  unfold owns
  iintro ⟨⟨%f, %hf, H⟩, Hk⟩
  iapply (wp_load 𝒱 (c : Thread nD τ) none E (m := m) (r := (Rect.unit off size inb).toLoadRect) (S := m.view.set) (View.setOn_subset_set _ _)) $$ H
  iintro H
  iapply (le_wp_ret _ _ _ _ Q)
  have hr : m.view.readAt (Elt F) (Rect.unit off size inb).toLoadRect f = VecWindow.window X off size inb := by
    rw [View.readAt_unit m.view f inb rfl inb, hf]
  rw [hr]
  iapply Hk
  iexists f
  isplitr
  · ipureintro; exact hf
  iexact H

/-- One store, on the buffer alone. -/
theorem wp_st {s : Shape} (m : Memref sig .tc .vmem s .f32) (X : s.Idx → F .f32) (off size : Fin s.rank → Nat)
    (inb : ∀ a, off a + size a ≤ s.size a) (h : 0 < (⟨s.rank, size⟩ : Shape).numel)
    (w : ((a : Fin s.rank) → Fin (size a)) → F .f32) (Q : PUnit → sProp 𝕄) :
    iprop(owns (c : Thread nD τ) m fullShare X ∗ (owns (c : Thread nD τ) m fullShare (VecWindow.put X off size w) -∗ Q ⟨⟩))
      ⊢ wp frame (wpE defs 𝒱 (c : Thread nD τ) none) E (st (F := F) (nD := nD) (τ := τ) (Λ := Λ) m off size inb h w) Q := by
  unfold owns
  iintro ⟨⟨%f, %hf, H⟩, Hk⟩
  have hw := View.read_writes_cons_put (Val := Elt F) m.view f inb w [] rfl
  rw [View.writes_nil, hf] at hw
  iapply (wp_store_writes₀ 𝒱 (c : Thread nD τ) none E (Q := Q) (m := m) (r := Rect.unit off size inb) (w := w)
    (hx := View.stores_vmem_bits_univ h rfl) (hm := .inl rfl) (k := fun x => .ret x) (S := m.view.set) (f := f)
    (View.set_slice_subset _ _)) $$ H
  iintro H
  iapply (le_wp_ret _ _ _ _ Q)
  iapply Hk
  iexists (m.view.writes (Elt F) f [⟨Rect.unit off size inb, w⟩])
  isplitr
  · ipureintro; exact hw
  iexact H

/-! ## One buffer out of the eleven, and back at any contents -/

theorem Own.get1 (s : St F) : Own (τ := τ) c ms s ⊢ iprop(owns (c : Thread nD τ) ms.m1 fullShare s.a1
    ∗ (∀ X, owns (c : Thread nD τ) ms.m1 fullShare X -∗ Own (τ := τ) c ms { s with a1 := X })) := by
  unfold Own; iintro ⟨H1, H2, H3, H4, H5, H6, H7, H8, H9, H10, H11⟩; iframe H1; iintro %X H; iframe

theorem Own.get2 (s : St F) : Own (τ := τ) c ms s ⊢ iprop(owns (c : Thread nD τ) ms.m2 fullShare s.a2
    ∗ (∀ X, owns (c : Thread nD τ) ms.m2 fullShare X -∗ Own (τ := τ) c ms { s with a2 := X })) := by
  unfold Own; iintro ⟨H1, H2, H3, H4, H5, H6, H7, H8, H9, H10, H11⟩; iframe H2; iintro %X H; iframe

theorem Own.get3 (s : St F) : Own (τ := τ) c ms s ⊢ iprop(owns (c : Thread nD τ) ms.m3 fullShare s.a3
    ∗ (∀ X, owns (c : Thread nD τ) ms.m3 fullShare X -∗ Own (τ := τ) c ms { s with a3 := X })) := by
  unfold Own; iintro ⟨H1, H2, H3, H4, H5, H6, H7, H8, H9, H10, H11⟩; iframe H3; iintro %X H; iframe

theorem Own.get4 (s : St F) : Own (τ := τ) c ms s ⊢ iprop(owns (c : Thread nD τ) ms.m4 fullShare s.a4
    ∗ (∀ X, owns (c : Thread nD τ) ms.m4 fullShare X -∗ Own (τ := τ) c ms { s with a4 := X })) := by
  unfold Own; iintro ⟨H1, H2, H3, H4, H5, H6, H7, H8, H9, H10, H11⟩; iframe H4; iintro %X H; iframe

theorem Own.get5 (s : St F) : Own (τ := τ) c ms s ⊢ iprop(owns (c : Thread nD τ) ms.m5 fullShare s.a5
    ∗ (∀ X, owns (c : Thread nD τ) ms.m5 fullShare X -∗ Own (τ := τ) c ms { s with a5 := X })) := by
  unfold Own; iintro ⟨H1, H2, H3, H4, H5, H6, H7, H8, H9, H10, H11⟩; iframe H5; iintro %X H; iframe

theorem Own.get6 (s : St F) : Own (τ := τ) c ms s ⊢ iprop(owns (c : Thread nD τ) ms.m6 fullShare s.a6
    ∗ (∀ X, owns (c : Thread nD τ) ms.m6 fullShare X -∗ Own (τ := τ) c ms { s with a6 := X })) := by
  unfold Own; iintro ⟨H1, H2, H3, H4, H5, H6, H7, H8, H9, H10, H11⟩; iframe H6; iintro %X H; iframe

theorem Own.get7 (s : St F) : Own (τ := τ) c ms s ⊢ iprop(owns (c : Thread nD τ) ms.m7 fullShare s.a7
    ∗ (∀ X, owns (c : Thread nD τ) ms.m7 fullShare X -∗ Own (τ := τ) c ms { s with a7 := X })) := by
  unfold Own; iintro ⟨H1, H2, H3, H4, H5, H6, H7, H8, H9, H10, H11⟩; iframe H7; iintro %X H; iframe

theorem Own.get8 (s : St F) : Own (τ := τ) c ms s ⊢ iprop(owns (c : Thread nD τ) ms.m8 fullShare s.a8
    ∗ (∀ X, owns (c : Thread nD τ) ms.m8 fullShare X -∗ Own (τ := τ) c ms { s with a8 := X })) := by
  unfold Own; iintro ⟨H1, H2, H3, H4, H5, H6, H7, H8, H9, H10, H11⟩; iframe H8; iintro %X H; iframe

theorem Own.get9 (s : St F) : Own (τ := τ) c ms s ⊢ iprop(owns (c : Thread nD τ) ms.m9 fullShare s.a9
    ∗ (∀ X, owns (c : Thread nD τ) ms.m9 fullShare X -∗ Own (τ := τ) c ms { s with a9 := X })) := by
  unfold Own; iintro ⟨H1, H2, H3, H4, H5, H6, H7, H8, H9, H10, H11⟩; iframe H9; iintro %X H; iframe

theorem Own.get10 (s : St F) : Own (τ := τ) c ms s ⊢ iprop(owns (c : Thread nD τ) ms.m10 fullShare s.a10
    ∗ (∀ X, owns (c : Thread nD τ) ms.m10 fullShare X -∗ Own (τ := τ) c ms { s with a10 := X })) := by
  unfold Own; iintro ⟨H1, H2, H3, H4, H5, H6, H7, H8, H9, H10, H11⟩; iframe H10; iintro %X H; iframe

theorem Own.get11 (s : St F) : Own (τ := τ) c ms s ⊢ iprop(owns (c : Thread nD τ) ms.m11 fullShare s.a11
    ∗ (∀ X, owns (c : Thread nD τ) ms.m11 fullShare X -∗ Own (τ := τ) c ms { s with a11 := X })) := by
  unfold Own; iintro ⟨H1, H2, H3, H4, H5, H6, H7, H8, H9, H10, H11⟩; iframe H11; iintro %X H; iframe

/-- A load of a buffer held at `X`. -/
theorem Spec.ld {s : St F} {sh : Shape} {m : Memref sig .tc .vmem sh .f32} {X : sh.Idx → F .f32} {put : (sh.Idx → F .f32) → St F}
    (hg : Own (τ := τ) c ms s ⊢ iprop(owns (c : Thread nD τ) m fullShare X ∗ (∀ Y, owns (c : Thread nD τ) m fullShare Y -∗ Own (τ := τ) c ms (put Y))))
    (hs : put X = s) (off size : Fin sh.rank → Nat) (inb : ∀ a, off a + size a ≤ sh.size a) (h : 0 < (⟨sh.rank, size⟩ : Shape).numel) :
    Spec defs 𝒱 c E ms s (Body.ld (F := F) (nD := nD) (τ := τ) (Λ := Λ) m off size inb h) s (VecWindow.window X off size inb) := fun Q => by
  iintro ⟨H, Hk⟩
  ihave H := hg $$ H
  icases H with ⟨H, Hb⟩
  iapply (wp_ld m X off size inb h Q)
  isplitl [H]; · iexact H
  iintro H
  iapply Hk
  ihave H := Hb $$ %X H
  rw [hs]
  iexact H

/-- A store into a buffer held at `X`. -/
theorem Spec.st {s : St F} {sh : Shape} {m : Memref sig .tc .vmem sh .f32} {X : sh.Idx → F .f32} {put : (sh.Idx → F .f32) → St F}
    (hg : Own (τ := τ) c ms s ⊢ iprop(owns (c : Thread nD τ) m fullShare X ∗ (∀ Y, owns (c : Thread nD τ) m fullShare Y -∗ Own (τ := τ) c ms (put Y))))
    (off size : Fin sh.rank → Nat) (inb : ∀ a, off a + size a ≤ sh.size a) (h : 0 < (⟨sh.rank, size⟩ : Shape).numel)
    (w : ((a : Fin sh.rank) → Fin (size a)) → F .f32) :
    Spec defs 𝒱 c E ms s (Body.st (F := F) (nD := nD) (τ := τ) (Λ := Λ) m off size inb h w) (put (VecWindow.put X off size w)) ⟨⟩ := fun Q => by
  iintro ⟨H, Hk⟩
  ihave H := hg $$ H
  icases H with ⟨H, Hb⟩
  iapply (wp_st m X off size inb h w Q)
  isplitl [H]; · iexact H
  iintro H
  iapply Hk
  iapply Hb
  iexact H

end Cert.Body

end
-- ==== Proof.Closed.lean ====
/-
  What the body leaves in its scratch buffers and in its outputs, in closed form over the four input blocks: plain
  definitions, generic in the arithmetic.
-/
module

public import proofs.«01_k».proof.Proof.Body
public import Idealize.ShloMosaic.Lib.VecWindow
public import Idealize.ShloMosaic.Lib.PointwiseCore

@[expose] public section

noncomputable section

namespace Cert.Body

open Idealize.ShloMosaic Idealize.SL.Sem
open VecWindow (window put)

variable {F : FTy → Type} [FloatOps F]

/-! ## The truths -/

/-- Truth `t`, read off its block. -/
def txAt (x4 : FVec F S1x50x5 .f32) (t : Fin 50) : Tx F :=
  let w (c : Nat) (hc : c < 5) := sq (window x4 ![0, t.val, c] S1x1x1.size (inb_tx t.val c t.isLt hc))
  ⟨w 0 (by omega), w 1 (by omega), w 2 (by omega), w 3 (by omega), w 4 (by omega)⟩

/-- The truths from `t` on. -/
def txs (x4 : FVec F S1x50x5 .f32) : (n t : Nat) → t + n ≤ 50 → List (Tx F)
  | 0, _, _ => []
  | n + 1, t, h => txAt x4 ⟨t, by omega⟩ :: txs x4 n (t + 1) (by omega)

theorem txs_length (x4 : FVec F S1x50x5 .f32) : (n t : Nat) → (h : t + n ≤ 50) → (txs x4 n t h).length = n
  | 0, _, _ => rfl
  | n + 1, t, h => by simp only [txs, List.length_cons, txs_length x4 n (t + 1)]

/-! ## The overlaps -/

/-- Chunk `c` of prior coordinate `j`. -/
def priorAt (x3 : FVec F S4x128x128 .f32) (j c : Fin 4) : FVec F S32x128 .f32 :=
  chunk (window x3 ![j.val, 32 * c.val, 0] S1x32x128.size (inb_prior j.val c.val j.isLt c.isLt))

def boxAt (x3 : FVec F S4x128x128 .f32) (c : Fin 4) : Box F :=
  boxOf (priorAt x3 0 c) (priorAt x3 1 c) (priorAt x3 2 c) (priorAt x3 3 c)

/-- The overlaps of chunk `c` with truth `t`. -/
def ovAt (x3 : FVec F S4x128x128 .f32) (x4 : FVec F S1x50x5 .f32) (c : Fin 4) (t : Fin 50) : FVec F S32x128 .f32 :=
  ovVec (boxAt x3 c) (txAt x4 t)

/-- The overlap buffer, filled. -/
def ovArr (x3 : FVec F S4x128x128 .f32) (x4 : FVec F S1x50x5 .f32) : FVec F S50x128x128 .f32 :=
  fun y => ovAt x3 x4 ⟨(y 1).val / 32, by have : (y 1).val < 128 := (y 1).isLt; omega⟩ (y 0)
    (ix2 ⟨(y 1).val % 32, by omega⟩ (y 2))

/-- Row `t` of the overlap buffer. -/
def ovRow (x3 : FVec F S4x128x128 .f32) (x4 : FVec F S1x50x5 .f32) (t : Fin 50) : FVec F S1x128x128 .f32 :=
  window (ovArr x3 x4) ![t.val, 0, 0] S1x128x128.size (inb_row t.val t.isLt)

/-! ## The best prior of each truth -/

/-- Fifty rows, one a truth, as an array. -/
def laneArr (g : Fin 50 → FVec F S1x128 .f32) : FVec F S50x128 .f32 := fun y => g (y 0) (ix2 0 (y 1))

def mxCol (x3 : FVec F S4x128x128 .f32) (x4 : FVec F S1x50x5 .f32) : FVec F S50x1 .f32 :=
  colMax (laneArr fun t => rowMax (ovRow x3 x4 t))

def bpCol (x3 : FVec F S4x128x128 .f32) (x4 : FVec F S1x50x5 .f32) : FVec F S50x1 .f32 :=
  colMin (laneArr fun t => rowCand (ovRow x3 x4 t) (entry (mxCol x3 x4) t.val t.isLt))

/-- The best prior of truth `t`. -/
def bpAt (x3 : FVec F S4x128x128 .f32) (x4 : FVec F S1x50x5 .f32) (t : Fin 50) : FVec F S1x1 .f32 :=
  entry (bpCol x3 x4) t.val t.isLt

/-! ## A chunk -/

def baseBits (c : Fin 4) : BitVec 32 := ![0x00000000#32, 0x45800000#32, 0x46000000#32, 0x46400000#32] c
def limBits (c : Fin 4) : BitVec 32 := ![0x467F0000#32, 0x463F0000#32, 0x45FE0000#32, 0x457C0000#32] c

/-- A chunk's matching after its first `n` truths. -/
def accN (x3 : FVec F S4x128x128 .f32) (x4 : FVec F S1x50x5 .f32) (c : Fin 4) : Nat → Acc F
  | 0 => acc0
  | n + 1 => if h : n < 50 then
      matchStep (baseBits c) (txAt x4 ⟨n, h⟩) (bpAt x3 x4 ⟨n, h⟩) (ovAt x3 x4 c ⟨n, h⟩) (accN x3 x4 c n)
    else accN x3 x4 c n

abbrev accAt (x3 : FVec F S4x128x128 .f32) (x4 : FVec F S1x50x5 .f32) (c : Fin 4) : Acc F := accN x3 x4 c 50

def posAt (x3 : FVec F S4x128x128 .f32) (x4 : FVec F S1x50x5 .f32) (c : Fin 4) : IVec S32x128 1 := posOf (accAt x3 x4 c)

def locAt (x2 : FVec F S1x4x128x128 .f32) (j c : Fin 4) : FVec F S32x128 .f32 :=
  chunk4 (window x2 ![0, j.val, 32 * c.val, 0] S1x1x32x128.size (inb_loc j.val c.val j.isLt c.isLt))

def confAt (x1 : FVec F S1x21x128x128 .f32) (j : Fin 21) (c : Fin 4) : FVec F S32x128 .f32 :=
  chunk4 (window x1 ![0, j.val, 32 * c.val, 0] S1x1x32x128.size (inb_conf j.val c.val j.isLt c.isLt))

/-- A chunk's smooth L1 loss, before the mask. -/
def sl1At (x2 : FVec F S1x4x128x128 .f32) (x3 : FVec F S4x128x128 .f32) (x4 : FVec F S1x50x5 .f32) (c : Fin 4) : FVec F S32x128 .f32 :=
  let r := accAt x3 x4 c
  sl1Sum (locAt x2 0 c) (locAt x2 1 c) (locAt x2 2 c) (locAt x2 3 c)
    (gCen r.x1 r.x2 (priorAt x3 0 c) (recip (priorAt x3 2 c))) (gCen r.y1 r.y2 (priorAt x3 1 c) (recip (priorAt x3 3 c)))
    (gLog r.x1 r.x2 (recip (priorAt x3 2 c))) (gLog r.y1 r.y2 (recip (priorAt x3 3 c)))

def clsFold (x1 : FVec F S1x21x128x128 .f32) (c : Fin 4) (ct : FVec F S32x128 .f32) : (bs : List (BitVec 32)) → (j : Nat) →
    j + bs.length ≤ 21 → Cls F → Cls F
  | [], _, _, a => a
  | b :: bs, j, h, a =>
      clsFold x1 c ct bs (j + 1) (by simp only [List.length_cons] at h; omega)
        (clsStep ct b (confAt x1 ⟨j, by simp only [List.length_cons] at h; omega⟩ c) a)

def ctAt (x3 : FVec F S4x128x128 .f32) (x4 : FVec F S1x50x5 .f32) (c : Fin 4) : FVec F S32x128 .f32 :=
  select (posAt x3 x4 c) (addf (accAt x3 x4 c).lab (k32 0x3F800000#32)) (k32 0x00000000#32)

def clsAt (x1 : FVec F S1x21x128x128 .f32) (x3 : FVec F S4x128x128 .f32) (x4 : FVec F S1x50x5 .f32) (c : Fin 4) : Cls F :=
  clsFold x1 c (ctAt x3 x4 c) classBits 0 (by decide) cls0

def deadAt (x1 : FVec F S1x21x128x128 .f32) (x3 : FVec F S4x128x128 .f32) (x4 : FVec F S1x50x5 .f32) (c : Fin 4) : FVec F S32x128 .f32 :=
  shapeCast S32x128 (deadLoss (posAt x3 x4 c) (limBits c) (lossC (clsAt x1 x3 x4 c))) (by decide)

/-- The losses the search runs over, filled. -/
def lcArr (x1 : FVec F S1x21x128x128 .f32) (x3 : FVec F S4x128x128 .f32) (x4 : FVec F S1x50x5 .f32) : FVec F S128x128 .f32 :=
  fun y => deadAt x1 x3 x4 ⟨(y 0).val / 32, by have : (y 0).val < 128 := (y 0).isLt; omega⟩
    (ix2 ⟨(y 0).val % 32, by omega⟩ (y 1))

/-- The sums after chunk `c`. -/
def sumsStep (x1 : FVec F S1x21x128x128 .f32) (x2 : FVec F S1x4x128x128 .f32) (x3 : FVec F S4x128x128 .f32)
    (x4 : FVec F S1x50x5 .f32) (c : Fin 4) (a : Sums F) : Sums F :=
  ⟨addf a.ll (select (posAt x3 x4 c) (sl1At x2 x3 x4 c) (k32 0x00000000#32)),
    addf a.lp (mulf (posfOf (posAt x3 x4 c)) (lossC (clsAt x1 x3 x4 c))), addf a.np (posfOf (posAt x3 x4 c))⟩

def sumsAt (x1 : FVec F S1x21x128x128 .f32) (x2 : FVec F S1x4x128x128 .f32) (x3 : FVec F S4x128x128 .f32)
    (x4 : FVec F S1x50x5 .f32) : Sums F :=
  sumsStep x1 x2 x3 x4 3 (sumsStep x1 x2 x3 x4 2 (sumsStep x1 x2 x3 x4 1 (sumsStep x1 x2 x3 x4 0 sums0)))

/-! ## The outputs -/

def out5 (x1 : FVec F S1x21x128x128 .f32) (x2 : FVec F S1x4x128x128 .f32) (x3 : FVec F S4x128x128 .f32)
    (x4 : FVec F S1x50x5 .f32) : FVec F S1x8x128 .f32 := outVec (laneSum32 (sumsAt x1 x2 x3 x4).ll)

def out6 (x1 : FVec F S1x21x128x128 .f32) (x2 : FVec F S1x4x128x128 .f32) (x3 : FVec F S4x128x128 .f32)
    (x4 : FVec F S1x50x5 .f32) : FVec F S1x8x128 .f32 :=
  outVec (addf (laneSum32 (sumsAt x1 x2 x3 x4).lp)
    (topk (lcArr x1 x3 x4) (kOf (laneSum32 (sumsAt x1 x2 x3 x4).np))))

def out7 (x1 : FVec F S1x21x128x128 .f32) (x2 : FVec F S1x4x128x128 .f32) (x3 : FVec F S4x128x128 .f32)
    (x4 : FVec F S1x50x5 .f32) : FVec F S1x8x128 .f32 := outVec (laneSum32 (sumsAt x1 x2 x3 x4).np)

end Cert.Body

end
-- ==== Proof.Loops.lean ====
/-
  The body's run, in closed form: each loop by induction on its length, the scratch buffers at their filled values,
  the three outputs at theirs, whatever stood in scratch and outputs before.
-/
module

public import proofs.«01_k».proof.Proof.Runs
public import proofs.«01_k».proof.Proof.Closed
public import Idealize.ShloMosaic.Lib.Pipeline.Value

@[expose] public section

noncomputable section

namespace Cert.Body

open Idealize.ShloMosaic Idealize.ShloMosaic.TcCoe
open Idealize.SL Idealize.SL.RA Idealize.SL.BI
open Idealize.SL.Sem
open VecWindow (window put)

variable {F : FTy → Type} [FloatOps F]
variable {nD : Nat} {τ : Topo} {sig : RefSig} {Λ : Labels}

/-! ## Puts at an index -/

theorem put_ov (X : FVec F S50x128x128 .f32) (v : FVec F S32x128 .f32) (t c : Nat) (y : S50x128x128.Idx) :
    put X ![t, 32 * c, 0] S1x32x128.size (shapeCast S1x32x128 v (by decide)) y
      = if (y 1).val / 32 = c ∧ (y 0).val = t then v (ix2 ⟨(y 1).val % 32, by omega⟩ (y 2)) else X y := by
  have h2 : (y 2).val < 128 := (y 2).isLt
  by_cases h : (y 1).val / 32 = c ∧ (y 0).val = t
  · rw [if_pos h]
    obtain ⟨h1, h0⟩ := h
    have hall : ∀ a, (![t, 32 * c, 0] : Fin 3 → Nat) a ≤ (y a).val ∧ (y a).val < (![t, 32 * c, 0] : Fin 3 → Nat) a + S1x32x128.size a := by
      intro a
      match a with
      | ⟨0, _⟩ => show t ≤ (y 0).val ∧ (y 0).val < t + 1; omega
      | ⟨1, _⟩ => show 32 * c ≤ (y 1).val ∧ (y 1).val < 32 * c + 32; omega
      | ⟨2, _⟩ => show 0 ≤ (y 2).val ∧ (y 2).val < 0 + 128; omega
    unfold put
    rw [dif_pos hall]
    refine (shapeCast_addUnit_apply ![32, 128] v (by decide) _).trans (congrArg v ?_)
    funext a
    match a with
    | ⟨0, _⟩ => exact Fin.ext (by show (y 1).val - 32 * c = (y 1).val % 32; omega)
    | ⟨1, _⟩ => exact Fin.ext (by show (y 2).val - 0 = (y 2).val; omega)
  · rw [if_neg h]
    unfold put
    rw [dif_neg]
    intro hall
    have e0 : t ≤ (y 0).val ∧ (y 0).val < t + 1 := hall 0
    have e1 : 32 * c ≤ (y 1).val ∧ (y 1).val < 32 * c + 32 := hall 1
    exact h ⟨by omega, by omega⟩

theorem put_lane (X : FVec F S64x128 .f32) (v : FVec F S1x128 .f32) (t : Nat) (y : S64x128.Idx) :
    put X ![t, 0] S1x128.size v y = if (y 0).val = t then v (ix2 0 (y 1)) else X y := by
  have h1 : (y 1).val < 128 := (y 1).isLt
  by_cases h : (y 0).val = t
  · rw [if_pos h]
    have hall : ∀ a, (![t, 0] : Fin 2 → Nat) a ≤ (y a).val ∧ (y a).val < (![t, 0] : Fin 2 → Nat) a + S1x128.size a := by
      intro a
      match a with
      | ⟨0, _⟩ => show t ≤ (y 0).val ∧ (y 0).val < t + 1; omega
      | ⟨1, _⟩ => show 0 ≤ (y 1).val ∧ (y 1).val < 0 + 128; omega
    unfold put
    rw [dif_pos hall]
    refine congrArg v ?_
    funext a
    match a with
    | ⟨0, _⟩ => exact Fin.ext (by show (y 0).val - t = 0; omega)
    | ⟨1, _⟩ => exact Fin.ext (by show (y 1).val - 0 = (y 1).val; omega)
  · rw [if_neg h]
    unfold put
    rw [dif_neg]
    intro hall
    have e0 : t ≤ (y 0).val ∧ (y 0).val < t + 1 := hall 0
    exact h (by omega)

theorem put_lc (X : FVec F S128x128 .f32) (v : FVec F S32x128 .f32) (c : Nat) (y : S128x128.Idx) :
    put X ![32 * c, 0] S32x128.size v y = if (y 0).val / 32 = c then v (ix2 ⟨(y 0).val % 32, by omega⟩ (y 1)) else X y := by
  have h1 : (y 1).val < 128 := (y 1).isLt
  by_cases h : (y 0).val / 32 = c
  · rw [if_pos h]
    have hall : ∀ a, (![32 * c, 0] : Fin 2 → Nat) a ≤ (y a).val ∧ (y a).val < (![32 * c, 0] : Fin 2 → Nat) a + S32x128.size a := by
      intro a
      match a with
      | ⟨0, _⟩ => show 32 * c ≤ (y 0).val ∧ (y 0).val < 32 * c + 32; omega
      | ⟨1, _⟩ => show 0 ≤ (y 1).val ∧ (y 1).val < 0 + 128; omega
    unfold put
    rw [dif_pos hall]
    refine congrArg v ?_
    funext a
    match a with
    | ⟨0, _⟩ => exact Fin.ext (by show (y 0).val - 32 * c = (y 0).val % 32; omega)
    | ⟨1, _⟩ => exact Fin.ext (by show (y 1).val - 0 = (y 1).val; omega)
  · rw [if_neg h]
    unfold put
    rw [dif_neg]
    intro hall
    have e0 : 32 * c ≤ (y 0).val ∧ (y 0).val < 32 * c + 32 := hall 0
    exact h (by omega)

theorem put_out (X w : FVec F S1x8x128 .f32) : put X ![0, 0, 0] S1x8x128.size w = w := by
  funext y
  have h0 : (y 0).val < 1 := (y 0).isLt
  have h1 : (y 1).val < 8 := (y 1).isLt
  have h2 : (y 2).val < 128 := (y 2).isLt
  unfold put
  rw [dif_pos (by
    intro a
    match a with
    | ⟨0, _⟩ => show 0 ≤ (y 0).val ∧ (y 0).val < 0 + 1; omega
    | ⟨1, _⟩ => show 0 ≤ (y 1).val ∧ (y 1).val < 0 + 8; omega
    | ⟨2, _⟩ => show 0 ≤ (y 2).val ∧ (y 2).val < 0 + 128; omega)]
  refine congrArg w (funext fun a => Fin.ext ?_)
  match a with
  | ⟨0, _⟩ => rfl
  | ⟨1, _⟩ => rfl
  | ⟨2, _⟩ => rfl

/-! ## The loops -/

variable {defs : Defs nD τ sig (Elt F) Λ} {𝒱 : Variants} {c : Dev nD} {E : Set ℕ} {ms : Mems sig}

theorem loadTx_spec (s : St F) (t : Nat) (ht : t < 50) :
    Spec defs 𝒱 c E ms s (loadTx ms.m4 t ht) s (txAt s.a4 ⟨t, ht⟩) := by
  unfold loadTx
  refine Spec.bind (Spec.ld (Own.get4 s) rfl _ _ (inb_tx t 0 ht (by omega)) (by decide)) ?_
  refine Spec.bind (Spec.ld (Own.get4 s) rfl _ _ (inb_tx t 1 ht (by omega)) (by decide)) ?_
  refine Spec.bind (Spec.ld (Own.get4 s) rfl _ _ (inb_tx t 2 ht (by omega)) (by decide)) ?_
  refine Spec.bind (Spec.ld (Own.get4 s) rfl _ _ (inb_tx t 3 ht (by omega)) (by decide)) ?_
  refine Spec.bind (Spec.ld (Own.get4 s) rfl _ _ (inb_tx t 4 ht (by omega)) (by decide)) ?_
  exact Spec.ret s _

theorem withTxs_spec (s s' : St F) (k : (xs : List (Tx F)) → 0 + xs.length ≤ 50 → Prog (TpuEff nD τ sig (Elt F) Λ .tc) PUnit)
    (all : List (Tx F)) (hall : 0 + all.length ≤ 50) (hk : Spec defs 𝒱 c E ms s (k all hall) s' ⟨⟩) :
    ∀ (n t : Nat) (h : t + n ≤ 50) (acc : List (Tx F)) (ha : n + acc.length ≤ 50), acc.reverse ++ txs s.a4 n t h = all →
      Spec defs 𝒱 c E ms s (withTxs ms.m4 k n t h acc ha) s' ⟨⟩
  | 0, t, h, acc, ha, he => by
      have e : acc.reverse = all := by simpa [txs] using he
      subst e
      exact hk
  | n + 1, t, h, acc, ha, he => by
      refine Spec.bind (loadTx_spec s t (by omega)) ?_
      exact withTxs_spec s s' k all hall hk n (t + 1) (by omega) _ _ (by simpa [txs] using he)

/-- One chunk's walk over the truths fills their rows' chunk. -/
theorem ovLoop_spec (q : Fin 4) (b : Box F) (x4 : FVec F S1x50x5 .f32) : ∀ (n t : Nat) (h : t + n ≤ 50) (s : St F)
    (hx : t + (txs x4 n t h).length ≤ 50),
    ∃ Y : FVec F S50x128x128 .f32, Spec defs 𝒱 c E ms s (ovLoop ms.m8 q.val q.isLt b (txs x4 n t h) t hx) { s with a8 := Y } ⟨⟩
      ∧ ∀ y, Y y = if (y 1).val / 32 = q.val ∧ t ≤ (y 0).val ∧ (y 0).val < t + n then
          ovVec b (txAt x4 (y 0)) (ix2 ⟨(y 1).val % 32, by omega⟩ (y 2)) else s.a8 y
  | 0, t, h, s, hx => ⟨s.a8, Spec.ret s _, fun y => by rw [if_neg (by omega)]⟩
  | n + 1, t, h, s, hx => by
      obtain ⟨Y, hY, hv⟩ := ovLoop_spec q b x4 n (t + 1) (by omega)
        { s with a8 := put s.a8 ![t, 32 * q.val, 0] S1x32x128.size (shapeCast S1x32x128 (ovVec b (txAt x4 ⟨t, by omega⟩)) (by decide)) }
        (by simp only [txs, List.length_cons] at hx; omega)
      refine ⟨Y, ?_, fun y => ?_⟩
      · refine Spec.bind (Spec.ld (Own.get8 s) rfl _ _ (inb_ov t q.val (by omega) q.isLt) (by decide)) ?_
        exact Spec.bind (Spec.st (Own.get8 s) _ _ (inb_ov t q.val (by omega) q.isLt) (by decide) _) hY
      · rw [hv y]
        by_cases h1 : (y 1).val / 32 = q.val ∧ t + 1 ≤ (y 0).val ∧ (y 0).val < t + 1 + n
        · rw [if_pos h1, if_pos (by omega)]
        · rw [if_neg h1]
          refine (put_ov s.a8 _ t q.val y).trans ?_
          by_cases h2 : (y 1).val / 32 = q.val ∧ (y 0).val = t
          · rw [if_pos h2, if_pos (by omega)]
            have e : (⟨t, by omega⟩ : Fin 50) = y 0 := Fin.ext h2.2.symm
            rw [e]
          · rw [if_neg h2, if_neg (by omega)]

theorem ovChunk_spec (q : Fin 4) (s : St F) (hx : 0 + (txs s.a4 50 0 (by omega)).length ≤ 50) :
    ∃ Y : FVec F S50x128x128 .f32, Spec defs 𝒱 c E ms s (ovChunk ms.m3 ms.m8 (txs s.a4 50 0 (by omega)) hx q.val q.isLt) { s with a8 := Y } ⟨⟩
      ∧ ∀ y, Y y = if (y 1).val / 32 = q.val then
          ovAt s.a3 s.a4 q (y 0) (ix2 ⟨(y 1).val % 32, by omega⟩ (y 2)) else s.a8 y := by
  obtain ⟨Y, hY, hv⟩ := ovLoop_spec (defs := defs) (𝒱 := 𝒱) (c := c) (E := E) (ms := ms) q (boxAt s.a3 q) s.a4 50 0 (by omega) s hx
  refine ⟨Y, ?_, fun y => ?_⟩
  · unfold ovChunk
    refine Spec.bind (Spec.ld (Own.get3 s) rfl _ _ (inb_prior 0 q.val (by omega) q.isLt) (by decide)) ?_
    refine Spec.bind (Spec.ld (Own.get3 s) rfl _ _ (inb_prior 1 q.val (by omega) q.isLt) (by decide)) ?_
    refine Spec.bind (Spec.ld (Own.get3 s) rfl _ _ (inb_prior 2 q.val (by omega) q.isLt) (by decide)) ?_
    refine Spec.bind (Spec.ld (Own.get3 s) rfl _ _ (inb_prior 3 q.val (by omega) q.isLt) (by decide)) ?_
    exact hY
  · have h0 : (y 0).val < 50 := (y 0).isLt
    rw [hv y]
    by_cases h : (y 1).val / 32 = q.val
    · rw [if_pos h, if_pos (by omega)]; rfl
    · rw [if_neg h, if_neg (by omega)]

/-- Fifty stores of one lane row each. -/
theorem laneRow_col (g : Fin 50 → FVec F S1x128 .f32) (Y : FVec F S64x128 .f32)
    (hY : ∀ y, (h : (y 0).val < 50) → Y y = g ⟨(y 0).val, h⟩ (ix2 0 (y 1))) :
    window Y ![0, 0] S50x128.size (by decide) = laneArr g := by
  funext y
  have e : ∀ h, Y ((Rect.unit (s := S64x128) ![0, 0] S50x128.size h).emb y) = laneArr g y := by
    intro h
    have h0 : (y 0).val < 50 := (y 0).isLt
    have e0 : ((Rect.unit (s := S64x128) ![0, 0] S50x128.size h).emb y 0).val = (y 0).val := by
      show 0 + 1 * (y 0).val = (y 0).val; omega
    rw [hY _ (by rw [e0]; exact h0)]
    show g _ _ = g (y 0) (ix2 0 (y 1))
    have ef : (⟨((Rect.unit (s := S64x128) ![0, 0] S50x128.size h).emb y 0).val, by rw [e0]; exact h0⟩ : Fin 50) = y 0 := Fin.ext e0
    have eg : (Rect.unit (s := S64x128) ![0, 0] S50x128.size h).emb y 1 = y 1 := Fin.ext (by show 0 + 1 * (y 1).val = (y 1).val; omega)
    rw [ef, eg]
  exact e _

theorem maxLoop_spec : ∀ (n t : Nat) (h : t + n ≤ 50) (s : St F) (x3 : FVec F S4x128x128 .f32) (x4 : FVec F S1x50x5 .f32) (_ : s.a8 = ovArr x3 x4),
    ∃ Y : FVec F S64x128 .f32, Spec defs 𝒱 c E ms s (maxLoop ms.m8 ms.m10 n t h) { s with a10 := Y } ⟨⟩
      ∧ ∀ y, Y y = if h' : t ≤ (y 0).val ∧ (y 0).val < t + n then
          rowMax (ovRow x3 x4 ⟨(y 0).val, by omega⟩) (ix2 0 (y 1)) else s.a10 y
  | 0, t, h, s, x3, x4, e8 => ⟨s.a10, Spec.ret s _, fun y => by rw [dif_neg (by omega)]⟩
  | n + 1, t, h, s, x3, x4, e8 => by
      obtain ⟨Y, hY, hv⟩ := maxLoop_spec n (t + 1) (by omega)
        { s with a10 := put s.a10 ![t, 0] S1x128.size (rowMax (ovRow x3 x4 ⟨t, by omega⟩)) } x3 x4 e8
      refine ⟨Y, ?_, fun y => ?_⟩
      · refine Spec.bind (Spec.ld (Own.get8 s) rfl _ _ (inb_row t (by omega)) (by decide)) ?_
        have er : window s.a8 ![t, 0, 0] S1x128x128.size (inb_row t (by omega)) = ovRow x3 x4 ⟨t, by omega⟩ := by rw [e8]; rfl
        rw [er]
        refine Spec.bind (Spec.bind (Spec.ld (Own.get10 s) rfl _ _ (inb_lane t (by omega)) (by decide))
          (Spec.st (Own.get10 s) _ _ (inb_lane t (by omega)) (by decide) _)) hY
      · rw [hv y]
        by_cases h1 : t + 1 ≤ (y 0).val ∧ (y 0).val < t + 1 + n
        · rw [dif_pos h1, dif_pos (by omega)]
        · rw [dif_neg h1]
          refine (put_lane s.a10 _ t y).trans ?_
          by_cases h2 : (y 0).val = t
          · rw [if_pos h2, dif_pos (by omega)]
            subst h2; rfl
          · rw [if_neg h2, dif_neg (by omega)]

theorem candLoop_spec (mc : FVec F S50x1 .f32) : ∀ (n t : Nat) (h : t + n ≤ 50) (s : St F) (x3 : FVec F S4x128x128 .f32) (x4 : FVec F S1x50x5 .f32) (_ : s.a8 = ovArr x3 x4),
    ∃ Y : FVec F S64x128 .f32, Spec defs 𝒱 c E ms s (candLoop ms.m8 ms.m11 mc n t h) { s with a11 := Y } ⟨⟩
      ∧ ∀ y, Y y = if h' : t ≤ (y 0).val ∧ (y 0).val < t + n then
          rowCand (ovRow x3 x4 ⟨(y 0).val, by omega⟩) (entry mc (y 0).val (by omega)) (ix2 0 (y 1)) else s.a11 y
  | 0, t, h, s, x3, x4, e8 => ⟨s.a11, Spec.ret s _, fun y => by rw [dif_neg (by omega)]⟩
  | n + 1, t, h, s, x3, x4, e8 => by
      obtain ⟨Y, hY, hv⟩ := candLoop_spec mc n (t + 1) (by omega)
        { s with a11 := put s.a11 ![t, 0] S1x128.size (rowCand (ovRow x3 x4 ⟨t, by omega⟩) (entry mc t (by omega))) } x3 x4 e8
      refine ⟨Y, ?_, fun y => ?_⟩
      · refine Spec.bind (Spec.ld (Own.get8 s) rfl _ _ (inb_row t (by omega)) (by decide)) ?_
        have er : window s.a8 ![t, 0, 0] S1x128x128.size (inb_row t (by omega)) = ovRow x3 x4 ⟨t, by omega⟩ := by rw [e8]; rfl
        rw [er]
        refine Spec.bind (Spec.bind (Spec.ld (Own.get11 s) rfl _ _ (inb_lane t (by omega)) (by decide))
          (Spec.st (Own.get11 s) _ _ (inb_lane t (by omega)) (by decide) _)) hY
      · rw [hv y]
        by_cases h1 : t + 1 ≤ (y 0).val ∧ (y 0).val < t + 1 + n
        · rw [dif_pos h1, dif_pos (by omega)]
        · rw [dif_neg h1]
          refine (put_lane s.a11 _ t y).trans ?_
          by_cases h2 : (y 0).val = t
          · rw [if_pos h2, dif_pos (by omega)]
            subst h2; rfl
          · rw [if_neg h2, dif_neg (by omega)]

/-- A chunk of the filled overlap buffer. -/
theorem chunk_ovArr (x3 : FVec F S4x128x128 .f32) (x4 : FVec F S1x50x5 .f32) (q : Fin 4) (t : Fin 50) :
    chunk (window (ovArr x3 x4) ![t.val, 32 * q.val, 0] S1x32x128.size (inb_ov t.val q.val t.isLt q.isLt)) = ovAt x3 x4 q t := by
  funext j
  have h0 : (j 0).val < 32 := (j 0).isLt
  have h1 : (j 1).val < 128 := (j 1).isLt
  refine (shapeCast_dropUnit_apply ![32, 128] _ (by decide) j).trans ?_
  show ovAt x3 x4 ⟨(32 * q.val + 1 * (j 0).val) / 32, _⟩ _ _ = _
  have eq : (⟨(32 * q.val + 1 * (j 0).val) / 32, by omega⟩ : Fin 4) = q := Fin.ext (by show (32 * q.val + 1 * (j 0).val) / 32 = q.val; omega)
  have et : (⟨t.val + 1 * 0, by omega⟩ : Fin 50) = t := Fin.ext (by show t.val + 1 * 0 = t.val; omega)
  have ej : (ix2 ⟨(32 * q.val + 1 * (j 0).val) % 32, by omega⟩ ⟨0 + 1 * (j 1).val, by omega⟩ : S32x128.Idx) = j := by
    funext a
    match a with
    | ⟨0, _⟩ => exact Fin.ext (by show (32 * q.val + 1 * (j 0).val) % 32 = (j 0).val; omega)
    | ⟨1, _⟩ => exact Fin.ext (by show 0 + 1 * (j 1).val = (j 1).val; omega)
  exact congr (congr (congrArg (ovAt x3 x4) eq) et) ej

theorem matchLoop_spec (q : Fin 4) (x3 : FVec F S4x128x128 .f32) (x4 : FVec F S1x50x5 .f32) (s : St F) (e8 : s.a8 = ovArr x3 x4) :
    ∀ (n t : Nat) (h : t + n ≤ 50) (hx : t + (txs x4 n t h).length ≤ 50),
      Spec defs 𝒱 c E ms s (matchLoop ms.m8 q.val q.isLt (baseBits q) (txs x4 n t h) (entries (bpCol x3 x4) n t h) t hx (accN x3 x4 q t)) s (accN x3 x4 q (t + n))
  | 0, t, h, hx => Spec.ret s _
  | n + 1, t, h, hx => by
      refine Spec.bind (Spec.ld (Own.get8 s) rfl _ _ (inb_ov t q.val (by omega) q.isLt) (by decide)) ?_
      rw [e8, chunk_ovArr x3 x4 q ⟨t, by omega⟩]
      have := matchLoop_spec q x3 x4 s e8 n (t + 1) (by omega) (by simp only [txs, List.length_cons] at hx; omega)
      have e : accN x3 x4 q (t + 1) = matchStep (baseBits q) (txAt x4 ⟨t, by omega⟩) (bpAt x3 x4 ⟨t, by omega⟩) (ovAt x3 x4 q ⟨t, by omega⟩) (accN x3 x4 q t) := by
        rw [accN, dif_pos (by omega)]
      rw [e] at this
      have e' : t + (n + 1) = t + 1 + n := by omega
      rw [e']
      exact this

theorem clsLoop_spec (q : Fin 4) (ct : FVec F S32x128 .f32) (s : St F) : ∀ (bs : List (BitVec 32)) (j : Nat) (h : j + bs.length ≤ 21) (a : Cls F),
    Spec defs 𝒱 c E ms s (clsLoop ms.m1 q.val q.isLt ct bs j h a) s (clsFold s.a1 q ct bs j h a)
  | [], j, h, a => Spec.ret s a
  | b :: bs, j, h, a => by
      refine Spec.bind (Spec.ld (Own.get1 s) rfl _ _ (inb_conf j q.val (by simp only [List.length_cons] at h; omega) q.isLt) (by decide)) ?_
      exact clsLoop_spec q ct s bs (j + 1) _ _

theorem lossChunk_spec (q : Fin 4) (s : St F) (e8 : s.a8 = ovArr s.a3 s.a4) (hx : 0 + (txs s.a4 50 0 (by omega)).length ≤ 50) (a : Sums F) :
    Spec defs 𝒱 c E ms s (lossChunk ms.m1 ms.m2 ms.m3 ms.m8 ms.m9 (txs s.a4 50 0 (by omega)) hx (entries (bpCol s.a3 s.a4) 50 0 (by omega))
      q.val q.isLt (baseBits q) (limBits q) a) { s with a9 := put s.a9 ![32 * q.val, 0] S32x128.size (deadAt s.a1 s.a3 s.a4 q) }
      (sumsStep s.a1 s.a2 s.a3 s.a4 q a) := by
  unfold lossChunk
  refine Spec.bind (matchLoop_spec q s.a3 s.a4 s e8 50 0 (by omega) hx) ?_
  refine Spec.bind (Spec.ld (Own.get3 s) rfl _ _ (inb_prior 0 q.val (by omega) q.isLt) (by decide)) ?_
  refine Spec.bind (Spec.ld (Own.get3 s) rfl _ _ (inb_prior 1 q.val (by omega) q.isLt) (by decide)) ?_
  refine Spec.bind (Spec.ld (Own.get3 s) rfl _ _ (inb_prior 2 q.val (by omega) q.isLt) (by decide)) ?_
  refine Spec.bind (Spec.ld (Own.get3 s) rfl _ _ (inb_prior 3 q.val (by omega) q.isLt) (by decide)) ?_
  refine Spec.bind (Spec.ld (Own.get2 s) rfl _ _ (inb_loc 0 q.val (by omega) q.isLt) (by decide)) ?_
  refine Spec.bind (Spec.ld (Own.get2 s) rfl _ _ (inb_loc 1 q.val (by omega) q.isLt) (by decide)) ?_
  refine Spec.bind (Spec.ld (Own.get2 s) rfl _ _ (inb_loc 2 q.val (by omega) q.isLt) (by decide)) ?_
  refine Spec.bind (Spec.ld (Own.get2 s) rfl _ _ (inb_loc 3 q.val (by omega) q.isLt) (by decide)) ?_
  refine Spec.bind (clsLoop_spec q _ s classBits 0 (by decide) cls0) ?_
  refine Spec.bind (Spec.ld (Own.get9 s) rfl _ _ (inb_lc q.val q.isLt) (by decide)) ?_
  refine Spec.bind (Spec.st (Own.get9 s) _ _ (inb_lc q.val q.isLt) (by decide) _) ?_
  exact Spec.ret _ _

theorem window_whole (x : FVec F S128x128 .f32) (h) : window x ![0, 0] S128x128.size h = x := by
  funext y
  refine congrArg x (funext fun a => Fin.ext ?_)
  match a with
  | ⟨0, _⟩ => show 0 + 1 * (y 0).val = (y 0).val; omega
  | ⟨1, _⟩ => show 0 + 1 * (y 1).val = (y 1).val; omega

theorem tail_spec (s : St F) (a : Sums F) :
    Spec defs 𝒱 c E ms s (tail ms.m5 ms.m6 ms.m7 ms.m9 a)
      { s with
        a5 := outVec (laneSum32 a.ll)
        a6 := outVec (addf (laneSum32 a.lp) (topk s.a9 (kOf (laneSum32 a.np))))
        a7 := outVec (laneSum32 a.np) } ⟨⟩ := by
  unfold tail
  refine Spec.bind (Spec.ld (Own.get9 s) rfl _ _ (by decide) (by decide)) ?_
  rw [window_whole]
  have e5 := Spec.st (defs := defs) (𝒱 := 𝒱) (c := c) (E := E) (ms := ms) (Own.get5 s) ![0, 0, 0] S1x8x128.size (by decide) (by decide) (outVec (laneSum32 a.ll))
  rw [put_out] at e5
  refine Spec.bind (Spec.bind (Spec.ld (Own.get5 s) rfl _ _ (by decide) (by decide)) e5) ?_
  have e6 := Spec.st (defs := defs) (𝒱 := 𝒱) (c := c) (E := E) (ms := ms) (Own.get6 { s with a5 := outVec (laneSum32 a.ll) }) ![0, 0, 0] S1x8x128.size (by decide) (by decide)
    (outVec (addf (laneSum32 a.lp) (topk s.a9 (kOf (laneSum32 a.np)))))
  rw [put_out] at e6
  refine Spec.bind (Spec.bind (Spec.ld (Own.get6 _) rfl _ _ (by decide) (by decide)) e6) ?_
  have e7 := Spec.st (defs := defs) (𝒱 := 𝒱) (c := c) (E := E) (ms := ms)
    (Own.get7 { s with a5 := outVec (laneSum32 a.ll), a6 := outVec (addf (laneSum32 a.lp) (topk s.a9 (kOf (laneSum32 a.np)))) }) ![0, 0, 0] S1x8x128.size (by decide) (by decide)
    (outVec (laneSum32 a.np))
  rw [put_out] at e7
  exact Spec.bind (Spec.ld (Own.get7 _) rfl _ _ (by decide) (by decide)) e7

/-! ## The body -/

theorem body_spec (s : St F) : ∃ (Y8 : FVec F S50x128x128 .f32) (Y9 : FVec F S128x128 .f32) (Y10 Y11 : FVec F S64x128 .f32),
    Spec defs 𝒱 c E ms s (body ms.m1 ms.m2 ms.m3 ms.m4 ms.m5 ms.m6 ms.m7 ms.m8 ms.m9 ms.m10 ms.m11)
      ⟨s.a1, s.a2, s.a3, s.a4, out5 s.a1 s.a2 s.a3 s.a4, out6 s.a1 s.a2 s.a3 s.a4, out7 s.a1 s.a2 s.a3 s.a4, Y8, Y9, Y10, Y11⟩ ⟨⟩ := by
  have hx : 0 + (txs s.a4 50 0 (by omega)).length ≤ 50 := by rw [txs_length]
  obtain ⟨U0, p0, u0⟩ := ovChunk_spec (defs := defs) (𝒱 := 𝒱) (c := c) (E := E) (ms := ms) 0 s hx
  obtain ⟨U1, p1, u1⟩ := ovChunk_spec (defs := defs) (𝒱 := 𝒱) (c := c) (E := E) (ms := ms) 1 { s with a8 := U0 } hx
  obtain ⟨U2, p2, u2⟩ := ovChunk_spec (defs := defs) (𝒱 := 𝒱) (c := c) (E := E) (ms := ms) 2 { s with a8 := U1 } hx
  obtain ⟨U3, p3, u3⟩ := ovChunk_spec (defs := defs) (𝒱 := 𝒱) (c := c) (E := E) (ms := ms) 3 { s with a8 := U2 } hx
  have e8 : U3 = ovArr s.a3 s.a4 := by
    funext y
    have h1 : (y 1).val < 128 := (y 1).isLt
    have key : ∀ q : Fin 4, (y 1).val / 32 = q.val → ovAt s.a3 s.a4 q (y 0) (ix2 ⟨(y 1).val % 32, by omega⟩ (y 2)) = ovArr s.a3 s.a4 y := by
      intro q hq
      have : q = ⟨(y 1).val / 32, by omega⟩ := Fin.ext hq.symm
      rw [this]; rfl
    rw [u3 y]
    by_cases h3 : (y 1).val / 32 = ((3 : Fin 4).val)
    · rw [if_pos h3]; exact key 3 h3
    rw [if_neg h3]
    refine (u2 y).trans ?_
    by_cases h2 : (y 1).val / 32 = ((2 : Fin 4).val)
    · rw [if_pos h2]; exact key 2 h2
    rw [if_neg h2]
    refine (u1 y).trans ?_
    by_cases h1' : (y 1).val / 32 = ((1 : Fin 4).val)
    · rw [if_pos h1']; exact key 1 h1'
    rw [if_neg h1']
    refine (u0 y).trans ?_
    have h0 : (y 1).val / 32 = ((0 : Fin 4).val) := by
      simp only [Fin.val_zero, Fin.val_one] at *
      have e2 : ((2 : Fin 4).val) = 2 := rfl
      have e3 : ((3 : Fin 4).val) = 3 := rfl
      omega
    rw [if_pos h0]; exact key 0 h0
  obtain ⟨M, pm, um⟩ := maxLoop_spec (defs := defs) (𝒱 := 𝒱) (c := c) (E := E) (ms := ms) 50 0 (by omega) { s with a8 := U3 } s.a3 s.a4 e8
  have em : window M ![0, 0] S50x128.size (by decide) = laneArr fun t => rowMax (ovRow s.a3 s.a4 t) :=
    laneRow_col _ M fun y h => by rw [um y, dif_pos (by omega)]
  obtain ⟨D, pd, ud⟩ := candLoop_spec (defs := defs) (𝒱 := 𝒱) (c := c) (E := E) (ms := ms) (mxCol s.a3 s.a4) 50 0 (by omega)
    { s with a8 := U3, a10 := M } s.a3 s.a4 e8
  have ed : window D ![0, 0] S50x128.size (by decide) = laneArr fun t => rowCand (ovRow s.a3 s.a4 t) (entry (mxCol s.a3 s.a4) t.val t.isLt) :=
    laneRow_col _ D fun y h => by rw [ud y, dif_pos (by omega)]
  let s0 : St F := { s with a8 := U3, a10 := M, a11 := D }
  let s1 : St F := { s0 with a9 := put s0.a9 ![32 * (0 : Fin 4).val, 0] S32x128.size (deadAt s.a1 s.a3 s.a4 0) }
  let s2 : St F := { s0 with a9 := put s1.a9 ![32 * (1 : Fin 4).val, 0] S32x128.size (deadAt s.a1 s.a3 s.a4 1) }
  let s3 : St F := { s0 with a9 := put s2.a9 ![32 * (2 : Fin 4).val, 0] S32x128.size (deadAt s.a1 s.a3 s.a4 2) }
  let s4 : St F := { s0 with a9 := put s3.a9 ![32 * (3 : Fin 4).val, 0] S32x128.size (deadAt s.a1 s.a3 s.a4 3) }
  have e9 : s4.a9 = lcArr s.a1 s.a3 s.a4 := by
    funext y
    have h1 : (y 0).val < 128 := (y 0).isLt
    have key : ∀ q : Fin 4, (y 0).val / 32 = q.val → deadAt s.a1 s.a3 s.a4 q (ix2 ⟨(y 0).val % 32, by omega⟩ (y 1)) = lcArr s.a1 s.a3 s.a4 y := by
      intro q hq
      have : q = ⟨(y 0).val / 32, by omega⟩ := Fin.ext hq.symm
      rw [this]; rfl
    refine (put_lc _ _ _ y).trans ?_
    by_cases h3 : (y 0).val / 32 = ((3 : Fin 4).val)
    · rw [if_pos h3]; exact key 3 h3
    rw [if_neg h3]
    refine (put_lc _ _ _ y).trans ?_
    by_cases h2 : (y 0).val / 32 = ((2 : Fin 4).val)
    · rw [if_pos h2]; exact key 2 h2
    rw [if_neg h2]
    refine (put_lc _ _ _ y).trans ?_
    by_cases h1' : (y 0).val / 32 = ((1 : Fin 4).val)
    · rw [if_pos h1']; exact key 1 h1'
    rw [if_neg h1']
    refine (put_lc _ _ _ y).trans ?_
    have h0 : (y 0).val / 32 = ((0 : Fin 4).val) := by
      simp only [Fin.val_zero, Fin.val_one] at *
      have e2 : ((2 : Fin 4).val) = 2 := rfl
      have e3 : ((3 : Fin 4).val) = 3 := rfl
      omega
    rw [if_pos h0]; exact key 0 h0
  refine ⟨U3, s4.a9, M, D, ?_⟩
  unfold body
  refine withTxs_spec s _ _ (txs s.a4 50 0 (by omega)) hx ?_ 50 0 (by omega) [] (by simp) (by simp)
  unfold main
  refine Spec.bind p0 (Spec.bind p1 (Spec.bind p2 (Spec.bind p3 (Spec.bind pm ?_))))
  refine Spec.bind (Spec.ld (Own.get10 _) rfl _ _ (by decide) (by decide)) ?_
  rw [em]
  refine Spec.bind pd ?_
  refine Spec.bind (Spec.ld (Own.get11 _) rfl _ _ (by decide) (by decide)) ?_
  rw [ed]
  refine Spec.bind (lossChunk_spec 0 s0 e8 hx _) (Spec.bind (lossChunk_spec 1 s1 e8 hx _)
    (Spec.bind (lossChunk_spec 2 s2 e8 hx _) (Spec.bind (lossChunk_spec 3 s3 e8 hx _) ?_)))
  have ht := tail_spec (defs := defs) (𝒱 := 𝒱) (c := c) (E := E) (ms := ms) s4 (sumsAt s.a1 s.a2 s.a3 s.a4)
  rw [e9] at ht
  rw [e9]
  exact ht

end Cert.Body

end
-- ==== Proof.KernelIdealBody0.lean ====
module

public import proofs.«01_k».proof.Proof.Gen.KernelIdeal
public import proofs.«01_k».proof.Proof.Body
import Idealize.ShloMosaic.Lib.Tactic

public section

namespace Cert.KernelIdeal.Own

open Idealize.ShloMosaic Idealize.SL.Sem
open Cert.KernelIdeal

variable {F : FTy → Type} [FloatOps F]

/-- The first call's body is the one written with loops. -/
theorem cc0_eq (i : grid0.Coords) (a1 : Memref sig .tc .vmem S1x21x128x128 .f32) (h1 : a1.IsWhole)
    (a2 : Memref sig .tc .vmem S1x4x128x128 .f32) (h2 : a2.IsWhole) (a3 : Memref sig .tc .vmem S4x128x128 .f32) (h3 : a3.IsWhole)
    (a4 : Memref sig .tc .vmem S1x50x5 .f32) (h4 : a4.IsWhole) (a5 : Memref sig .tc .vmem S1x8x128 .f32) (h5 : a5.IsWhole)
    (a6 : Memref sig .tc .vmem S1x8x128 .f32) (h6 : a6.IsWhole) (a7 : Memref sig .tc .vmem S1x8x128 .f32) (h7 : a7.IsWhole)
    (a8 : Memref sig .tc .vmem S50x128x128 .f32) (h8 : a8.IsWhole) (a9 : Memref sig .tc .vmem S128x128 .f32) (h9 : a9.IsWhole)
    (a10 : Memref sig .tc .vmem S64x128 .f32) (h10 : a10.IsWhole) (a11 : Memref sig .tc .vmem S64x128 .f32) (h11 : a11.IsWhole) :
    cc0__loss_kernel (F := F) i a1 h1 a2 h2 a3 h3 a4 h4 a5 h5 a6 h6 a7 h7 a8 h8 a9 h9 a10 h10 a11 h11
      = Cert.Body.body a1 a2 a3 a4 a5 a6 a7 a8 a9 a10 a11 := by
  refine Cert.Body.eq_of_walk _ _ ?_
  sl_kernel_rfl

end Cert.KernelIdeal.Own
end
-- ==== Proof.KernelIdealBody1.lean ====
module

public import proofs.«01_k».proof.Proof.Gen.KernelIdeal
public import proofs.«01_k».proof.Proof.Body
import Idealize.ShloMosaic.Lib.Tactic

public section

namespace Cert.KernelIdeal.Own

open Idealize.ShloMosaic Idealize.SL.Sem
open Cert.KernelIdeal

variable {F : FTy → Type} [FloatOps F]

/-- The second call's body is the one written with loops. -/
theorem cc1_eq (i : grid1.Coords) (a1 : Memref sig .tc .vmem S1x21x128x128 .f32) (h1 : a1.IsWhole)
    (a2 : Memref sig .tc .vmem S1x4x128x128 .f32) (h2 : a2.IsWhole) (a3 : Memref sig .tc .vmem S4x128x128 .f32) (h3 : a3.IsWhole)
    (a4 : Memref sig .tc .vmem S1x50x5 .f32) (h4 : a4.IsWhole) (a5 : Memref sig .tc .vmem S1x8x128 .f32) (h5 : a5.IsWhole)
    (a6 : Memref sig .tc .vmem S1x8x128 .f32) (h6 : a6.IsWhole) (a7 : Memref sig .tc .vmem S1x8x128 .f32) (h7 : a7.IsWhole)
    (a8 : Memref sig .tc .vmem S50x128x128 .f32) (h8 : a8.IsWhole) (a9 : Memref sig .tc .vmem S128x128 .f32) (h9 : a9.IsWhole)
    (a10 : Memref sig .tc .vmem S64x128 .f32) (h10 : a10.IsWhole) (a11 : Memref sig .tc .vmem S64x128 .f32) (h11 : a11.IsWhole) :
    cc1__loss_kernel (F := F) i a1 h1 a2 h2 a3 h3 a4 h4 a5 h5 a6 h6 a7 h7 a8 h8 a9 h9 a10 h10 a11 h11
      = Cert.Body.body a1 a2 a3 a4 a5 a6 a7 a8 a9 a10 a11 := by
  refine Cert.Body.eq_of_walk _ _ ?_
  sl_kernel_rfl

end Cert.KernelIdeal.Own
end
-- ==== Proof.KernelIdealFrame.lean ====
/-
  The run of the whole program: both pipelines at the body's closed forms, the buffer contents at each boundary
  between host operations and pipelines, and the frame. The set-up follows the generated certificate; the body's own
  triple is `Cert.Body.body_spec`.
-/
module

public import proofs.«01_k».proof.Proof.Gen.KernelIdeal.Launch
public import proofs.«01_k».proof.Proof.Gen.KernelIdeal.Points
public import proofs.«01_k».proof.Proof.KernelIdealBody0
public import proofs.«01_k».proof.Proof.KernelIdealBody1
public import proofs.«01_k».proof.Proof.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev ms0_0 (t : Fin cfg0.N) : Memref sig .tc .vmem S1x21x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x50x5 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x128 .f32 := win0_6.stage (cfg0.slots t 6)
abbrev hs0_6 (t : Fin cfg0.N) : (ms0_6 t).IsWhole := hstage0_6 ((cfg0.slots t 6).cast nbuf0_6)
abbrev scM0_0 : Memref sig .tc .vmem S50x128x128 .f32 := Memref.whole cc0_scratch0
abbrev scM0_1 : Memref sig .tc .vmem S128x128 .f32 := Memref.whole cc0_scratch1
abbrev scM0_2 : Memref sig .tc .vmem S64x128 .f32 := Memref.whole cc0_scratch2
abbrev scM0_3 : Memref sig .tc .vmem S64x128 .f32 := Memref.whole cc0_scratch3

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f)) ∗ (∃ r, prngReg c r)) := by
  unfold Pipeline.ΦA; rw [scopedRest0_eq]; simp only [scM0_0, scM0_1, scM0_2, scM0_3, owns_whole]; try rfl

/-- What the three outputs hold after a point: the body's closed forms at the point's blocks. -/
def outsAt0 (c : Dev nD) (t : Fin cfg0.N) : Vec F S1x8x128 .f32 × Vec F S1x8x128 .f32 × Vec F S1x8x128 .f32 :=
  (Cert.Body.out5 (iblk0 V c 0 t) (iblk0 V c 1 t) (iblk0 V c 2 t) (iblk0 V c 3 t), Cert.Body.out6 (iblk0 V c 0 t) (iblk0 V c 1 t) (iblk0 V c 2 t) (iblk0 V c 3 t), Cert.Body.out7 (iblk0 V c 0 t) (iblk0 V c 1 t) (iblk0 V c 2 t) (iblk0 V c 3 t))

/-- The pipeline's proof data: inputs at their blocks, outputs at the closed forms. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t).1
    | ⟨5, _⟩ => (outsAt0 V c t).2.1
    | ⟨6, _⟩ => (outsAt0 V c t).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t).1 := by dsimp only [dat0]
theorem after0_5 (c : Dev nD) (t : Fin cfg0.N) : (dat0 V c).after 5 t = (outsAt0 V c t).2.1 := by dsimp only [dat0]
theorem after0_6 (c : Dev nD) (t : Fin cfg0.N) : (dat0 V c).after 6 t = (outsAt0 V c t).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 800000 in
/-- The body at any point: it is the program with loops, which leaves the closed forms. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  rw [show (dat0 V c).Φ t.castSucc = Pipeline.ΦA spec0 c from rfl, PhiA0_eq]
  unfold outsAt0
  dsimp only
  rw [cc0_eq (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _)]
  iintro ⟨⟨⟨⟨%e0, HS0⟩, ⟨%e1, HS1⟩, ⟨%e2, HS2⟩, ⟨%e3, HS3⟩, HR4, HR5, HR6, HR7, HR8, HR9, HR10, HR11, HR12, HR13, HR14, HR15, HR16, HR17, HR18, HR19, HR20⟩, Hg⟩, Ho, ⟨%d0, H0⟩, ⟨%d1, H1⟩, ⟨%d2, H2⟩, ⟨%d3, H3⟩, ⟨%d4, H4⟩, ⟨%d5, H5⟩, ⟨%d6, H6⟩⟩
  obtain ⟨Y8, Y9, Y10, Y11, hspec⟩ := Cert.Body.body_spec (defs := defs₀ (F := F)) (𝒱 := Variants.none) (c := c) (E := Set.univ)
    (ms := ⟨ms0_0 t, ms0_1 t, ms0_2 t, ms0_3 t, ms0_4 t, ms0_5 t, ms0_6 t, scM0_0, scM0_1, scM0_2, scM0_3⟩)
    ⟨iblk0 V c 0 t, iblk0 V c 1 t, iblk0 V c 2 t, iblk0 V c 3 t, (dat0 V c).before 4 t d4, (dat0 V c).before 5 t d5, (dat0 V c).before 6 t d6, e0, e1, e2, e3⟩
  iapply (hspec _)
  unfold Cert.Body.Own
  dsimp only
  isplitl [H0 H1 H2 H3 H4 H5 H6 HS0 HS1 HS2 HS3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iexact HS3
  iintro ⟨H0, H1, H2, H3, H4, H5, H6, HS0, HS1, HS2, HS3⟩
  isplitl [HS0 HS1 HS2 HS3 HR4 HR5 HR6 HR7 HR8 HR9 HR10 HR11 HR12 HR13 HR14 HR15 HR16 HR17 HR18 HR19 HR20 Hg]
  · isplitl [HS0 HS1 HS2 HS3 HR4 HR5 HR6 HR7 HR8 HR9 HR10 HR11 HR12 HR13 HR14 HR15 HR16 HR17 HR18 HR19 HR20]
    · isplitl [HS0]; · iexists _; iexact HS0
      isplitl [HS1]; · iexists _; iexact HS1
      isplitl [HS2]; · iexists _; iexact HS2
      isplitl [HS3]; · iexists _; iexact HS3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      iexact HR20
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S1x21x128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4x128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x50x5 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x8x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x8x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x8x128 .f32 := win1_6.stage (cfg1.slots t 6)
abbrev hs1_6 (t : Fin cfg1.N) : (ms1_6 t).IsWhole := hstage1_6 ((cfg1.slots t 6).cast nbuf1_6)
abbrev scM1_0 : Memref sig .tc .vmem S50x128x128 .f32 := Memref.whole cc1_scratch0
abbrev scM1_1 : Memref sig .tc .vmem S128x128 .f32 := Memref.whole cc1_scratch1
abbrev scM1_2 : Memref sig .tc .vmem S64x128 .f32 := Memref.whole cc1_scratch2
abbrev scM1_3 : Memref sig .tc .vmem S64x128 .f32 := Memref.whole cc1_scratch3

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

/-- What the three outputs hold after a point: the body's closed forms at the point's blocks. -/
def outsAt1 (c : Dev nD) (t : Fin cfg1.N) : Vec F S1x8x128 .f32 × Vec F S1x8x128 .f32 × Vec F S1x8x128 .f32 :=
  (Cert.Body.out5 (iblk1 V c 0 t) (iblk1 V c 1 t) (iblk1 V c 2 t) (iblk1 V c 3 t), Cert.Body.out6 (iblk1 V c 0 t) (iblk1 V c 1 t) (iblk1 V c 2 t) (iblk1 V c 3 t), Cert.Body.out7 (iblk1 V c 0 t) (iblk1 V c 1 t) (iblk1 V c 2 t) (iblk1 V c 3 t))

/-- The pipeline's proof data: inputs at their blocks, outputs at the closed forms. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t).1
    | ⟨5, _⟩ => (outsAt1 V c t).2.1
    | ⟨6, _⟩ => (outsAt1 V c t).2.2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t).1 := by dsimp only [dat1]
theorem after1_5 (c : Dev nD) (t : Fin cfg1.N) : (dat1 V c).after 5 t = (outsAt1 V c t).2.1 := by dsimp only [dat1]
theorem after1_6 (c : Dev nD) (t : Fin cfg1.N) : (dat1 V c).after 6 t = (outsAt1 V c t).2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 800000 in
/-- The body at any point: it is the program with loops, which leaves the closed forms. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, PhiA1_eq]
  unfold outsAt1
  dsimp only
  rw [cc1_eq (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _)]
  iintro ⟨⟨⟨HR0, HR1, HR2, HR3, HR4, HR5, HR6, HR7, HR8, HR9, HR10, HR11, HR12, HR13, HR14, HR15, HR16, ⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩⟩
  obtain ⟨Y8, Y9, Y10, Y11, hspec⟩ := Cert.Body.body_spec (defs := defs₀ (F := F)) (𝒱 := Variants.none) (c := c) (E := Set.univ)
    (ms := ⟨ms1_0 t, ms1_1 t, ms1_2 t, ms1_3 t, ms1_4 t, ms1_5 t, ms1_6 t, scM1_0, scM1_1, scM1_2, scM1_3⟩)
    ⟨iblk1 V c 0 t, iblk1 V c 1 t, iblk1 V c 2 t, iblk1 V c 3 t, (dat1 V c).before 4 t d4, (dat1 V c).before 5 t d5, (dat1 V c).before 6 t d6, e0, e1, e2, e3⟩
  iapply (hspec _)
  unfold Cert.Body.Own
  dsimp only
  isplitl [H0 H1 H2 H3 H4 H5 H6 HS0 HS1 HS2 HS3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iexact HS3
  iintro ⟨H0, H1, H2, H3, H4, H5, H6, HS0, HS1, HS2, HS3⟩
  isplitl [HR0 HR1 HR2 HR3 HR4 HR5 HR6 HR7 HR8 HR9 HR10 HR11 HR12 HR13 HR14 HR15 HR16 HS0 HS1 HS2 HS3 Hg]
  · isplitl [HR0 HR1 HR2 HR3 HR4 HR5 HR6 HR7 HR8 HR9 HR10 HR11 HR12 HR13 HR14 HR15 HR16 HS0 HS1 HS2 HS3]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HS0]; · iexists _; iexact HS0
      isplitl [HS1]; · iexists _; iexact HS1
      isplitl [HS2]; · iexists _; iexact HS2
      iexists _; iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

abbrev argRefs : List (Ref sig .tc) := [main_arg0, main_arg1, main_arg2, main_arg3, main_arg4, main_arg5]

theorem hostOps0_fresh : (hostOps0 : List (HloOp τ sig (Elt F))).Forall fun op => op.fresh = ∅ := by
  simp only [List.Forall]; repeat' constructor
abbrev hostOps0_W : List (Ref sig .tc) := [main_call0_cst, main_call0_v0, main_call0_v1, main_call0_v2, main_call0_v3, main_call0_v4, main_call0_v5, main_call0_v6, main_call0_v7, main_call0_v8, main_call0_v9, main_call0_c, main_call0_call0_v0, main_call0_v10, main_call0_v11, main_call0_v12, main_call0_c_0, main_call0_call1_v0, main_call0_v13, main_call0_v14]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_call0_v16, main_call0_v17, main_call0_v18, main_call0_v19, main_call0_c_1, main_call0_call2_v0, main_call0_v20, main_call0_v21, main_call0_v22, main_call0_c_2, main_call0_call3_v0, main_call0_v23, main_call0_v24]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_call0_v26, main_call0_v27, main_call0_cst_3, main_call0_v28, main_call0_cst_4, main_call0_v29, main_call0_v30, main_call0_v31, main_call0_cst_5, main_call0_v32, main_call0_v33, main_call0_v34, main_call0_v35, main_call0_cst_6, main_call0_v36, main_call0_cst_7, main_call0_v37, main_call0_v38, main_call0_v39, main_call0_cst_8, main_call0_v40, main_call0_v41, main_call0_v42, main_call0_v43, main_call0_cst_9, main_call0_v44, main_call0_cst_10, main_call0_v45, main_call0_v46, main_call0_v47, main_call0_cst_11, main_call0_v48, main_call0_v49, main_call0_cst_12, main_call0_v50, main_v0_0, main_v0_1]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
theorem run_all : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
    (θ_run defs _ _).mono (fun _ h => ⟨(fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c)⟩), h.2⟩) (run_all m ρ)

end Cert.KernelIdeal.Own

end
-- ==== Proof.Order.lean ====
/-
  Facts about the order of the extended reals: the first and the last of the greatest of a family, folds of minima and
  maxima, the running maximum that carries a payload, and the constants of the programs as extended reals.
-/
module

public import Idealize.ShloMosaic.Lib.Pointwise
public import Idealize.ShloMosaic.Lib.IdealHost

@[expose] public section

noncomputable section

namespace Cert.Spec

open Idealize.ShloMosaic

/-! ## Constants -/

theorem c_half : Ideal.ofBits .f32 0x3F000000#32 = ((1 / 2 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_neg_one : Ideal.ofBits .f32 0xBF800000#32 = ((-1 : ℝ) : EReal) := by
  simp [Ideal.ofBits, Ideal.ieee, -EReal.coe_mul, -EReal.coe_neg]; norm_num
theorem c_one : Ideal.ofBits .f32 0x3F800000#32 = ((1 : ℝ) : EReal) := by
  simp [Ideal.ofBits, Ideal.ieee, -EReal.coe_mul]; norm_num
theorem c_ten : Ideal.ofBits .f32 0x41200000#32 = ((10 : ℝ) : EReal) := by
  simp [Ideal.ofBits, Ideal.ieee, -EReal.coe_mul]; norm_num
theorem c_five : Ideal.ofBits .f32 0x40A00000#32 = ((5 : ℝ) : EReal) := by
  simp [Ideal.ofBits, Ideal.ieee, -EReal.coe_mul]; norm_num
theorem c_top : Ideal.ofBits .f32 0x7F800000#32 = (⊤ : EReal) := by
  simp [Ideal.ofBits, Ideal.ieee, -EReal.coe_mul]
theorem c_bot : Ideal.ofBits .f32 0xFF800000#32 = (⊥ : EReal) := by
  simp [Ideal.ofBits, Ideal.ieee, -EReal.coe_mul]
theorem c_big : ((16384 : ℝ) : EReal) ≤ Ideal.ofBits .f32 0x7F61B1E6#32 := by
  simp [Ideal.ofBits, Ideal.ieee, -EReal.coe_mul]; norm_num
theorem c_neg_hundred : Ideal.ofBits .f32 0xC2C80000#32 = ((-100 : ℝ) : EReal) := by
  simp [Ideal.ofBits, Ideal.ieee, -EReal.coe_mul, -EReal.coe_neg]; norm_num

/-! ## Folds -/

theorem fold_max_eq {ι : Type} [Fintype ι] (g : ι → EReal) {v : EReal} (i : ι) (hi : g i = v) (h : ∀ k, g k ≤ v) :
    Finset.univ.fold max ⊥ g = v := by
  apply le_antisymm
  · rw [Finset.fold_max_le]; exact ⟨bot_le, fun k _ => h k⟩
  · rw [Finset.le_fold_max]; exact Or.inr ⟨i, Finset.mem_univ i, hi.ge⟩

theorem le_fold_max' {ι : Type} [Fintype ι] (g : ι → EReal) (i : ι) : g i ≤ Finset.univ.fold max ⊥ g := by
  rw [Finset.le_fold_max]; exact Or.inr ⟨i, Finset.mem_univ i, le_rfl⟩

theorem fold_min_eq {ι : Type} [Fintype ι] (g : ι → EReal) {v : EReal} (i : ι) (hi : g i = v) (h : ∀ k, v ≤ g k) :
    Finset.univ.fold min ⊤ g = v := by
  apply le_antisymm
  · rw [Finset.fold_min_le]; exact Or.inr ⟨i, Finset.mem_univ i, hi.le⟩
  · rw [Finset.le_fold_min]; exact ⟨le_top, fun k _ => h k⟩

/-- A fold of a choice between two values that takes one which is at most every other. -/
theorem fold_choice {ι β : Type} [DecidableEq ι] (op : β → β → β) [Std.Commutative op] [Std.Associative op]
    (le : β → β → Prop) (hop : ∀ a b, (op a b = a ∧ le a b) ∨ (op a b = b ∧ le b a)) (hrefl : ∀ a, le a a)
    (htrans : ∀ a b c, le a b → le b c → le a c)
    (s : Finset ι) (g : ι → β) (init : β) :
    (s.fold op init g = init ∨ ∃ i ∈ s, s.fold op init g = g i) ∧ le (s.fold op init g) init ∧
      ∀ i ∈ s, le (s.fold op init g) (g i) := by
  induction s using Finset.induction_on with
  | empty => simp [hrefl]
  | insert a s ha ih =>
    rw [Finset.fold_insert ha]
    obtain ⟨h1, h2, h3⟩ := ih
    rcases hop (g a) (s.fold op init g) with ⟨e, hl⟩ | ⟨e, hl⟩
    · rw [e]
      refine ⟨Or.inr ⟨a, Finset.mem_insert_self _ _, rfl⟩, htrans _ _ _ hl h2, ?_⟩
      intro i hi
      rcases Finset.mem_insert.1 hi with rfl | hi
      · exact hrefl _
      · exact htrans _ _ _ hl (h3 i hi)
    · rw [e]
      refine ⟨?_, h2, ?_⟩
      · rcases h1 with h1 | ⟨i, hi, h1⟩
        · exact Or.inl h1
        · exact Or.inr ⟨i, Finset.mem_insert_of_mem hi, h1⟩
      · intro i hi
        rcases Finset.mem_insert.1 hi with rfl | hi
        · exact hl
        · exact h3 i hi

theorem minsi_choice (a b : BitVec 32) : (IntOp.minsi a b = a ∧ a.toInt ≤ b.toInt) ∨ (IntOp.minsi a b = b ∧ b.toInt ≤ a.toInt) := by
  unfold IntOp.minsi
  have := BitVec.sle_iff_toInt_le (x := a) (y := b)
  have := BitVec.slt_iff_toInt_lt (x := a) (y := b)
  have := BitVec.slt_iff_toInt_lt (x := b) (y := a)
  split <;> simp_all <;> omega

theorem maxsi_choice (a b : BitVec 32) : (IntOp.maxsi a b = a ∧ b.toInt ≤ a.toInt) ∨ (IntOp.maxsi a b = b ∧ a.toInt ≤ b.toInt) := by
  unfold IntOp.maxsi
  have := BitVec.sle_iff_toInt_le (x := a) (y := b)
  have := BitVec.slt_iff_toInt_lt (x := a) (y := b)
  have := BitVec.slt_iff_toInt_lt (x := b) (y := a)
  split <;> simp_all <;> omega

theorem fold_minsi {ι : Type} [Fintype ι] [DecidableEq ι] [Std.Commutative (IntOp.minsi (w := 32))] [Std.Associative (IntOp.minsi (w := 32))]
    (g : ι → BitVec 32) (init v : BitVec 32) (i : ι)
    (hi : g i = v) (h : ∀ k, v.toInt ≤ (g k).toInt) (h0 : v.toInt ≤ init.toInt) :
    Finset.univ.fold IntOp.minsi init g = v := by
  have := fold_choice IntOp.minsi (fun a b => a.toInt ≤ b.toInt) minsi_choice (fun _ => le_rfl)
    (fun _ _ _ => le_trans) Finset.univ g init
  obtain ⟨h1, -, h3⟩ := this
  apply BitVec.eq_of_toInt_eq
  apply le_antisymm
  · rw [← hi]; exact h3 i (Finset.mem_univ _)
  · rcases h1 with h1 | ⟨k, -, h1⟩
    · rw [h1]; exact h0
    · rw [h1]; exact h k

theorem fold_maxsi {ι : Type} [Fintype ι] [DecidableEq ι] [Std.Commutative (IntOp.maxsi (w := 32))] [Std.Associative (IntOp.maxsi (w := 32))]
    (g : ι → BitVec 32) (init v : BitVec 32) (i : ι)
    (hi : g i = v) (h : ∀ k, (g k).toInt ≤ v.toInt) (h0 : init.toInt ≤ v.toInt) :
    Finset.univ.fold IntOp.maxsi init g = v := by
  have := fold_choice IntOp.maxsi (fun a b => b.toInt ≤ a.toInt) maxsi_choice (fun _ => le_rfl)
    (fun _ _ _ h h' => le_trans h' h) Finset.univ g init
  obtain ⟨h1, -, h3⟩ := this
  apply BitVec.eq_of_toInt_eq
  apply le_antisymm
  · rcases h1 with h1 | ⟨k, -, h1⟩
    · rw [h1]; exact h0
    · rw [h1]; exact h k
  · rw [← hi]; exact h3 i (Finset.mem_univ _)

theorem toInt_ofNat (n : ℕ) (h : n < 2 ^ 31) : (BitVec.ofNat 32 n).toInt = n := by
  rw [BitVec.toInt_eq_toNat_cond, BitVec.toNat_ofNat, Nat.mod_eq_of_lt (by omega), if_pos (by omega)]

/-! ## The first and the last of the greatest -/

/-- `T` is the first of the greatest. -/
def IsFirst {n : ℕ} (o : Fin n → EReal) (T : Fin n) : Prop := (∀ t, o t ≤ o T) ∧ ∀ t, t < T → o t < o T

/-- `T` is the last of the greatest. -/
def IsLast {n : ℕ} (o : Fin n → EReal) (T : Fin n) : Prop := (∀ t, o t ≤ o T) ∧ ∀ t, T < t → o t < o T

theorem IsFirst.unique {n : ℕ} {o : Fin n → EReal} {T T' : Fin n} (h : IsFirst o T) (h' : IsFirst o T') : T = T' := by
  rcases lt_trichotomy T T' with hl | hl | hl
  · exact absurd (h'.2 T hl) (not_lt.2 (h.1 T'))
  · exact hl
  · exact absurd (h.2 T' hl) (not_lt.2 (h'.1 T))

theorem IsLast.unique {n : ℕ} {o : Fin n → EReal} {T T' : Fin n} (h : IsLast o T) (h' : IsLast o T') : T = T' := by
  rcases lt_trichotomy T T' with hl | hl | hl
  · exact absurd (h.2 T' hl) (not_lt.2 (h'.1 T))
  · exact hl
  · exact absurd (h'.2 T hl) (not_lt.2 (h.1 T'))

theorem exists_first {n : ℕ} (o : Fin (n + 1) → EReal) : ∃ T, IsFirst o T := by
  classical
  obtain ⟨M, -, hM⟩ := Finset.exists_max_image Finset.univ o ⟨0, Finset.mem_univ 0⟩
  let S := Finset.univ.filter fun t => o t = o M
  have hS : S.Nonempty := ⟨M, by simp [S]⟩
  have hm := S.min'_mem hS
  have he : o (S.min' hS) = o M := (Finset.mem_filter.1 hm).2
  refine ⟨S.min' hS, fun t => he ▸ hM t (Finset.mem_univ t), fun t ht => ?_⟩
  rw [he]
  refine lt_of_le_of_ne (hM t (Finset.mem_univ t)) fun e => ?_
  exact absurd (S.min'_le t (by simp [S, e])) (not_le.2 ht)

theorem exists_last {n : ℕ} (o : Fin (n + 1) → EReal) : ∃ T, IsLast o T := by
  classical
  obtain ⟨M, -, hM⟩ := Finset.exists_max_image Finset.univ o ⟨0, Finset.mem_univ 0⟩
  let S := Finset.univ.filter fun t => o t = o M
  have hS : S.Nonempty := ⟨M, by simp [S]⟩
  have hm := S.max'_mem hS
  have he : o (S.max' hS) = o M := (Finset.mem_filter.1 hm).2
  refine ⟨S.max' hS, fun t => he ▸ hM t (Finset.mem_univ t), fun t ht => ?_⟩
  rw [he]
  refine lt_of_le_of_ne (hM t (Finset.mem_univ t)) fun e => ?_
  exact absurd (S.le_max' t (by simp [S, e])) (not_le.2 ht)

def first {n : ℕ} (o : Fin (n + 1) → EReal) : Fin (n + 1) := (exists_first o).choose
theorem first_spec {n : ℕ} (o : Fin (n + 1) → EReal) : IsFirst o (first o) := (exists_first o).choose_spec
def last {n : ℕ} (o : Fin (n + 1) → EReal) : Fin (n + 1) := (exists_last o).choose
theorem last_spec {n : ℕ} (o : Fin (n + 1) → EReal) : IsLast o (last o) := (exists_last o).choose_spec

theorem fold_max_first {n : ℕ} (o : Fin (n + 1) → EReal) : Finset.univ.fold max ⊥ o = o (first o) :=
  fold_max_eq o (first o) rfl (first_spec o).1

theorem last_eq_first {n : ℕ} (o : Fin (n + 1) → EReal) : o (last o) = o (first o) :=
  le_antisymm ((first_spec o).1 _) ((last_spec o).1 _)

/-- The index of the first of the greatest as the least of the indices at which the greatest is met. -/
theorem fold_minsi_first {n : ℕ} (hn : n + 1 < 2 ^ 31) [Std.Commutative (IntOp.minsi (w := 32))] [Std.Associative (IntOp.minsi (w := 32))]
    (o : Fin (n + 1) → EReal) (g : Fin (n + 1) → BitVec 32) (big : ℕ) (hb : n ≤ big ∧ big < 2 ^ 31)
    (hg : ∀ k, g k = if o k = o (first o) then BitVec.ofNat 32 k.val else BitVec.ofNat 32 big) :
    Finset.univ.fold IntOp.minsi 2147483647#32 g = BitVec.ofNat 32 (first o).val := by
  have hf := (first o).isLt
  refine fold_minsi g _ _ (first o) (by rw [hg, if_pos rfl]) (fun k => ?_) ?_
  · have hk := k.isLt
    rw [hg, toInt_ofNat _ (by omega)]
    split
    next h =>
      rw [toInt_ofNat _ (by omega)]
      have : ¬ k < first o := fun hlt => absurd h ((first_spec o).2 k hlt).ne
      have : (first o).val ≤ k.val := not_lt.1 this
      omega
    next h => rw [toInt_ofNat _ (by omega)]; omega
  · rw [toInt_ofNat _ (by omega)]
    have : (2147483647#32 : BitVec 32).toInt = 2147483647 := by decide
    omega

/-! ## The running maximum -/

/-- One step: the value, if it is at least the running one, with its payload. -/
def mstep {α : Type} (f : EReal) (x : α) (a : EReal × α) : EReal × α := if a.1 ≤ f then (f, x) else a

def mrun {α : Type} {N : ℕ} (o : Fin N → EReal) (pay : Fin N → α) (a : EReal × α) : ℕ → EReal × α
  | 0 => a
  | n + 1 => if h : n < N then mstep (o ⟨n, h⟩) (pay ⟨n, h⟩) (mrun o pay a n) else mrun o pay a n

theorem mrun_spec {α : Type} {N : ℕ} (o : Fin N → EReal) (pay : Fin N → α) (a : EReal × α) (h0 : ∀ t, a.1 ≤ o t) :
    ∀ n, n + 1 ≤ N → ∃ T : Fin N, T.val < n + 1 ∧ (∀ t : Fin N, t.val < n + 1 → o t ≤ o T) ∧
      (∀ t : Fin N, T < t → t.val < n + 1 → o t < o T) ∧ mrun o pay a (n + 1) = (o T, pay T)
  | 0, h => by
    refine ⟨⟨0, h⟩, by simp, fun t ht => ?_, fun t ht ht' => ?_, ?_⟩
    · have : t = ⟨0, h⟩ := Fin.ext (by simp; omega)
      rw [this]
    · exact absurd (show (0 : ℕ) < t.val from ht) (by omega)
    · rw [mrun, dif_pos (show 0 < N from h)]
      exact if_pos (h0 ⟨0, h⟩)
  | n + 1, h => by
    obtain ⟨T, hT, hle, hlt, he⟩ := mrun_spec o pay a h0 n (by omega)
    by_cases hc : o T ≤ o ⟨n + 1, h⟩
    · refine ⟨⟨n + 1, h⟩, by simp, fun t ht => ?_, fun t ht ht' => ?_, ?_⟩
      · by_cases ht' : t.val < n + 1
        · exact (hle t ht').trans hc
        · have : t = ⟨n + 1, h⟩ := Fin.ext (by simp; omega)
          rw [this]
      · exact absurd (show n + 1 < t.val from ht) (by omega)
      · rw [mrun, dif_pos (show n + 1 < N from h), he]
        simp only [mstep, if_pos hc]
    · refine ⟨T, by omega, fun t ht => ?_, fun t ht ht' => ?_, ?_⟩
      · by_cases ht' : t.val < n + 1
        · exact hle t ht'
        · have : t = ⟨n + 1, h⟩ := Fin.ext (by simp; omega)
          rw [this]; exact (not_le.1 hc).le
      · by_cases ht'' : t.val < n + 1
        · exact hlt t ht ht''
        · have : t = ⟨n + 1, h⟩ := Fin.ext (by simp; omega)
          rw [this]; exact not_le.1 hc
      · rw [mrun, dif_pos (show n + 1 < N from h), he]
        simp only [mstep, if_neg hc]

/-- The running maximum of a whole family ends at its last greatest. -/
theorem mrun_last {α : Type} {N : ℕ} (o : Fin (N + 1) → EReal) (pay : Fin (N + 1) → α) (a : EReal × α) (h0 : ∀ t, a.1 ≤ o t) :
    mrun o pay a (N + 1) = (o (last o), pay (last o)) := by
  obtain ⟨T, -, hle, hlt, he⟩ := mrun_spec o pay a h0 N le_rfl
  have : T = last o := IsLast.unique ⟨fun t => hle t t.isLt, fun t ht => hlt t ht t.isLt⟩ (last_spec o)
  rw [he, this]

end Cert.Spec

end
-- ==== Proof.Spec.lean ====
/-
  The matching of priors with truths, as functions of one image's truths and of the priors, and the localisation loss
  of a prior: what both programs compute, stated once.
-/
module

public import proofs.«01_k».proof.Proof.Order

@[expose] public section

noncomputable section

namespace Cert.Spec

open Idealize.ShloMosaic

/-! ## Division by a real -/

theorem div_real {y : ℝ} (hy : y ≠ 0) (x : EReal) : Ideal.div x (y : EReal) = x * ((y⁻¹ : ℝ) : EReal) := by
  rw [Ideal.div, if_neg (by exact_mod_cast hy), EReal.coe_inv]

/-! ## Overlaps -/

/-- The part of the overlap that both ends of an axis share: the shared length, or zero. -/
def cut (plo phi tlo thi : EReal) : EReal := max (min phi thi - max plo tlo) 0

def inter (t : Fin 5 → EReal) (p : Fin 4 → EReal) : EReal :=
  cut (p 0 - p 2 * ((1 / 2 : ℝ) : EReal)) (p 0 + p 2 * ((1 / 2 : ℝ) : EReal)) (t 0) (t 2)
    * cut (p 1 - p 3 * ((1 / 2 : ℝ) : EReal)) (p 1 + p 3 * ((1 / 2 : ℝ) : EReal)) (t 1) (t 3)

def areaP (p : Fin 4 → EReal) : EReal :=
  (p 0 + p 2 * ((1 / 2 : ℝ) : EReal) - (p 0 - p 2 * ((1 / 2 : ℝ) : EReal)))
    * (p 1 + p 3 * ((1 / 2 : ℝ) : EReal) - (p 1 - p 3 * ((1 / 2 : ℝ) : EReal)))

/-- The overlap of a truth with a prior. -/
def ovS (t : Fin 5 → EReal) (p : Fin 4 → EReal) : EReal :=
  Ideal.div (inter t p) ((t 2 - t 0) * (t 3 - t 1) + areaP p - inter t p)

/-- A truth: its corners in order, right of the padded priors. -/
structure GoodT (t : Fin 5 → EReal) : Prop where
  x : t 0 ≤ t 2
  y : t 1 ≤ t 3
  right : ((-99.5 : ℝ) : EReal) ≤ t 0

/-- A prior: a positive size. -/
structure GoodP (p : Fin 4 → EReal) : Prop where
  w : 0 < p 2
  h : 0 < p 3

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

/-- Neither real: the quotient by it is zero. -/
def Inf (x : EReal) : Prop := x = ⊤ ∨ x = ⊥

theorem Inf.div {y : EReal} (h : Inf y) (x : EReal) : Ideal.div x y = 0 := by
  rcases h with rfl | rfl
  · rw [Ideal.div, if_neg (by simp), EReal.inv_top, mul_zero]
  · rw [Ideal.div, if_neg (by simp), EReal.inv_bot, mul_zero]

theorem Inf.sub {x : EReal} (h : Inf x) (i : EReal) : Inf (x - i) := by
  rcases h with rfl | rfl
  · induction i using EReal.rec with
    | coe r => exact Or.inl (EReal.top_sub_coe r)
    | bot => exact Or.inl rfl
    | top => exact Or.inr rfl
  · exact Or.inr (EReal.bot_sub i)

theorem Inf.add {x : EReal} (h : Inf x) (a : EReal) : Inf (a + x) := by
  rcases h with rfl | rfl
  · induction a using EReal.rec with
    | coe r => exact Or.inl (EReal.coe_add_top r)
    | bot => exact Or.inr rfl
    | top => exact Or.inl rfl
  · exact Or.inr (EReal.add_bot a)

theorem Inf.mul {x y : EReal} (h : Inf x) (hy : y ≠ 0) : Inf (x * y) := by
  have t : Inf (⊤ * y) := by
    rcases lt_or_gt_of_ne hy with g | g
    · exact Or.inr (EReal.top_mul_of_neg g)
    · exact Or.inl (EReal.top_mul_of_pos g)
  have b : Inf (⊥ * y) := by
    rcases lt_or_gt_of_ne hy with g | g
    · exact Or.inl (EReal.bot_mul_of_neg g)
    · exact Or.inr (EReal.bot_mul_of_pos g)
  rcases h with rfl | rfl
  · exact t
  · exact b

theorem inf_or (x : EReal) : Inf x ∨ ∃ r : ℝ, x = r := by
  induction x using EReal.rec with
  | coe r => exact Or.inr ⟨r, rfl⟩
  | bot => exact Or.inl (Or.inr rfl)
  | top => exact Or.inl (Or.inl rfl)

/-- The width of an interval: infinite, or real with both ends. -/
theorem width_or (a b : EReal) (h : a ≤ b) : Inf (b - a) ∨ ∃ r s : ℝ, a = r ∧ b = s ∧ r ≤ s ∧ b - a = ((s - r : ℝ) : EReal) := by
  rcases inf_or a with ha | ⟨r, rfl⟩
  · rcases ha with rfl | rfl
    · exact Or.inl (Or.inr (EReal.sub_top b))
    · rcases eq_or_ne b ⊥ with rfl | hb
      · exact Or.inl (Or.inr rfl)
      · exact Or.inl (Or.inl (EReal.sub_bot hb))
  · rcases inf_or b with hb | ⟨s, rfl⟩
    · exact Or.inl (hb.sub _)
    · exact Or.inr ⟨r, s, rfl, rfl, EReal.coe_le_coe_iff.1 h, (EReal.coe_sub s r).symm⟩

/-- The shared length of a real interval and another: real, at most the first's, and at most the second's where that is real. -/
theorem cut_real {a b : ℝ} (hab : a ≤ b) (c d : EReal) :
    ∃ r : ℝ, 0 ≤ r ∧ r ≤ b - a ∧ cut a b c d = r ∧ ∀ u v : ℝ, c = u → d = v → u ≤ v → r ≤ v - u := by
  have h1 : cut a b c d ≤ ((b - a : ℝ) : EReal) := by
    refine max_le ?_ (by exact_mod_cast sub_nonneg.2 hab)
    rw [EReal.coe_sub]
    exact EReal.sub_le_sub (min_le_left _ _) (le_max_left _ _)
  have h0 : 0 ≤ cut a b c d := le_max_right _ _
  rcases inf_or (cut a b c d) with h | ⟨r, e⟩
  · rcases h with h | h
    · rw [h] at h1; exact absurd h1 (not_le.2 (EReal.coe_lt_top _))
    · rw [h] at h0; exact absurd h0 (not_le.2 (EReal.bot_lt_zero))
  · refine ⟨r, by rw [e] at h0; exact_mod_cast h0, by rw [e] at h1; exact_mod_cast h1, e, fun u v hu hv huv => ?_⟩
    have h2 : cut a b c d ≤ ((v - u : ℝ) : EReal) := by
      refine max_le ?_ (by exact_mod_cast sub_nonneg.2 huv)
      rw [EReal.coe_sub, hu, hv]
      exact EReal.sub_le_sub (min_le_right _ _) (le_max_right _ _)
    rw [e] at h2; exact_mod_cast h2

/-- One axis of a prior: of infinite width, or real, of its own width. -/
theorem axis_or (c w : EReal) (hw : 0 < w) :
    Inf (c + w * ((1 / 2 : ℝ) : EReal) - (c - w * ((1 / 2 : ℝ) : EReal)))
    ∨ ∃ a b : ℝ, a < b ∧ c - w * ((1 / 2 : ℝ) : EReal) = a ∧ c + w * ((1 / 2 : ℝ) : EReal) = b := by
  have top2 : (⊤ : EReal) * ((1 / 2 : ℝ) : EReal) = ⊤ := EReal.top_mul_coe_of_pos (by norm_num)
  rcases inf_or w with h | ⟨r, rfl⟩
  · rcases h with rfl | rfl
    · rw [top2, EReal.sub_top]
      rcases eq_or_ne (c + ⊤) ⊥ with e | e
      · rw [e]; exact Or.inl (Or.inr rfl)
      · exact Or.inl (Or.inl (EReal.sub_bot e))
    · exact absurd hw (not_lt.2 bot_le)
  · have hr : 0 < r := by exact_mod_cast hw
    rcases inf_or c with h | ⟨s, rfl⟩
    · left
      rw [← EReal.coe_mul]
      rcases h with rfl | rfl
      · rw [EReal.top_sub_coe, EReal.sub_top]; exact Or.inr rfl
      · rw [EReal.bot_add]; exact Or.inr (EReal.bot_sub _)
    · exact Or.inr ⟨s - r * (1 / 2), s + r * (1 / 2), by linarith, by rw [← EReal.coe_mul, ← EReal.coe_sub], by rw [← EReal.coe_mul, ← EReal.coe_add]⟩

theorem axis_ne (c w : EReal) (hw : 0 < w) : c + w * ((1 / 2 : ℝ) : EReal) - (c - w * ((1 / 2 : ℝ) : EReal)) ≠ 0 := by
  rcases axis_or c w hw with (h | h) | ⟨a, b, hab, ha, hb⟩
  · rw [h]; simp
  · rw [h]; simp
  · rw [ha, hb, ← EReal.coe_sub]
    exact_mod_cast (sub_pos.2 hab).ne'

/-- A truth's area against the shared area: infinite, or real and at least that. -/
theorem area_or {a b a' b' : ℝ} (hab : a ≤ b) (hab' : a' ≤ b') {c d c' d' : EReal} (h : c ≤ d) (h' : c' ≤ d') :
    ∃ i : ℝ, 0 ≤ i ∧ i ≤ (b - a) * (b' - a') ∧ cut a b c d * cut a' b' c' d' = i
      ∧ (Inf ((d - c) * (d' - c')) ∨ ∃ α : ℝ, (d - c) * (d' - c') = α ∧ i ≤ α) := by
  obtain ⟨r, r0, r1, e, hr⟩ := cut_real hab c d
  obtain ⟨s, s0, s1, e', hs⟩ := cut_real hab' c' d'
  refine ⟨r * s, mul_nonneg r0 s0, mul_le_mul r1 s1 s0 (by linarith), by rw [e, e', EReal.coe_mul], ?_⟩
  rcases width_or c d h with w | ⟨u, v, hu, hv, huv, w⟩
  · rcases width_or c' d' h' with w' | ⟨u', v', hu', hv', huv', w'⟩
    · left
      refine w.mul ?_
      rcases w' with w' | w' <;> rw [w'] <;> simp
    · have := hs u' v' hu' hv' huv'
      rcases huv'.lt_or_eq with lt | eq
      · left
        refine w.mul ?_
        rw [w']; exact_mod_cast (sub_pos.2 lt).ne'
      · right
        have s00 : s = 0 := by linarith
        exact ⟨0, by rw [w', eq, sub_self, EReal.coe_zero, mul_zero], by rw [s00, mul_zero]⟩
  · have hru := hr u v hu hv huv
    rcases width_or c' d' h' with w' | ⟨u', v', hu', hv', huv', w'⟩
    · rcases huv.lt_or_eq with lt | eq
      · left
        rw [mul_comm]
        refine w'.mul ?_
        rw [w]; exact_mod_cast (sub_pos.2 lt).ne'
      · right
        have r00 : r = 0 := by linarith
        exact ⟨0, by rw [w, eq, sub_self, EReal.coe_zero, zero_mul], by rw [r00, zero_mul]⟩
    · right
      have hsu := hs u' v' hu' hv' huv'
      exact ⟨(v - u) * (v' - u'), by rw [w, w', EReal.coe_mul], mul_le_mul hru hsu s0 (by linarith)⟩

theorem ovS_real {t : Fin 5 → EReal} {p : Fin 4 → EReal} (ht : GoodT t) (hp : GoodP p) :
    ∃ o : ℝ, 0 ≤ o ∧ o ≤ 1 ∧ ovS t p = o ∧ (inter t p = 0 → o = 0) := by
  have zero : Inf ((t 2 - t 0) * (t 3 - t 1) + areaP p - inter t p) → ∃ o : ℝ, 0 ≤ o ∧ o ≤ 1 ∧ ovS t p = o ∧ (inter t p = 0 → o = 0) :=
    fun h => ⟨0, le_rfl, zero_le_one, by rw [ovS, h.div, EReal.coe_zero], fun _ => rfl⟩
  rcases axis_or (p 0) (p 2) hp.w with h | ⟨a, b, hab, ha, hb⟩
  · exact zero (((h.mul (axis_ne (p 1) (p 3) hp.h)).add _).sub _)
  rcases axis_or (p 1) (p 3) hp.h with h | ⟨a', b', hab', ha', hb'⟩
  · refine zero ((Inf.add ?_ _).sub _)
    rw [areaP, mul_comm]
    exact h.mul (axis_ne (p 0) (p 2) hp.w)
  have hP : areaP p = (((b - a) * (b' - a') : ℝ) : EReal) := by
    rw [areaP, ha, hb, ha', hb', ← EReal.coe_sub, ← EReal.coe_sub, ← EReal.coe_mul]
  have pos : 0 < (b - a) * (b' - a') := mul_pos (by linarith) (by linarith)
  obtain ⟨i, i0, i1, e, h⟩ := area_or hab.le hab'.le ht.x ht.y
  have ei : inter t p = i := by rw [inter, ha, hb, ha', hb', e]
  rcases h with h | ⟨α, eα, iα⟩
  · refine zero (Inf.sub ?_ _)
    rw [add_comm]
    exact h.add _
  · have hd : 0 < α + (b - a) * (b' - a') - i := by linarith
    refine ⟨i * (α + (b - a) * (b' - a') - i)⁻¹, mul_nonneg i0 (inv_nonneg.2 hd.le), ?_, ?_, fun h => ?_⟩
    · rw [← div_eq_mul_inv]; exact (div_le_one hd).2 (by linarith)
    · rw [ovS, eα, hP, ei, ← EReal.coe_add, ← EReal.coe_sub, div_real hd.ne', ← EReal.coe_mul]
    · rw [ei] at h
      have : i = 0 := by exact_mod_cast h
      rw [this, zero_mul]

theorem ovS_nonneg {t : Fin 5 → EReal} {p : Fin 4 → EReal} (ht : GoodT t) (hp : GoodP p) : 0 ≤ ovS t p := by
  obtain ⟨o, h0, -, e, -⟩ := ovS_real ht hp
  rw [e]; exact_mod_cast h0

theorem ovS_le_one {t : Fin 5 → EReal} {p : Fin 4 → EReal} (ht : GoodT t) (hp : GoodP p) : ovS t p ≤ ((1 : ℝ) : EReal) := by
  obtain ⟨o, -, h1, e, -⟩ := ovS_real ht hp
  rw [e]; exact_mod_cast h1

/-- The prior of a padded place: the unit box about (-100, -100). -/
def padP : Fin 4 → EReal := ![((-100 : ℝ) : EReal), ((-100 : ℝ) : EReal), ((1 : ℝ) : EReal), ((1 : ℝ) : EReal)]

theorem padP_good : GoodP padP where
  w := by show (0 : EReal) < ((1 : ℝ) : EReal); exact_mod_cast one_pos
  h := by show (0 : EReal) < ((1 : ℝ) : EReal); exact_mod_cast one_pos

/-- A padded place overlaps no truth. -/
theorem ovS_pad {t : Fin 5 → EReal} (ht : GoodT t) : ovS t padP = 0 := by
  obtain ⟨o, -, -, e, h⟩ := ovS_real ht padP_good
  have hc : cut (padP 0 - padP 2 * ((1 / 2 : ℝ) : EReal)) (padP 0 + padP 2 * ((1 / 2 : ℝ) : EReal)) (t 0) (t 2) = 0 := by
    refine max_eq_right ?_
    have hb : padP 0 + padP 2 * ((1 / 2 : ℝ) : EReal) = ((-99.5 : ℝ) : EReal) := by
      show ((-100 : ℝ) : EReal) + ((1 : ℝ) : EReal) * ((1 / 2 : ℝ) : EReal) = _
      rw [← EReal.coe_mul, ← EReal.coe_add]; norm_num
    rw [hb]
    refine (EReal.sub_le_sub ((min_le_left _ _).trans ht.right) (le_max_right _ _)).trans EReal.sub_self_le_zero
  rw [e, h (by rw [inter, hc, zero_mul]), EReal.coe_zero]

/-! ## The matching -/

/-- The priors with their padding. -/
def ext (pr : Fin 16320 → Fin 4 → EReal) (p : Fin 16384) : Fin 4 → EReal :=
  if h : p.val < 16320 then pr ⟨p.val, h⟩ else padP

/-- One image's data. -/
structure Good (tg : Fin 50 → Fin 5 → EReal) (pr : Fin 16320 → Fin 4 → EReal) : Prop where
  t : ∀ t, GoodT (tg t)
  p : ∀ p, GoodP (pr p)

theorem Good.ext {tg : Fin 50 → Fin 5 → EReal} {pr : Fin 16320 → Fin 4 → EReal} (h : Good tg pr) (p : Fin 16384) : GoodP (ext pr p) := by
  unfold Spec.ext
  split
  · exact h.p _
  · exact padP_good

/-- The best prior of a truth. -/
def best (tg : Fin 50 → Fin 5 → EReal) (pr : Fin 16320 → Fin 4 → EReal) (t : Fin 50) : Fin 16320 :=
  first fun p => ovS (tg t) (pr p)

/-- The best place of a truth among the padded priors. -/
def bestX (tg : Fin 50 → Fin 5 → EReal) (q : Fin 16384 → Fin 4 → EReal) (t : Fin 50) : Fin 16384 :=
  first fun p => ovS (tg t) (q p)

theorem bestX_ext {tg : Fin 50 → Fin 5 → EReal} {pr : Fin 16320 → Fin 4 → EReal} (h : Good tg pr) (t : Fin 50) :
    (bestX tg (ext pr) t).val = (best tg pr t).val := by
  have hb := first_spec fun p => ovS (tg t) (pr p)
  have key : IsFirst (fun p => ovS (tg t) (ext pr p)) (⟨(best tg pr t).val, by have := (best tg pr t).isLt; omega⟩ : Fin 16384) := by
    have e : ext pr ⟨(best tg pr t).val, by have := (best tg pr t).isLt; omega⟩ = pr (best tg pr t) := by
      rw [ext, dif_pos (best tg pr t).isLt]
    constructor
    · intro p
      show ovS (tg t) (ext pr p) ≤ ovS (tg t) (ext pr _)
      rw [e]
      by_cases hp : p.val < 16320
      · rw [ext, dif_pos hp]; exact hb.1 ⟨p.val, hp⟩
      · rw [ext, dif_neg hp, ovS_pad (h.t t)]; exact ovS_nonneg (h.t t) (h.p _)
    · intro p hp
      have hl : p.val < (best tg pr t).val := hp
      have hp' : p.val < 16320 := by have := (best tg pr t).isLt; omega
      show ovS (tg t) (ext pr p) < ovS (tg t) (ext pr _)
      rw [e, ext, dif_pos hp']
      exact hb.2 ⟨p.val, hp'⟩ hl
  rw [bestX, (first_spec _).unique key]

/-- The overlap that decides a place's truth: two where the place is the truth's best. -/
def fo (tg : Fin 50 → Fin 5 → EReal) (q : Fin 16384 → Fin 4 → EReal) (p : Fin 16384) (t : Fin 50) : EReal :=
  if p = bestX tg q t then ((2 : ℝ) : EReal) else ovS (tg t) (q p)

/-- A place's truth. -/
def mt (tg : Fin 50 → Fin 5 → EReal) (q : Fin 16384 → Fin 4 → EReal) (p : Fin 16384) : Fin 50 := last (fo tg q p)

/-- A place matched. -/
def IsPos (tg : Fin 50 → Fin 5 → EReal) (q : Fin 16384 → Fin 4 → EReal) (p : Fin 16384) : Prop :=
  ((1 / 2 : ℝ) : EReal) ≤ fo tg q p (mt tg q p)

instance (tg : Fin 50 → Fin 5 → EReal) (q : Fin 16384 → Fin 4 → EReal) (p : Fin 16384) : Decidable (IsPos tg q p) :=
  Classical.propDecidable _

theorem not_pos_pad {tg : Fin 50 → Fin 5 → EReal} {pr : Fin 16320 → Fin 4 → EReal} (h : Good tg pr) (p : Fin 16384)
    (hp : ¬ p.val < 16320) : ¬ IsPos tg (ext pr) p := by
  unfold IsPos fo
  rw [if_neg, ext, dif_neg hp, ovS_pad (h.t _), not_le]
  · exact_mod_cast (by norm_num : (0 : ℝ) < 1 / 2)
  · intro e
    have := bestX_ext h (mt tg (ext pr) p)
    rw [← e] at this
    have := (best tg pr (mt tg (ext pr) p)).isLt
    omega

/-! The reference's choice: the last of the truths whose best prior this is, else the first of the greatest. -/

section Choice

variable {tg : Fin 50 → Fin 5 → EReal} {pr : Fin 16320 → Fin 4 → EReal}

abbrev up (p : Fin 16320) : Fin 16384 := ⟨p.val, by omega⟩

theorem ext_up (p : Fin 16320) : ext pr (up p) = pr p := by rw [ext, dif_pos p.isLt]

theorem fo_up (h : Good tg pr) (p : Fin 16320) (t : Fin 50) :
    fo tg (ext pr) (up p) t = if best tg pr t = p then ((2 : ℝ) : EReal) else ovS (tg t) (pr p) := by
  unfold fo
  rw [ext_up]
  have : up p = bestX tg (ext pr) t ↔ best tg pr t = p := by
    have := bestX_ext h t
    constructor
    · intro e; apply Fin.ext; rw [← this, ← e]
    · intro e; apply Fin.ext; rw [this, e]
  by_cases hc : best tg pr t = p
  · rw [if_pos hc, if_pos (this.2 hc)]
  · rw [if_neg hc, if_neg fun e => hc (this.1 e)]

theorem fo_le_two (h : Good tg pr) (p : Fin 16320) (t : Fin 50) : fo tg (ext pr) (up p) t ≤ ((2 : ℝ) : EReal) := by
  rw [fo_up h]
  split
  · exact le_rfl
  · exact (ovS_le_one (h.t _) (h.p _)).trans (by exact_mod_cast (by norm_num : (1 : ℝ) ≤ 2))

/-- A forced prior's truth is forced, and no later truth is. -/
theorem forced_mt (h : Good tg pr) (p : Fin 16320) (hf : ∃ t, best tg pr t = p) :
    best tg pr (mt tg (ext pr) (up p)) = p ∧ (∀ t, best tg pr t = p → t ≤ mt tg (ext pr) (up p)) ∧ IsPos tg (ext pr) (up p) := by
  obtain ⟨t0, ht0⟩ := hf
  have hl := last_spec (fo tg (ext pr) (up p))
  have h0 : fo tg (ext pr) (up p) t0 = ((2 : ℝ) : EReal) := by rw [fo_up h, if_pos ht0]
  have hm : fo tg (ext pr) (up p) (mt tg (ext pr) (up p)) = ((2 : ℝ) : EReal) :=
    le_antisymm (fo_le_two h p _) (h0 ▸ hl.1 t0)
  have hb : best tg pr (mt tg (ext pr) (up p)) = p := by
    by_contra hc
    rw [fo_up h, if_neg hc] at hm
    have := hm ▸ ovS_le_one (h.t _) (h.p p)
    exact absurd this (not_le.2 (by exact_mod_cast (by norm_num : (1 : ℝ) < 2)))
  refine ⟨hb, fun t ht => ?_, ?_⟩
  · by_contra hlt
    have := hl.2 t (not_le.1 hlt)
    rw [fo_up h p t, if_pos ht] at this
    exact absurd (fo_le_two h p _) (not_le.2 this)
  · unfold IsPos; rw [hm]; exact_mod_cast (by norm_num : (1 / 2 : ℝ) ≤ 2)

/-- A prior no truth forces: its greatest overlap decides. -/
theorem free_fo (h : Good tg pr) (p : Fin 16320) (hf : ¬ ∃ t, best tg pr t = p) :
    fo tg (ext pr) (up p) = fun t => ovS (tg t) (pr p) := by
  funext t
  rw [fo_up h, if_neg fun e => hf ⟨t, e⟩]

theorem free_pos (h : Good tg pr) (p : Fin 16320) (hf : ¬ ∃ t, best tg pr t = p) :
    IsPos tg (ext pr) (up p) ↔ ((1 / 2 : ℝ) : EReal) ≤ ovS (tg (first fun t => ovS (tg t) (pr p))) (pr p) := by
  unfold IsPos mt
  rw [free_fo h p hf]
  exact iff_of_eq (congrArg (((1 / 2 : ℝ) : EReal) ≤ ·) (last_eq_first fun t => ovS (tg t) (pr p)))

/-- No other truth shares the greatest overlap of a matched prior. -/
def Untied (tg : Fin 50 → Fin 5 → EReal) (pr : Fin 16320 → Fin 4 → EReal) : Prop :=
  ∀ (p : Fin 16320) (t : Fin 50), ovS (tg t) (pr p) < ovS (tg (first fun t => ovS (tg t) (pr p))) (pr p)
    ∨ t = first (fun t => ovS (tg t) (pr p)) ∨ ovS (tg (first fun t => ovS (tg t) (pr p))) (pr p) < ((1 / 2 : ℝ) : EReal)

theorem free_mt (h : Good tg pr) (hu : Untied tg pr) (p : Fin 16320) (hf : ¬ ∃ t, best tg pr t = p)
    (hp : IsPos tg (ext pr) (up p)) : mt tg (ext pr) (up p) = first fun t => ovS (tg t) (pr p) := by
  have hq := (free_pos h p hf).1 hp
  unfold mt
  rw [free_fo h p hf]
  rcases hu p (last fun t => ovS (tg t) (pr p)) with hc | hc | hc
  · exact absurd (last_eq_first fun t => ovS (tg t) (pr p)) hc.ne
  · exact hc
  · exact absurd hq (not_le.2 hc)

end Choice

/-! ## The localisation loss of a prior -/

def sl1 (d : EReal) : EReal :=
  if (FloatOps.absf (F := Ideal) (φ := .f32) d : EReal) < 1 then ((1 / 2 : ℝ) : EReal) * d * d
  else (FloatOps.absf (F := Ideal) (φ := .f32) d : EReal) - ((1 / 2 : ℝ) : EReal)

/-- The encoded centre and size along an axis. -/
def gC (lo hi c w : EReal) : EReal := ((lo + hi) * ((1 / 2 : ℝ) : EReal) - c) * (((10 : ℝ) : EReal) * Ideal.div 1 w)
def gL (lo hi w : EReal) : EReal := Ideal.log ((hi - lo) * Ideal.div 1 w) * ((5 : ℝ) : EReal)

def L1 (l : Fin 4 → EReal) (t : Fin 5 → EReal) (p : Fin 4 → EReal) : EReal :=
  sl1 (l 0 - gC (t 0) (t 2) (p 0) (p 2)) + sl1 (l 1 - gC (t 1) (t 3) (p 1) (p 3))
    + sl1 (l 2 - gL (t 0) (t 2) (p 2)) + sl1 (l 3 - gL (t 1) (t 3) (p 3))

theorem gC_eq (lo hi c w : EReal) (h0 : 0 < w) :
    Ideal.div (Ideal.div (lo + hi) ((2 : ℝ) : EReal) - c) (Ideal.div w ((10 : ℝ) : EReal)) = gC lo hi c w := by
  rcases inf_or w with h | ⟨r, rfl⟩
  · have e : Inf (Ideal.div w ((10 : ℝ) : EReal)) := by
      rw [div_real (by norm_num : (10 : ℝ) ≠ 0)]
      exact h.mul (by norm_num)
    unfold gC
    rw [e.div, h.div, mul_zero, mul_zero]
  have hr : 0 < r := by exact_mod_cast h0
  rw [div_real (by norm_num : (2 : ℝ) ≠ 0), div_real (by norm_num : (10 : ℝ) ≠ 0), ← EReal.coe_mul, div_real (by positivity)]
  unfold gC
  rw [div_real hr.ne', one_mul, ← EReal.coe_mul]
  congr 3
  · norm_num
  · field_simp

theorem gL_eq (lo hi w : EReal) (h0 : 0 < w) :
    Ideal.log (Ideal.div (hi - lo) w) * ((5 : ℝ) : EReal) = gL lo hi w := by
  unfold gL
  rcases inf_or w with h | ⟨r, rfl⟩
  · rw [h.div, h.div, mul_zero]
  have hr : 0 < r := by exact_mod_cast h0
  rw [div_real hr.ne', div_real hr.ne', one_mul]

end Cert.Spec

end
-- ==== Proof.Pre.lean ====
/-
  What the precondition says, over extended reals, of the truths and of the priors.
-/
module

public import proofs.«01_k».proof.Proof.Gen.Pre_well_posed
public import proofs.«01_k».proof.Proof.Spec
public import Idealize.ShloMosaic.Lib.Pointwise

@[expose] public section

set_option maxRecDepth 16384

noncomputable section

namespace Cert.Pre_well_posed.Own

open Idealize.ShloMosaic Cert.Pre_well_posed Cert.Pre_well_posed.Gen Cert.Spec

def q6 (x4 : FVec Ideal S16320x4 .f32) : FVec Ideal S16320 .f32 :=
  let v0 : FVec Ideal S16320x1 .f32 := (extractStridedSlice S16320x1 ![0, 0] · slices_S16320x4_S16320x1_0_0) x4
  let v1 : FVec Ideal S16320 .f32 := shapeCast S16320 v0 shapeCasts_S16320x1_S16320
  let v2 : FVec Ideal S16320x1 .f32 := (extractStridedSlice S16320x1 ![0, 2] · slices_S16320x4_S16320x1_0_2) x4
  let v3 : FVec Ideal S16320 .f32 := shapeCast S16320 v2 shapeCasts_S16320x1_S16320
  let cst : FVec Ideal S_ .f32 := constant S_ .f32 0x40000000#32
  let v4 : FVec Ideal S16320 .f32 := broadcastInDim S16320 ![] bcast_S_S16320 cst
  let v5 : FVec Ideal S16320 .f32 := Host.divf v3 v4
  let v6 : FVec Ideal S16320 .f32 := subf v1 v5
  v6
def q13 (x4 : FVec Ideal S16320x4 .f32) : FVec Ideal S16320 .f32 :=
  let v7 : FVec Ideal S16320x1 .f32 := (extractStridedSlice S16320x1 ![0, 1] · slices_S16320x4_S16320x1_0_1) x4
  let v8 : FVec Ideal S16320 .f32 := shapeCast S16320 v7 shapeCasts_S16320x1_S16320
  let v9 : FVec Ideal S16320x1 .f32 := (extractStridedSlice S16320x1 ![0, 3] · slices_S16320x4_S16320x1_0_3) x4
  let v10 : FVec Ideal S16320 .f32 := shapeCast S16320 v9 shapeCasts_S16320x1_S16320
  let cst_0 : FVec Ideal S_ .f32 := constant S_ .f32 0x40000000#32
  let v11 : FVec Ideal S16320 .f32 := broadcastInDim S16320 ![] bcast_S_S16320 cst_0
  let v12 : FVec Ideal S16320 .f32 := Host.divf v10 v11
  let v13 : FVec Ideal S16320 .f32 := subf v8 v12
  v13
def q20 (x4 : FVec Ideal S16320x4 .f32) : FVec Ideal S16320 .f32 :=
  let v14 : FVec Ideal S16320x1 .f32 := (extractStridedSlice S16320x1 ![0, 0] · slices_S16320x4_S16320x1_0_0) x4
  let v15 : FVec Ideal S16320 .f32 := shapeCast S16320 v14 shapeCasts_S16320x1_S16320
  let v16 : FVec Ideal S16320x1 .f32 := (extractStridedSlice S16320x1 ![0, 2] · slices_S16320x4_S16320x1_0_2) x4
  let v17 : FVec Ideal S16320 .f32 := shapeCast S16320 v16 shapeCasts_S16320x1_S16320
  let cst_1 : FVec Ideal S_ .f32 := constant S_ .f32 0x40000000#32
  let v18 : FVec Ideal S16320 .f32 := broadcastInDim S16320 ![] bcast_S_S16320 cst_1
  let v19 : FVec Ideal S16320 .f32 := Host.divf v17 v18
  let v20 : FVec Ideal S16320 .f32 := addf v15 v19
  v20
def q27 (x4 : FVec Ideal S16320x4 .f32) : FVec Ideal S16320 .f32 :=
  let v21 : FVec Ideal S16320x1 .f32 := (extractStridedSlice S16320x1 ![0, 1] · slices_S16320x4_S16320x1_0_1) x4
  let v22 : FVec Ideal S16320 .f32 := shapeCast S16320 v21 shapeCasts_S16320x1_S16320
  let v23 : FVec Ideal S16320x1 .f32 := (extractStridedSlice S16320x1 ![0, 3] · slices_S16320x4_S16320x1_0_3) x4
  let v24 : FVec Ideal S16320 .f32 := shapeCast S16320 v23 shapeCasts_S16320x1_S16320
  let cst_2 : FVec Ideal S_ .f32 := constant S_ .f32 0x40000000#32
  let v25 : FVec Ideal S16320 .f32 := broadcastInDim S16320 ![] bcast_S_S16320 cst_2
  let v26 : FVec Ideal S16320 .f32 := Host.divf v24 v25
  let v27 : FVec Ideal S16320 .f32 := addf v22 v26
  v27
def q30 (x5 : FVec Ideal S32x50x5 .f32) : FVec Ideal S32x50x1 .f32 :=
  let v28 : FVec Ideal S32x50x1 .f32 := (extractStridedSlice S32x50x1 ![0, 0, 0] · slices_S32x50x5_S32x50x1_0_0_0) x5
  let v29 : FVec Ideal S32x50 .f32 := shapeCast S32x50 v28 shapeCasts_S32x50x1_S32x50
  let v30 : FVec Ideal S32x50x1 .f32 := broadcastInDim S32x50x1 ![0, 1] bcast_S32x50_S32x50x1_0_1 v29
  v30
def q33 (x5 : FVec Ideal S32x50x5 .f32) : FVec Ideal S32x50x1 .f32 :=
  let v31 : FVec Ideal S32x50x1 .f32 := (extractStridedSlice S32x50x1 ![0, 0, 1] · slices_S32x50x5_S32x50x1_0_0_1) x5
  let v32 : FVec Ideal S32x50 .f32 := shapeCast S32x50 v31 shapeCasts_S32x50x1_S32x50
  let v33 : FVec Ideal S32x50x1 .f32 := broadcastInDim S32x50x1 ![0, 1] bcast_S32x50_S32x50x1_0_1 v32
  v33
def q36 (x5 : FVec Ideal S32x50x5 .f32) : FVec Ideal S32x50x1 .f32 :=
  let v34 : FVec Ideal S32x50x1 .f32 := (extractStridedSlice S32x50x1 ![0, 0, 2] · slices_S32x50x5_S32x50x1_0_0_2) x5
  let v35 : FVec Ideal S32x50 .f32 := shapeCast S32x50 v34 shapeCasts_S32x50x1_S32x50
  let v36 : FVec Ideal S32x50x1 .f32 := broadcastInDim S32x50x1 ![0, 1] bcast_S32x50_S32x50x1_0_1 v35
  v36
def q39 (x5 : FVec Ideal S32x50x5 .f32) : FVec Ideal S32x50x1 .f32 :=
  let v37 : FVec Ideal S32x50x1 .f32 := (extractStridedSlice S32x50x1 ![0, 0, 3] · slices_S32x50x5_S32x50x1_0_0_3) x5
  let v38 : FVec Ideal S32x50 .f32 := shapeCast S32x50 v37 shapeCasts_S32x50x1_S32x50
  let v39 : FVec Ideal S32x50x1 .f32 := broadcastInDim S32x50x1 ![0, 1] bcast_S32x50_S32x50x1_0_1 v38
  v39
def ov62 (v6 v13 v20 v27 : FVec Ideal S16320 .f32) (v30 v33 v36 v39 : FVec Ideal S32x50x1 .f32) : FVec Ideal S32x50x16320 .f32 :=
  let v40 : FVec Ideal S1x1x16320 .f32 := broadcastInDim S1x1x16320 ![2] bcast_S16320_S1x1x16320_2 v20
  let v41 : FVec Ideal S32x50x16320 .f32 := broadcastInDim S32x50x16320 ![0, 1, 2] bcast_S1x1x16320_S32x50x16320_0_1_2 v40
  let v42 : FVec Ideal S32x50x16320 .f32 := broadcastInDim S32x50x16320 ![0, 1, 2] bcast_S32x50x1_S32x50x16320_0_1_2 v36
  let v43 : FVec Ideal S32x50x16320 .f32 := minimumf v41 v42
  let v44 : FVec Ideal S1x1x16320 .f32 := broadcastInDim S1x1x16320 ![2] bcast_S16320_S1x1x16320_2 v6
  let v45 : FVec Ideal S32x50x16320 .f32 := broadcastInDim S32x50x16320 ![0, 1, 2] bcast_S1x1x16320_S32x50x16320_0_1_2 v44
  let v46 : FVec Ideal S32x50x16320 .f32 := broadcastInDim S32x50x16320 ![0, 1, 2] bcast_S32x50x1_S32x50x16320_0_1_2 v30
  let v47 : FVec Ideal S32x50x16320 .f32 := maximumf v45 v46
  let v48 : FVec Ideal S32x50x16320 .f32 := subf v43 v47
  let cst_3 : FVec Ideal S_ .f32 := constant S_ .f32 0x00000000#32
  let v49 : FVec Ideal S32x50x16320 .f32 := broadcastInDim S32x50x16320 ![] bcast_S_S32x50x16320 cst_3
  let v50 : FVec Ideal S32x50x16320 .f32 := maximumf v48 v49
  let v51 : FVec Ideal S1x1x16320 .f32 := broadcastInDim S1x1x16320 ![2] bcast_S16320_S1x1x16320_2 v27
  let v52 : FVec Ideal S32x50x16320 .f32 := broadcastInDim S32x50x16320 ![0, 1, 2] bcast_S1x1x16320_S32x50x16320_0_1_2 v51
  let v53 : FVec Ideal S32x50x16320 .f32 := broadcastInDim S32x50x16320 ![0, 1, 2] bcast_S32x50x1_S32x50x16320_0_1_2 v39
  let v54 : FVec Ideal S32x50x16320 .f32 := minimumf v52 v53
  let v55 : FVec Ideal S1x1x16320 .f32 := broadcastInDim S1x1x16320 ![2] bcast_S16320_S1x1x16320_2 v13
  let v56 : FVec Ideal S32x50x16320 .f32 := broadcastInDim S32x50x16320 ![0, 1, 2] bcast_S1x1x16320_S32x50x16320_0_1_2 v55
  let v57 : FVec Ideal S32x50x16320 .f32 := broadcastInDim S32x50x16320 ![0, 1, 2] bcast_S32x50x1_S32x50x16320_0_1_2 v33
  let v58 : FVec Ideal S32x50x16320 .f32 := maximumf v56 v57
  let v59 : FVec Ideal S32x50x16320 .f32 := subf v54 v58
  let cst_4 : FVec Ideal S_ .f32 := constant S_ .f32 0x00000000#32
  let v60 : FVec Ideal S32x50x16320 .f32 := broadcastInDim S32x50x16320 ![] bcast_S_S32x50x16320 cst_4
  let v61 : FVec Ideal S32x50x16320 .f32 := maximumf v59 v60
  let v62 : FVec Ideal S32x50x16320 .f32 := mulf v50 v61
  v62
def ov74 (v6 v13 v20 v27 : FVec Ideal S16320 .f32) (v62 : FVec Ideal S32x50x16320 .f32) (v65 : FVec Ideal S32x50x1 .f32) : FVec Ideal S32x50x16320 .f32 :=
  let v66 : FVec Ideal S16320 .f32 := subf v20 v6
  let v67 : FVec Ideal S16320 .f32 := subf v27 v13
  let v68 : FVec Ideal S16320 .f32 := mulf v66 v67
  let v69 : FVec Ideal S1x1x16320 .f32 := broadcastInDim S1x1x16320 ![2] bcast_S16320_S1x1x16320_2 v68
  let v70 : FVec Ideal S32x50x16320 .f32 := broadcastInDim S32x50x16320 ![0, 1, 2] bcast_S32x50x1_S32x50x16320_0_1_2 v65
  let v71 : FVec Ideal S32x50x16320 .f32 := broadcastInDim S32x50x16320 ![0, 1, 2] bcast_S1x1x16320_S32x50x16320_0_1_2 v69
  let v72 : FVec Ideal S32x50x16320 .f32 := addf v70 v71
  let v73 : FVec Ideal S32x50x16320 .f32 := subf v72 v62
  let v74 : FVec Ideal S32x50x16320 .f32 := Host.divf v62 v73
  v74

theorem of_bit {A : Prop} [Decidable A] (h : BitVec.ofBool (decide A) = 1#1) : A := by
  by_contra hn
  rw [decide_eq_false hn] at h
  exact absurd h (by decide)

theorem or_bits {A B : Prop} [Decidable A] [Decidable B] {x y : BitVec 32}
    (h : IntOp.ori (IntOp.ori (BitVec.ofBool (decide A)) (IntOp.cmpi .eq x y)) (BitVec.ofBool (decide B)) = 1#1) : A ∨ x = y ∨ B := by
  by_cases hA : A
  · exact Or.inl hA
  by_cases hB : B
  · exact Or.inr (Or.inr hB)
  rw [decide_eq_false hA, decide_eq_false hB] at h
  refine Or.inr (Or.inl ?_)
  by_contra hn
  have e : IntOp.cmpi .eq x y = 0#1 := by
    have hb : (x == y) = false := by simp [hn]
    show BitVec.ofBool (x == y) = 0#1
    rw [hb]; rfl
  rw [e] at h
  exact absurd h (by decide)

theorem c_right : Ideal.ofBits .f32 3267821568#32 = ((-99.5 : ℝ) : EReal) := by
  simp [Ideal.ofBits, Ideal.ieee, -EReal.coe_mul, -EReal.coe_neg]; norm_num

theorem c_nineteen : Ideal.ofBits .f32 1100480512#32 = ((19 : ℝ) : EReal) := by
  simp [Ideal.ofBits, Ideal.ieee, -EReal.coe_mul]; norm_num

/-- The overlaps the precondition speaks of. -/
def ov (x4 : FVec Ideal S16320x4 .f32) (x5 : FVec Ideal S32x50x5 .f32) : FVec Ideal S32x50x16320 .f32 :=
  ov74 (q6 x4) (q13 x4) (q20 x4) (q27 x4) (ov62 (q6 x4) (q13 x4) (q20 x4) (q27 x4) (q30 x5) (q33 x5) (q36 x5) (q39 x5))
    (mulf (subf (q36 x5) (q30 x5)) (subf (q39 x5) (q33 x5)))

/-- Each prior's greatest overlap. -/
def top (v74 : FVec Ideal S32x50x16320 .f32) : FVec Ideal S32x1x16320 .f32 :=
  let cst_5 : FVec Ideal S_ .f32 := constant S_ .f32 0xFF800000#32
  let v75 : FVec Ideal S32x16320 .f32 := (fun x v => Host.reduce FloatOps.maximumf x v reducesTo_S32x50x16320_S32x16320_d1 h_S_) v74 cst_5
  let v76 : FVec Ideal S32x1x16320 .f32 := broadcastInDim S32x1x16320 ![0, 2] bcast_S32x16320_S32x1x16320_0_2 v75
  v76

/-- The first truth at which it is met. -/
def fst (v74 : FVec Ideal S32x50x16320 .f32) : IVec S32x1x16320 32 :=
  let v77 : IVec S32x50x16320 32 := iotaInDim S32x50x16320 32 1
  let cst_6 : FVec Ideal S_ .f32 := constant S_ .f32 0xFF800000#32
  let v78 : FVec Ideal S32x16320 .f32 := (fun x v => Host.reduce FloatOps.maximumf x v reducesTo_S32x50x16320_S32x16320_d1 h_S_) v74 cst_6
  let v79 : FVec Ideal S32x1x16320 .f32 := broadcastInDim S32x1x16320 ![0, 2] bcast_S32x16320_S32x1x16320_0_2 v78
  let v80 : FVec Ideal S32x50x16320 .f32 := broadcastInDim S32x50x16320 ![0, 1, 2] bcast_S32x1x16320_S32x50x16320_0_1_2 v79
  let v81 : IVec S32x50x16320 1 := cmpf .oeq v74 v80
  let c : IVec S_ 32 := constantI S_ 32 50#32
  let v82 : IVec S32x50x16320 32 := fn_where (F := Ideal) v81 v77 c
  let c_7 : IVec S_ 32 := constantI S_ 32 2147483647#32
  let v83 : IVec S32x16320 32 := (fun x v => Host.reduce IntOp.minsi x v reducesTo_S32x50x16320_S32x16320_d1 h_S_) v82 c_7
  let v84 : IVec S32x1x16320 32 := broadcastInDim S32x1x16320 ![0, 2] bcast_S32x16320_S32x1x16320_0_2 v83
  v84

theorem ov_at (x4 : FVec Ideal S16320x4 .f32) (x5 : FVec Ideal S32x50x5 .f32) (b : Fin 32) (t : Fin 50) (p : Fin 16320) :
    (ov x4 x5 (ix3 b t p) : EReal) = ovS (fun c => x5 (ix3 b t c)) (fun c => x4 (ix2 p c)) := by
  pointwise [ov, ov74, ov62, q6, q13, q20, q27, q30, q33, q36, q39]
  rw [c_two, div_real (by norm_num : (2 : ℝ) ≠ 0), div_real (by norm_num : (2 : ℝ) ≠ 0)]
  rw [show ((2 : ℝ)⁻¹) = 1 / 2 by norm_num]
  rfl

section Vars
variable (v74 : FVec Ideal S32x50x16320 .f32) (b : Fin 32) (p : Fin 16320)

theorem top_at : (top v74 (ix3 b 0 p) : EReal) =
    v74 (ix3 b (first fun t : Fin 50 => (v74 (ix3 b t p) : EReal)) p) := by
  pointwise [top]
  rw [c_bot]
  exact fold_max_first fun t : Fin 50 => (v74 (ix3 b t p) : EReal)

theorem fst_at : fst v74 (ix3 b 0 p) = BitVec.ofNat 32 (first fun t : Fin 50 => (v74 (ix3 b t p) : EReal)).val := by
  pointwise [fst, fn_where]
  rw [c_bot]
  rw [fold_max_first fun t : Fin 50 => (v74 (ix3 b t p) : EReal)]
  exact fold_minsi_first (by norm_num) (fun t : Fin 50 => (v74 (ix3 b t p) : EReal)) _ 50 (by norm_num) fun k => rfl

variable (x4 : FVec Ideal S16320x4 .f32) (x5 : FVec Ideal S32x50x5 .f32)
  (v76 : FVec Ideal S32x1x16320 .f32) (v84 : IVec S32x1x16320 32) (v85 : FVec Ideal S32x50x16320 .f32) (t : Fin 50) (A : Prop)

theorem untied_at (h : (fn_part4 x4 x5 v74 v76 v84 v85).2.2.2.2.2.2.2 (ix3 b t p) = 1#1) :
    (v74 (ix3 b t p) : EReal) < v85 (ix3 b t p) ∨ BitVec.ofNat 32 t.val = v84 (ix3 b 0 p)
      ∨ (v76 (ix3 b 0 p) : EReal) < ((1 / 2 : ℝ) : EReal) := by
  revert h
  pointwise [fn_part4, fn_part5]
  rw [c_half]
  exact or_bits

theorem wpos (c : Fin 4) (e : Fin 5) (h : (fn_part4 x4 x5 v74 v76 v84 v85).1 (ix1 p) = 1#1) : (0 : EReal) < x4 (ix2 p 2) := by
  revert h
  pointwise [fn_part4, fn_part5]
  intro h
  exact of_bit h

theorem hpos (c : Fin 4) (e : Fin 5) (h : (fn_part4 x4 x5 v74 v76 v84 v85).2.1 (ix1 p) = 1#1) : (0 : EReal) < x4 (ix2 p 3) := by
  revert h
  pointwise [fn_part4, fn_part5]
  intro h
  exact of_bit h

theorem right (c : Fin 4) (e : Fin 5) (h : (fn_part4 x4 x5 v74 v76 v84 v85).2.2.1 (ix2 b t) = 1#1) : ((-99.5 : ℝ) : EReal) ≤ x5 (ix3 b t 0) := by
  revert h
  pointwise [fn_part4, fn_part5]
  intro h
  exact c_right ▸ of_bit h

theorem xle (c : Fin 4) (e : Fin 5) (h : (fn_part4 x4 x5 v74 v76 v84 v85).2.2.2.1 (ix2 b t) = 1#1) : (x5 (ix3 b t 0) : EReal) ≤ x5 (ix3 b t 2) := by
  revert h
  pointwise [fn_part4, fn_part5]
  intro h
  exact of_bit h

theorem yle (c : Fin 4) (e : Fin 5) (h : (fn_part4 x4 x5 v74 v76 v84 v85).2.2.2.2.1 (ix2 b t) = 1#1) : (x5 (ix3 b t 1) : EReal) ≤ x5 (ix3 b t 3) := by
  revert h
  pointwise [fn_part4, fn_part5]
  intro h
  exact of_bit h

theorem lab0 (c : Fin 4) (e : Fin 5) (h : (fn_part4 x4 x5 v74 v76 v84 v85).2.2.2.2.2.1 (ix2 b t) = 1#1) : (0 : EReal) ≤ x5 (ix3 b t 4) := by
  revert h
  pointwise [fn_part4, fn_part5]
  intro h
  exact of_bit h

theorem lab19 (c : Fin 4) (e : Fin 5) (h : (fn_part4 x4 x5 v74 v76 v84 v85).2.2.2.2.2.2.1 (ix2 b t) = 1#1) : (x5 (ix3 b t 4) : EReal) ≤ ((19 : ℝ) : EReal) := by
  revert h
  pointwise [fn_part4, fn_part5]
  intro h
  exact c_nineteen ▸ of_bit h

end Vars

theorem split (x0 : FVec Ideal S32x16320x4 .f32) (x1 : FVec Ideal S32x16320x21 .f32) (x2 : FVec Ideal S32x16320x4 .f32)
  (x3 : FVec Ideal S32x16320x21 .f32) (x4 : FVec Ideal S16320x4 .f32) (x5 : FVec Ideal S32x50x5 .f32) :
    fn (F := Ideal) x0 x1 x2 x3 x4 x5 = fn_part4 x4 x5 (ov x4 x5) (top (ov x4 x5)) (fst (ov x4 x5))
      (broadcastInDim S32x50x16320 ![0, 1, 2] bcast_S32x1x16320_S32x50x16320_0_1_2 (top (ov x4 x5))) := rfl

end Cert.Pre_well_posed.Own

end
-- ==== Proof.RefMatch.lean ====
/-
  The reference's values at an index: its matching is the one the specification names.
-/
module

public import proofs.«01_k».proof.Proof.Spec
public import proofs.«01_k».proof.Proof.Gen.ReferenceIdeal.Read
public import Idealize.ShloMosaic.Lib.Pointwise

@[expose] public section

set_option maxRecDepth 16384

noncomputable section

namespace Cert.Ref

open Idealize.ShloMosaic Cert.Spec Cert.ReferenceIdeal Cert.ReferenceIdeal.Read

variable (x0 : (⟨S32x16320x4, .f32⟩ : BufTy).Contents (Elt Ideal)) (x1 : (⟨S32x16320x21, .f32⟩ : BufTy).Contents (Elt Ideal))
  (x4 : (⟨S16320x4, .f32⟩ : BufTy).Contents (Elt Ideal)) (x5 : (⟨S32x50x5, .f32⟩ : BufTy).Contents (Elt Ideal))

/-- Image `b`'s truths. -/
def tgR (b : Fin 32) : Fin 50 → Fin 5 → EReal := fun t c => x5 (ix3 b t c)
/-- The priors. -/
def prR : Fin 16320 → Fin 4 → EReal := fun p c => x4 (ix2 p c)

theorem v74_eq (b : Fin 32) (t : Fin 50) (p : Fin 16320) :
    (val_main_v74 (F := Ideal) x4 x5 (ix3 b t p) : EReal) = ovS (tgR x5 b t) (prR x4 p) := by

  pointwise [val_main_v0, val_main_v1, val_main_v2, val_main_v3, val_main_cst, val_main_v4, val_main_v5, val_main_v6, val_main_v7, val_main_v8, val_main_v9, val_main_v10, val_main_cst_0, val_main_v11, val_main_v12, val_main_v13, val_main_v14, val_main_v15, val_main_v16, val_main_v17, val_main_cst_1, val_main_v18, val_main_v19, val_main_v20, val_main_v21, val_main_v22, val_main_v23, val_main_v24, val_main_cst_2, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_cst_3, val_main_v49, val_main_v50, val_main_v51, val_main_v52, val_main_v53, val_main_v54, val_main_v55, val_main_v56, val_main_v57, val_main_v58, val_main_v59, val_main_cst_4, val_main_v60, val_main_v61, val_main_v62, val_main_v63, val_main_v64, val_main_v65, val_main_v66, val_main_v67, val_main_v68, val_main_v69, val_main_v70, val_main_v71, val_main_v72, val_main_v73, val_main_v74]
  rw [c_two, div_real (by norm_num : (2 : ℝ) ≠ 0), div_real (by norm_num : (2 : ℝ) ≠ 0)]
  rw [show ((2 : ℝ)⁻¹) = 1 / 2 by norm_num]
  rfl

variable (b : Fin 32) (t : Fin 50) (p : Fin 16320)

/-! ## The best priors and the best truths -/

theorem v76_eq : (val_main_v76 (F := Ideal) x4 x5 (ix2 b t) : EReal) = ovS (tgR x5 b t) (prR x4 (best (tgR x5 b) (prR x4) t)) := by
  pointwise [val_main_cst_5, val_main_v76]
  simp only [v74_eq, c_bot]
  exact fold_max_first _

theorem v81_eq : val_main_v81 (F := Ideal) x4 x5 (ix2 b t) = BitVec.ofNat 32 (best (tgR x5 b) (prR x4) t).val := by
  pointwise [val_main_v77, val_main_v78, val_main_v79, val_main_c, val_main_call0_v0, val_main_call0_v1, val_main_v80, val_main_c_6, val_main_v81]
  simp only [v74_eq, v76_eq]
  exact fold_minsi_first (by norm_num) (fun p => ovS (tgR x5 b t) (prR x4 p)) _ 16320 (by norm_num) fun k => rfl

/-- The truth that overlaps the prior most, the first of them. -/
abbrev firstT : Fin 50 := first fun t => ovS (tgR x5 b t) (prR x4 p)

theorem v82_eq : (val_main_v82 (F := Ideal) x4 x5 (ix2 b p) : EReal) = ovS (tgR x5 b (firstT x4 x5 b p)) (prR x4 p) := by
  pointwise [val_main_cst_7, val_main_v82]
  simp only [v74_eq, c_bot]
  exact fold_max_first fun t => ovS (tgR x5 b t) (prR x4 p)

theorem v84_eq : (val_main_v84 (F := Ideal) x4 x5 (ix2 b p) : EReal) = ovS (tgR x5 b (firstT x4 x5 b p)) (prR x4 p) := by
  pointwise [val_main_cst_8, val_main_v84]
  simp only [v74_eq, c_bot]
  exact fold_max_first fun t => ovS (tgR x5 b t) (prR x4 p)

theorem v89_eq : val_main_v89 (F := Ideal) x4 x5 (ix2 b p) = BitVec.ofNat 32 (firstT x4 x5 b p).val := by
  pointwise [val_main_v83, val_main_v85, val_main_v86, val_main_v87, val_main_c_9, val_main_call1_v0, val_main_call1_v1, val_main_v88, val_main_c_10, val_main_v89]
  simp only [v74_eq, v84_eq]
  exact fold_minsi_first (by norm_num) (fun t => ovS (tgR x5 b t) (prR x4 p)) _ 50 (by norm_num) fun k => rfl

/-! ## The prior's truth -/

/-- Some truth's best prior is this one. -/
def Forced : Prop := ∃ t, best (tgR x5 b) (prR x4) t = p

/-- The truth of a prior, by its place among the padded ones. -/
abbrev mtR : Fin 50 := Spec.mt (tgR x5 b) (ext (prR x4)) (up p)
abbrev PosR : Prop := IsPos (tgR x5 b) (ext (prR x4)) (up p)

theorem ofNat_inj {a c : ℕ} (ha : a < 2 ^ 32) (hc : c < 2 ^ 32) (h : BitVec.ofNat 32 a = BitVec.ofNat 32 c) : a = c := by
  have := congrArg BitVec.toNat h
  rwa [BitVec.toNat_ofNat, BitVec.toNat_ofNat, Nat.mod_eq_of_lt ha, Nat.mod_eq_of_lt hc] at this

theorem is_best (t : Fin 50) :
    IntOp.cmpi CmpIPredicate.eq (BitVec.ofNat 32 (best (tgR x5 b) (prR x4) t).val) (BitVec.ofNat 32 p.val)
      = BitVec.ofBool (decide (best (tgR x5 b) (prR x4) t = p)) := by
  show BitVec.ofBool _ = _
  congr 1
  by_cases h : best (tgR x5 b) (prR x4) t = p
  · rw [h]; simp
  · have : BitVec.ofNat 32 (best (tgR x5 b) (prR x4) t).val ≠ BitVec.ofNat 32 p.val := fun e =>
      h (Fin.ext (ofNat_inj (by omega) (by omega) e))
    simp [this, h]

theorem v99_term : val_main_v99 (F := Ideal) x4 x5 (ix2 b p) = Finset.fold IntOp.maxsi (2147483648#32)
    (fun t : Fin 50 => if best (tgR x5 b) (prR x4) t = p then BitVec.ofNat 32 t.val else 4294967295#32) Finset.univ := by
  pointwise [val_main_v90, val_main_v91, val_main_v92, val_main_v93, val_main_v94, val_main_v95, val_main_v96, val_main_v97, val_main_c_11, val_main_call2_v0, val_main_call2_v1, val_main_call2_v2, val_main_v98, val_main_c_12, val_main_v99]
  simp only [v81_eq, is_best]
  refine congrArg (fun g => Finset.fold IntOp.maxsi (2147483648#32) g Finset.univ) (funext fun t => ?_)
  by_cases h : best (tgR x5 b) (prR x4) t = p
  · rw [if_pos h, decide_eq_true h]; rfl
  · rw [if_neg h, decide_eq_false h]; rfl

variable {x4 x5 b p}

theorem v99_forced (hg : Good (tgR x5 b) (prR x4)) (hf : Forced x4 x5 b p) :
    val_main_v99 (F := Ideal) x4 x5 (ix2 b p) = BitVec.ofNat 32 (mtR x4 x5 b p).val := by
  rw [v99_term]
  obtain ⟨h1, h2, -⟩ := forced_mt hg p hf
  refine fold_maxsi _ _ _ (mtR x4 x5 b p) (if_pos h1) (fun k => ?_) ?_
  · rw [toInt_ofNat _ (by omega)]
    split
    · next hk =>
      rw [toInt_ofNat _ (by omega)]
      exact_mod_cast h2 k hk
    · exact le_trans (by decide : (4294967295#32).toInt ≤ 0) (by positivity)
  · rw [toInt_ofNat (mtR x4 x5 b p).val (by omega)]
    exact le_trans (by decide : (2147483648#32).toInt ≤ 0) (by positivity)

theorem v99_free (hf : ¬ Forced x4 x5 b p) : val_main_v99 (F := Ideal) x4 x5 (ix2 b p) = 4294967295#32 := by
  rw [v99_term]
  refine fold_maxsi _ _ _ 0 (if_neg fun e => hf ⟨_, e⟩) (fun k => ?_) (by decide)
  rw [if_neg fun e => hf ⟨_, e⟩]

theorem sge_ofNat (n : ℕ) (hn : n < 2 ^ 31) : IntOp.cmpi CmpIPredicate.sge (BitVec.ofNat 32 n) 0#32 = 1#1 := by
  have : (0#32).sle (BitVec.ofNat 32 n) = true := by
    rw [BitVec.sle_iff_toInt_le, toInt_ofNat n hn]; simp
  show BitVec.ofBool ((0#32).sle (BitVec.ofNat 32 n)) = 1#1
  rw [this]; rfl

theorem slt_ofNat (n : ℕ) (hn : n < 2 ^ 31) : IntOp.cmpi CmpIPredicate.slt (BitVec.ofNat 32 n) 0#32 = 0#1 := by
  have : (BitVec.ofNat 32 n).slt 0#32 = false := by
    rw [Bool.eq_false_iff, ne_eq, BitVec.slt_iff_toInt_lt, toInt_ofNat n hn]; simp
  show BitVec.ofBool ((BitVec.ofNat 32 n).slt 0#32) = 0#1
  rw [this]; rfl

theorem sge_neg_one : IntOp.cmpi CmpIPredicate.sge 4294967295#32 0#32 = 0#1 := by decide

theorem select_one {α : Type} (a c : α) : Scalar.select 1#1 a c = a := rfl
theorem select_zero {α : Type} (a c : α) : Scalar.select 0#1 a c = c := rfl

theorem v102_forced (hg : Good (tgR x5 b) (prR x4)) (hf : Forced x4 x5 b p) :
    (val_main_v102 (F := Ideal) x4 x5 (ix2 b p) : EReal) = ((2 : ℝ) : EReal) := by
  pointwise [val_main_c_13, val_main_v100, val_main_v101, val_main_cst_14, val_main_call3_v0, val_main_call3_v1, val_main_v102]
  rw [v99_forced hg hf, sge_ofNat _ (by omega), ← c_two]
  exact select_one _ _

theorem v102_free (hf : ¬ Forced x4 x5 b p) :
    (val_main_v102 (F := Ideal) x4 x5 (ix2 b p) : EReal) = ovS (tgR x5 b (firstT x4 x5 b p)) (prR x4 p) := by
  pointwise [val_main_c_13, val_main_v100, val_main_v101, val_main_cst_14, val_main_call3_v0, val_main_call3_v1, val_main_v102]
  rw [v99_free hf, ← v82_eq, sge_neg_one]
  exact select_zero _ _

theorem v102_pos (hg : Good (tgR x5 b) (prR x4)) :
    (val_main_v102 (F := Ideal) x4 x5 (ix2 b p) : EReal) < ((1 / 2 : ℝ) : EReal) ↔ ¬ PosR x4 x5 b p := by
  by_cases hf : Forced x4 x5 b p
  · rw [v102_forced hg hf]
    refine iff_of_false (not_lt.2 ?_) (not_not.2 (forced_mt hg p hf).2.2)
    exact EReal.coe_le_coe_iff.2 (by norm_num)
  · rw [v102_free hf, ← not_le]
    exact not_congr (free_pos hg p hf).symm

/-- The word the gather reads. -/
theorem word_forced (hg : Good (tgR x5 b) (prR x4)) (hf : Forced x4 x5 b p) :
    val_main_call5_v4 (F := Ideal) x4 x5 (ix3 b p 0) = BitVec.ofNat 32 (mtR x4 x5 b p).val := by
  pointwise [val_main_c_15, val_main_v103, val_main_v104, val_main_v105, val_main_v106, val_main_call5_c, val_main_call5_v0, val_main_call5_v1, val_main_call5_c_0, val_main_call5_v2, val_main_call5_v3, val_main_call5_v4]
  rw [v99_forced hg hf, sge_ofNat _ (by omega), select_one, slt_ofNat _ (by omega), select_zero]

theorem word_free (hf : ¬ Forced x4 x5 b p) :
    val_main_call5_v4 (F := Ideal) x4 x5 (ix3 b p 0) = BitVec.ofNat 32 (firstT x4 x5 b p).val := by
  pointwise [val_main_c_15, val_main_v103, val_main_v104, val_main_v105, val_main_v106, val_main_call5_c, val_main_call5_v0, val_main_call5_v1, val_main_call5_c_0, val_main_call5_v2, val_main_call5_v3, val_main_call5_v4]
  rw [v99_free hf, v89_eq, sge_neg_one, select_zero, slt_ofNat _ (by omega), select_zero]

/-- The gather of a truth by its word. -/
theorem gather_eq (x : S32x50x5.Idx → EReal) (idx : IVec S32x16320x1 32) (k : Fin 50) (c : Fin 5)
    (hk : idx (ix3 b p 0) = BitVec.ofNat 32 k.val) :
    Host.gather gather_S32x50x5_S32x16320x1_S32x16320x5_2_1_0_0_1_2_115 x idx (ix3 b p c) = x (ix3 b k c) := by
  unfold Host.gather
  congr 1
  funext a
  refine Fin.ext ?_
  show GatherDims.start _ _ idx a + GatherDims.batchCoord _ _ a + GatherDims.offCoord _ _ a = _
  match a with
  | ⟨0, _⟩ =>
    show GatherDims.start gather_S32x50x5_S32x16320x1_S32x16320x5_2_1_0_0_1_2_115 (ix3 b p c) idx 0
      + GatherDims.batchCoord gather_S32x50x5_S32x16320x1_S32x16320x5_2_1_0_0_1_2_115 (ix3 b p c) 0
      + GatherDims.offCoord gather_S32x50x5_S32x16320x1_S32x16320x5_2_1_0_0_1_2_115 (ix3 b p c) 0 = b.val
    rw [GatherDims.start_batching _ _ _ _ (List.mem_singleton.mpr rfl), GatherDims.offCoord_eq_zero _ _ _ (by decide)]
    unfold GatherDims.batchCoord
    rw [dif_pos (by decide), Nat.zero_add, Nat.add_zero]
    rfl
  | ⟨1, _⟩ =>
    have hs : GatherDims.siIdx gather_S32x50x5_S32x16320x1_S32x16320x5_2_1_0_0_1_2_115 (ix3 b p c) ⟨0, Nat.one_pos⟩ = ix3 b p 0 := by
      funext d; refine Fin.ext ?_
      match d with
      | ⟨0, _⟩ => rfl
      | ⟨1, _⟩ => rfl
      | ⟨2, _⟩ => rfl
    show min (idx (GatherDims.siIdx gather_S32x50x5_S32x16320x1_S32x16320x5_2_1_0_0_1_2_115 (ix3 b p c) ⟨0, Nat.one_pos⟩)).toInt.toNat (50 - 1) + 0 + 0 = k.val
    rw [hs, hk, toInt_ofNat _ (by omega), Int.toNat_natCast]
    omega
  | ⟨2, _⟩ =>
    show GatherDims.start gather_S32x50x5_S32x16320x1_S32x16320x5_2_1_0_0_1_2_115 (ix3 b p c) idx 2
      + GatherDims.batchCoord gather_S32x50x5_S32x16320x1_S32x16320x5_2_1_0_0_1_2_115 (ix3 b p c) 2
      + GatherDims.offCoord gather_S32x50x5_S32x16320x1_S32x16320x5_2_1_0_0_1_2_115 (ix3 b p c) 2 = c.val
    rw [GatherDims.batchCoord_eq_zero _ _ _ (by decide)]
    unfold GatherDims.start GatherDims.offCoord
    rw [dif_neg (by decide), dif_pos (by decide), Nat.zero_add]
    rfl

theorem v107_forced (hg : Good (tgR x5 b) (prR x4)) (hf : Forced x4 x5 b p) (c : Fin 5) :
    (val_main_v107 (F := Ideal) x4 x5 (ix3 b p c) : EReal) = tgR x5 b (mtR x4 x5 b p) c :=
  gather_eq x5 _ _ c (word_forced hg hf)

theorem v107_free (hf : ¬ Forced x4 x5 b p) (c : Fin 5) :
    (val_main_v107 (F := Ideal) x4 x5 (ix3 b p c) : EReal) = tgR x5 b (firstT x4 x5 b p) c :=
  gather_eq x5 _ _ c (word_free hf)

theorem v107_pos (hg : Good (tgR x5 b) (prR x4)) (hu : Untied (tgR x5 b) (prR x4)) (hp : PosR x4 x5 b p) (c : Fin 5) :
    (val_main_v107 (F := Ideal) x4 x5 (ix3 b p c) : EReal) = tgR x5 b (mtR x4 x5 b p) c := by
  by_cases hf : Forced x4 x5 b p
  · exact v107_forced hg hf c
  · rw [v107_free hf]
    exact congrArg (fun k => tgR x5 b k c) (free_mt hg hu p hf hp).symm

theorem v107_some (hg : Good (tgR x5 b) (prR x4)) : ∃ k : Fin 50, ∀ c,
    (val_main_v107 (F := Ideal) x4 x5 (ix3 b p c) : EReal) = tgR x5 b k c := by
  by_cases hf : Forced x4 x5 b p
  · exact ⟨_, v107_forced hg hf⟩
  · exact ⟨_, v107_free hf⟩

end Cert.Ref

end
-- ==== Proof.RefLoss.lean ====
/-
  The reference's localisation loss and its count of matched priors, at an index and summed.
-/
module

public import proofs.«01_k».proof.Proof.RefMatch

@[expose] public section

set_option maxRecDepth 16384

noncomputable section

namespace Cert.Ref

open Idealize.ShloMosaic Cert.Spec Cert.ReferenceIdeal Cert.ReferenceIdeal.Read

variable {x0 : (⟨S32x16320x4, .f32⟩ : BufTy).Contents (Elt Ideal)} {x1 : (⟨S32x16320x21, .f32⟩ : BufTy).Contents (Elt Ideal)}
  {x4 : (⟨S16320x4, .f32⟩ : BufTy).Contents (Elt Ideal)} {x5 : (⟨S32x50x5, .f32⟩ : BufTy).Contents (Elt Ideal)}
  {b : Fin 32} {p : Fin 16320}

/-! ## The columns of the gathered truths -/

theorem idx_111 : idx_main_v110 (idx_main_v111 (ix2 b p)) = ix3 b p 4 := by
  funext a
  match a with
  | ⟨0, _⟩ => exact Fin.ext (by show (b.val * 16320 + p.val) / 16320 = b.val; omega)
  | ⟨1, _⟩ => exact Fin.ext (by show (b.val * 16320 + p.val) / 1 % 16320 = p.val; omega)
  | ⟨2, _⟩ => rfl

theorem v111_eq : val_main_v111 (F := Ideal) x4 x5 (ix2 b p) = val_main_v107 (F := Ideal) x4 x5 (ix3 b p 4) := by
  rw [val_main_v111_apply, val_main_v110_apply, idx_111]

theorem idx_119 : idx_main_v118 (idx_main_v119 (ix2 b p)) = ix3 b p 0 := by
  funext a
  match a with
  | ⟨0, _⟩ => exact Fin.ext (by show (b.val * 16320 + p.val) / 16320 = b.val; omega)
  | ⟨1, _⟩ => exact Fin.ext (by show (b.val * 16320 + p.val) / 1 % 16320 = p.val; omega)
  | ⟨2, _⟩ => rfl

theorem v119_eq : val_main_v119 (F := Ideal) x4 x5 (ix2 b p) = val_main_v107 (F := Ideal) x4 x5 (ix3 b p 0) := by
  rw [val_main_v119_apply, val_main_v118_apply, idx_119]

theorem idx_121 : idx_main_v120 (idx_main_v121 (ix2 b p)) = ix3 b p 1 := by
  funext a
  match a with
  | ⟨0, _⟩ => exact Fin.ext (by show (b.val * 16320 + p.val) / 16320 = b.val; omega)
  | ⟨1, _⟩ => exact Fin.ext (by show (b.val * 16320 + p.val) / 1 % 16320 = p.val; omega)
  | ⟨2, _⟩ => rfl

theorem v121_eq : val_main_v121 (F := Ideal) x4 x5 (ix2 b p) = val_main_v107 (F := Ideal) x4 x5 (ix3 b p 1) := by
  rw [val_main_v121_apply, val_main_v120_apply, idx_121]

theorem idx_123 : idx_main_v122 (idx_main_v123 (ix2 b p)) = ix3 b p 2 := by
  funext a
  match a with
  | ⟨0, _⟩ => exact Fin.ext (by show (b.val * 16320 + p.val) / 16320 = b.val; omega)
  | ⟨1, _⟩ => exact Fin.ext (by show (b.val * 16320 + p.val) / 1 % 16320 = p.val; omega)
  | ⟨2, _⟩ => rfl

theorem v123_eq : val_main_v123 (F := Ideal) x4 x5 (ix2 b p) = val_main_v107 (F := Ideal) x4 x5 (ix3 b p 2) := by
  rw [val_main_v123_apply, val_main_v122_apply, idx_123]

theorem idx_125 : idx_main_v124 (idx_main_v125 (ix2 b p)) = ix3 b p 3 := by
  funext a
  match a with
  | ⟨0, _⟩ => exact Fin.ext (by show (b.val * 16320 + p.val) / 16320 = b.val; omega)
  | ⟨1, _⟩ => exact Fin.ext (by show (b.val * 16320 + p.val) / 1 % 16320 = p.val; omega)
  | ⟨2, _⟩ => rfl

theorem v125_eq : val_main_v125 (F := Ideal) x4 x5 (ix2 b p) = val_main_v107 (F := Ideal) x4 x5 (ix3 b p 3) := by
  rw [val_main_v125_apply, val_main_v124_apply, idx_125]

/-! ## The matched priors -/

/-- The truths' labels lie among the twenty classes. -/
def Labels (tg : Fin 50 → Fin 5 → EReal) : Prop := ∀ t, 0 ≤ tg t 4 ∧ tg t 4 ≤ ((19 : ℝ) : EReal)

/-- Such a label, cut to a whole number. -/
theorem fptosi_nat {x : EReal} (h0 : 0 ≤ x) (h1 : x ≤ ((19 : ℝ) : EReal)) :
    ∃ n : ℕ, n < 20 ∧ FloatOps.fptosi (F := Ideal) (φ := .f32) 32 (x : Ideal .f32) = BitVec.ofNat 32 n := by
  induction x using EReal.rec with
  | bot => exact absurd h0 (not_le.2 EReal.bot_lt_zero)
  | top => exact absurd h1 (not_le.2 (EReal.coe_lt_top _))
  | coe r =>
  have r0 : (0 : ℝ) ≤ r := by exact_mod_cast h0
  have r1 : r ≤ 19 := by exact_mod_cast h1
  have f0 : 0 ≤ ⌊r⌋ := Int.floor_nonneg.2 r0
  have f1 : ⌊r⌋ < 20 := Int.floor_lt.2 (by push_cast; linarith)
  refine ⟨⌊r⌋.toNat, by omega, ?_⟩
  show Ideal.fptosi 32 ((r : ℝ) : EReal) = _
  have e : Ideal.toIntClamped (-(2 ^ (32 - 1) : Nat)) ((2 ^ (32 - 1) : Nat) - 1) ((r : ℝ) : EReal) = (⌊r⌋.toNat : ℤ) := by
    show max (-((2 ^ (32 - 1) : Nat) : ℤ)) (min (((2 ^ (32 - 1) : Nat) : ℤ) - 1) (if (0 : ℝ) ≤ r then ⌊r⌋ else ⌈r⌉)) = _
    rw [if_pos r0]
    norm_num
    omega
  unfold Ideal.fptosi
  rw [e]
  exact BitVec.ofInt_natCast 32 _

theorem sgt_zero : IntOp.cmpi CmpIPredicate.sgt 0#32 0#32 = 0#1 := by decide

theorem sgt_succ (n : ℕ) (hn : n < 20) : IntOp.cmpi CmpIPredicate.sgt (IntOp.addi (BitVec.ofNat 32 n) 1#32) 0#32 = 1#1 := by
  interval_cases n <;> decide

theorem v108_at : (val_main_v108 (F := Ideal) (ix2 b p) : EReal) = ((1 / 2 : ℝ) : EReal) := by
  pointwise [val_main_cst_16, val_main_v108]
  exact c_half
theorem v6_at : val_main_call6_v1 (F := Ideal) (ix2 b p) = 0#32 := by
  pointwise [val_main_c_18, val_main_call6_v0, val_main_call6_v1]
  rfl
theorem v113_at : val_main_v113 (F := Ideal) (ix2 b p) = 1#32 := by pointwise [val_main_c_17, val_main_v113]
theorem v116_at : val_main_v116 (F := Ideal) (ix2 b p) = 0#32 := by pointwise [val_main_c_19, val_main_v116]

theorem cmpf_olt (x y : EReal) (P : Prop) [Decidable P] (h : x < y ↔ P) :
    FloatOps.cmpf (F := Ideal) (φ := .f32) CmpFPredicate.olt x y = BitVec.ofBool (decide P) :=
  congrArg BitVec.ofBool (decide_eq_decide.2 h)

/-- The class of a prior, as a word. -/
theorem v115_eq (hg : Good (tgR x5 b) (prR x4)) : val_main_v115 (F := Ideal) x4 x5 (ix2 b p)
    = if PosR x4 x5 b p then IntOp.addi (FloatOps.fptosi (F := Ideal) (φ := .f32) 32 (val_main_v107 (F := Ideal) x4 x5 (ix3 b p 4))) 1#32 else 0#32 := by
  rw [val_main_v115_apply, val_main_v109_apply, val_main_v114_apply, val_main_v112_apply, v111_eq, v6_at, v113_at]
  have h := v102_pos (p := p) hg
  rw [← v108_at (b := b) (p := p)] at h
  have e : FloatOps.cmpf (F := Ideal) (φ := .f32) CmpFPredicate.olt (val_main_v102 (F := Ideal) x4 x5 (ix2 b p)) (val_main_v108 (F := Ideal) (ix2 b p))
      = BitVec.ofBool (decide ¬ PosR x4 x5 b p) := cmpf_olt _ _ _ h
  rw [e]
  by_cases hp : PosR x4 x5 b p
  · rw [if_pos hp, decide_eq_false (not_not.2 hp)]; exact select_zero _ _
  · rw [if_neg hp, decide_eq_true hp]; exact select_one _ _

theorem v117_eq (hg : Good (tgR x5 b) (prR x4)) (hl : Labels (tgR x5 b)) :
    val_main_v117 (F := Ideal) x4 x5 (ix2 b p) = BitVec.ofBool (decide (PosR x4 x5 b p)) := by
  rw [val_main_v117_apply, v115_eq hg, v116_at]
  by_cases hp : PosR x4 x5 b p
  · obtain ⟨k, hk⟩ := v107_some (p := p) hg
    obtain ⟨n, hn, e⟩ := fptosi_nat (hl k).1 (hl k).2
    rw [if_pos hp, hk 4, e, sgt_succ n hn, decide_eq_true hp]; rfl
  · rw [if_neg hp, decide_eq_false hp, sgt_zero]; rfl

/-! ## The localisation loss -/

theorem v222_eq (hp : GoodP (prR x4 p)) : (val_main_v222 (F := Ideal) x0 x4 x5 (ix2 b p) : EReal)
    = L1 (fun j => x0 (ix3 b p j)) (fun c => val_main_v107 (F := Ideal) x4 x5 (ix3 b p c)) (prR x4 p) := by
  have c0 := gC_eq (val_main_v119 (F := Ideal) x4 x5 (ix2 b p)) (val_main_v123 (F := Ideal) x4 x5 (ix2 b p)) (x4 (ix2 p 0)) (x4 (ix2 p 2)) hp.w
  have c1 := gC_eq (val_main_v121 (F := Ideal) x4 x5 (ix2 b p)) (val_main_v125 (F := Ideal) x4 x5 (ix2 b p)) (x4 (ix2 p 1)) (x4 (ix2 p 3)) hp.h
  have c2 := gL_eq (val_main_v119 (F := Ideal) x4 x5 (ix2 b p)) (val_main_v123 (F := Ideal) x4 x5 (ix2 b p)) (x4 (ix2 p 2)) hp.w
  have c3 := gL_eq (val_main_v121 (F := Ideal) x4 x5 (ix2 b p)) (val_main_v125 (F := Ideal) x4 x5 (ix2 b p)) (x4 (ix2 p 3)) hp.h
  pointwise [val_main_v126, val_main_v127, val_main_v128, val_main_v129, val_main_v130, val_main_v131, val_main_v132, val_main_v133, val_main_v134, val_main_v135, val_main_v136, val_main_v137, val_main_v138, val_main_v139, val_main_v140, val_main_cst_20, val_main_v141, val_main_v142, val_main_v143, val_main_v144, val_main_cst_21, val_main_v145, val_main_v146, val_main_v147, val_main_v148, val_main_v149, val_main_v150, val_main_cst_22, val_main_v151, val_main_v152, val_main_cst_23, val_main_v153, val_main_v154, val_main_v155, val_main_v156, val_main_cst_24, val_main_v157, val_main_v158, val_main_v159, val_main_v160, val_main_v161, val_main_v162, val_main_cst_25, val_main_v163, val_main_v164, val_main_v165, val_main_v166, val_main_cst_26, val_main_v167, val_main_v168, val_main_v169, val_main_v170, val_main_v171, val_main_v172, val_main_cst_27, val_main_v173, val_main_v174, val_main_cst_28, val_main_v175, val_main_v176, val_main_v177, val_main_v178, val_main_cst_29, val_main_v179, val_main_v180, val_main_v181, val_main_v182, val_main_v183, val_main_v184, val_main_v185, val_main_v186, val_main_v187, val_main_v188, val_main_cst_30, val_main_v189, val_main_v190, val_main_v191, val_main_v192, val_main_cst_31, val_main_v193, val_main_v194, val_main_cst_32, val_main_v195, val_main_v196, val_main_v197, val_main_v198, val_main_cst_33, val_main_v199, val_main_v200, val_main_v201, val_main_v202, val_main_v203, val_main_v204, val_main_v205, val_main_v206, val_main_v207, val_main_v208, val_main_cst_34, val_main_v209, val_main_v210, val_main_v211, val_main_v212, val_main_cst_35, val_main_v213, val_main_v214, val_main_cst_36, val_main_v215, val_main_v216, val_main_v217, val_main_v218, val_main_cst_37, val_main_v219, val_main_v220, val_main_v221, val_main_v222]
  rw [c_two, c_ten, c_five, c0, c1, c2, c3, c_half, v119_eq, v121_eq, v123_eq, v125_eq]
  rfl

/-- Image `b`'s localisation loss at a prior. -/
def llR (x0 : (⟨S32x16320x4, .f32⟩ : BufTy).Contents (Elt Ideal)) (x4 : (⟨S16320x4, .f32⟩ : BufTy).Contents (Elt Ideal))
    (x5 : (⟨S32x50x5, .f32⟩ : BufTy).Contents (Elt Ideal)) (b : Fin 32) (p : Fin 16320) : EReal :=
  if PosR x4 x5 b p then L1 (fun j => x0 (ix3 b p j)) (tgR x5 b (mtR x4 x5 b p)) (prR x4 p) else 0

theorem uitofp_one : (FloatOps.uitofp (F := Ideal) .f32 (BitVec.ofBool true) : EReal) = 1 := by
  show (((BitVec.ofBool true).toNat : ℝ) : EReal) = 1
  simp
theorem uitofp_zero : (FloatOps.uitofp (F := Ideal) .f32 (BitVec.ofBool false) : EReal) = 0 := by
  show (((BitVec.ofBool false).toNat : ℝ) : EReal) = 0
  simp

theorem v225_eq (hg : ∀ b, Good (tgR x5 b) (prR x4)) (hu : ∀ b, Untied (tgR x5 b) (prR x4)) (hl : ∀ b, Labels (tgR x5 b)) :
    (val_main_v225 (F := Ideal) x0 x4 x5 ix0 : EReal) = ∑ b, ∑ p, llR x0 x4 x5 b p := by
  pointwise [val_main_v223, val_main_v224, val_main_cst_38, val_main_v225]
  refine Finset.sum_congr rfl fun b _ => Finset.sum_congr rfl fun p _ => ?_
  rw [v222_eq ((hg b).p p), v117_eq (hg b) (hl b)]
  unfold llR
  by_cases hp : PosR x4 x5 b p
  · rw [if_pos hp, decide_eq_true hp, funext fun c => v107_pos (hg b) (hu b) hp c]
    rw [show (FloatOps.uitofp (F := Ideal) .f32 (BitVec.ofBool true) : EReal) = 1 from uitofp_one, mul_one]
  · rw [if_neg hp, decide_eq_false hp]
    rw [show (FloatOps.uitofp (F := Ideal) .f32 (BitVec.ofBool false) : EReal) = 0 from uitofp_zero, mul_zero]

/-! ## The count -/

theorem fold_addi_count {ι : Type} [Fintype ι] [DecidableEq ι] [Std.Commutative (IntOp.addi (w := 32))] [Std.Associative (IntOp.addi (w := 32))]
    (P : ι → Prop) [DecidablePred P] :
    Finset.univ.fold IntOp.addi 0#32 (fun k => BitVec.setWidth 32 (BitVec.ofBool (decide (P k)))) = BitVec.ofNat 32 (Finset.univ.filter P).card := by
  have key : ∀ s : Finset ι, s.fold IntOp.addi 0#32 (fun k => BitVec.setWidth 32 (BitVec.ofBool (decide (P k)))) = BitVec.ofNat 32 (s.filter P).card := by
    intro s
    induction s using Finset.induction_on with
    | empty => rfl
    | insert a s ha ih =>
      rw [Finset.fold_insert ha, ih, Finset.filter_insert]
      by_cases h : P a
      · rw [if_pos h, Finset.card_insert_of_notMem (fun hm => ha (Finset.mem_filter.1 hm).1), decide_eq_true h]
        show (1#32 : BitVec 32) + _ = _
        rw [BitVec.ofNat_add, BitVec.add_comm]
      · rw [if_neg h, decide_eq_false h]
        show (0#32 : BitVec 32) + _ = _
        rw [BitVec.zero_add]
  exact key _

/-- How many priors are matched. -/
def npR (x4 : (⟨S16320x4, .f32⟩ : BufTy).Contents (Elt Ideal)) (x5 : (⟨S32x50x5, .f32⟩ : BufTy).Contents (Elt Ideal)) : EReal :=
  ∑ b : Fin 32, ∑ p : Fin 16320, if PosR x4 x5 b p then 1 else 0

theorem v228_eq (hg : ∀ b, Good (tgR x5 b) (prR x4)) (hl : ∀ b, Labels (tgR x5 b)) :
    (val_main_v228 (F := Ideal) x4 x5 ix0 : EReal) = npR x4 x5 := by
  pointwise [val_main_v226, val_main_c_39, val_main_v227, val_main_v228]
  have e : ∀ k : Fin 32 × Fin 16320, val_main_v117 (F := Ideal) x4 x5 (ix2 k.1 k.2) = BitVec.ofBool (decide (PosR x4 x5 k.1 k.2)) :=
    fun k => v117_eq (hg k.1) (hl k.1)
  simp only [e]
  rw [fold_addi_count fun k : Fin 32 × Fin 16320 => PosR x4 x5 k.1 k.2]
  have hc : (Finset.univ.filter fun k : Fin 32 × Fin 16320 => PosR x4 x5 k.1 k.2).card < 2 ^ 31 := by
    refine lt_of_le_of_lt (Finset.card_le_univ _) ?_
    rw [Fintype.card_prod, Fintype.card_fin, Fintype.card_fin]; norm_num
  show (((BitVec.ofNat 32 _).toInt : ℝ) : EReal) = _
  rw [toInt_ofNat _ hc, npR, ← Fintype.sum_prod_type' (f := fun b p => if PosR x4 x5 b p then (1 : EReal) else 0), Finset.sum_boole]
  norm_cast

/-! ## The first result -/

theorem v262_eq (hg : ∀ b, Good (tgR x5 b) (prR x4)) (hu : ∀ b, Untied (tgR x5 b) (prR x4)) (hl : ∀ b, Labels (tgR x5 b)) :
    (val_main_v262 (F := Ideal) x0 x4 x5 ix0 : EReal) = Ideal.div (∑ b, ∑ p, llR x0 x4 x5 b p) (max (npR x4 x5) 1) := by
  pointwise [val_main_cst_40, val_main_v229, val_main_v262]
  rw [v225_eq hg hu hl, v228_eq hg hl]

end Cert.Ref

end
-- ==== Proof.Facts.lean ====
/-
  The precondition in the words of the specification: truths and priors in order, no ties among the overlaps that
  count, and labels within the classes.
-/
module

public import proofs.«01_k».proof.Proof.Pre
public import proofs.«01_k».proof.Proof.RefLoss

@[expose] public section

set_option maxRecDepth 16384

noncomputable section

namespace Cert.Pre_well_posed.Own

open Idealize.ShloMosaic Cert.Pre_well_posed Cert.Pre_well_posed.Gen Cert.Spec

theorem bc_at (w : FVec Ideal S32x1x16320 .f32) (b : Fin 32) (t : Fin 50) (p : Fin 16320) :
    (broadcastInDim S32x50x16320 ![0, 1, 2] bcast_S32x1x16320_S32x50x16320_0_1_2 w (ix3 b t p) : EReal) = w (ix3 b 0 p) := by
  pointwise []

/-- Every condition holds everywhere. -/
def All (x0 : FVec Ideal S32x16320x4 .f32) (x1 : FVec Ideal S32x16320x21 .f32) (x2 : FVec Ideal S32x16320x4 .f32)
    (x3 : FVec Ideal S32x16320x21 .f32) (x4 : FVec Ideal S16320x4 .f32) (x5 : FVec Ideal S32x50x5 .f32) : Prop :=
  (fn (F := Ideal) x0 x1 x2 x3 x4 x5).1 = (fun _ => 1#1)
  ∧ (fn (F := Ideal) x0 x1 x2 x3 x4 x5).2.1 = (fun _ => 1#1)
  ∧ (fn (F := Ideal) x0 x1 x2 x3 x4 x5).2.2.1 = (fun _ => 1#1)
  ∧ (fn (F := Ideal) x0 x1 x2 x3 x4 x5).2.2.2.1 = (fun _ => 1#1)
  ∧ (fn (F := Ideal) x0 x1 x2 x3 x4 x5).2.2.2.2.1 = (fun _ => 1#1)
  ∧ (fn (F := Ideal) x0 x1 x2 x3 x4 x5).2.2.2.2.2.1 = (fun _ => 1#1)
  ∧ (fn (F := Ideal) x0 x1 x2 x3 x4 x5).2.2.2.2.2.2.1 = (fun _ => 1#1)
  ∧ (fn (F := Ideal) x0 x1 x2 x3 x4 x5).2.2.2.2.2.2.2 = (fun _ => 1#1)

variable {x0 : FVec Ideal S32x16320x4 .f32} {x1 : FVec Ideal S32x16320x21 .f32} {x2 : FVec Ideal S32x16320x4 .f32}
  {x3 : FVec Ideal S32x16320x21 .f32} {x4 : FVec Ideal S16320x4 .f32} {x5 : FVec Ideal S32x50x5 .f32}

theorem good (h : All x0 x1 x2 x3 x4 x5) (b : Fin 32) : Good (Cert.Ref.tgR x5 b) (Cert.Ref.prR x4) := by
  unfold All at h
  rw [split] at h
  obtain ⟨h0, h1, h2, h3, h4, -⟩ := h
  refine ⟨fun t => ⟨?_, ?_, ?_⟩, fun p => ⟨?_, ?_⟩⟩
  · exact xle (h := congrFun h3 (ix2 b t)) (c := 0) (e := 0)
  · exact yle (h := congrFun h4 (ix2 b t)) (c := 0) (e := 0)
  · exact right (h := congrFun h2 (ix2 b t)) (c := 0) (e := 0)
  · exact wpos (h := congrFun h0 (ix1 p)) (c := 0) (e := 0)
  · exact hpos (h := congrFun h1 (ix1 p)) (c := 0) (e := 0)

theorem labels (h : All x0 x1 x2 x3 x4 x5) (b : Fin 32) : Cert.Ref.Labels (Cert.Ref.tgR x5 b) := by
  intro t
  unfold All at h
  rw [split] at h
  obtain ⟨-, -, -, -, -, h5, h6, -⟩ := h
  exact ⟨lab0 (h := congrFun h5 (ix2 b t)) (c := 0) (e := 0), lab19 (h := congrFun h6 (ix2 b t)) (c := 0) (e := 0)⟩

theorem ofNat_inj {a b : Fin 50} (h : BitVec.ofNat 32 a.val = BitVec.ofNat 32 b.val) : a = b := by
  have e := congrArg BitVec.toNat h
  simp only [BitVec.toNat_ofNat] at e
  exact Fin.ext (by omega)

theorem untied_of (v : FVec Ideal S32x50x16320 .f32) (o : Fin 50 → EReal) (b : Fin 32) (t : Fin 50) (p : Fin 16320)
    (ho : ∀ t, (v (ix3 b t p) : EReal) = o t)
    (h : (v (ix3 b t p) : EReal) < broadcastInDim S32x50x16320 ![0, 1, 2] bcast_S32x1x16320_S32x50x16320_0_1_2 (top v) (ix3 b t p)
      ∨ BitVec.ofNat 32 t.val = fst v (ix3 b 0 p) ∨ (top v (ix3 b 0 p) : EReal) < ((1 / 2 : ℝ) : EReal)) :
    o t < o (first o) ∨ t = first o ∨ o (first o) < ((1 / 2 : ℝ) : EReal) := by
  obtain rfl : (fun t => (v (ix3 b t p) : EReal)) = o := funext ho
  rw [bc_at, top_at, fst_at] at h
  exact h.imp id (Or.imp ofNat_inj id)

theorem untied (h : All x0 x1 x2 x3 x4 x5) (b : Fin 32) : Untied (Cert.Ref.tgR x5 b) (Cert.Ref.prR x4) := by
  unfold All at h
  rw [split] at h
  obtain ⟨-, -, -, -, -, -, -, h⟩ := h
  intro p t
  exact untied_of (ov x4 x5) (fun t => ovS (Cert.Ref.tgR x5 b t) (Cert.Ref.prR x4 p)) b t p
    (fun t => ov_at x4 x5 b t p) (untied_at (h := congrFun h (ix3 b t p)))

end Cert.Pre_well_posed.Own

end
-- ==== Proof.KerMatch.lean ====
/-
  The body's pure steps over extended reals, read at an index: the matching and the localisation sums are the ones the
  specification names.
-/
module

public import proofs.«01_k».proof.Proof.Closed
public import proofs.«01_k».proof.Proof.Spec
public import Idealize.ShloMosaic.Lib.Pointwise

@[expose] public section

set_option maxRecDepth 16384

noncomputable section

namespace Cert.Body

open Idealize.ShloMosaic Cert.Spec
open VecWindow (window)

/-! ## Windows at an index -/

theorem emb3 {s0 s1 s2 z0 z1 z2 : Nat} (o0 o1 o2 : Nat) (inb : ∀ a, (![o0, o1, o2] : Fin 3 → Nat) a + (![z0, z1, z2] : Fin 3 → Nat) a ≤ (⟨3, ![s0, s1, s2]⟩ : Shape).size a)
    (i : Fin z0) (j : Fin z1) (k : Fin z2) (a : Fin s0) (b : Fin s1) (c : Fin s2) (ha : a.val = o0 + i.val) (hb : b.val = o1 + j.val)
    (hc : c.val = o2 + k.val) :
    (Rect.unit (s := ⟨3, ![s0, s1, s2]⟩) ![o0, o1, o2] ![z0, z1, z2] inb).emb (ix3 i j k) = ix3 a b c := by
  funext d
  match d with
  | ⟨0, _⟩ => exact Fin.ext ((by show o0 + 1 * i.val = a.val; omega))
  | ⟨1, _⟩ => exact Fin.ext ((by show o1 + 1 * j.val = b.val; omega))
  | ⟨2, _⟩ => exact Fin.ext ((by show o2 + 1 * k.val = c.val; omega))

theorem emb4 {s0 s1 s2 s3 z0 z1 z2 z3 : Nat} (o0 o1 o2 o3 : Nat)
    (inb : ∀ a, (![o0, o1, o2, o3] : Fin 4 → Nat) a + (![z0, z1, z2, z3] : Fin 4 → Nat) a ≤ (⟨4, ![s0, s1, s2, s3]⟩ : Shape).size a)
    (i : Fin z0) (j : Fin z1) (k : Fin z2) (l : Fin z3) (a : Fin s0) (b : Fin s1) (c : Fin s2) (e : Fin s3) (ha : a.val = o0 + i.val)
    (hb : b.val = o1 + j.val) (hc : c.val = o2 + k.val) (he : e.val = o3 + l.val) :
    (Rect.unit (s := ⟨4, ![s0, s1, s2, s3]⟩) ![o0, o1, o2, o3] ![z0, z1, z2, z3] inb).emb (ix4 i j k l) = ix4 a b c e := by
  funext d
  match d with
  | ⟨0, _⟩ => exact Fin.ext ((by show o0 + 1 * i.val = a.val; omega))
  | ⟨1, _⟩ => exact Fin.ext ((by show o1 + 1 * j.val = b.val; omega))
  | ⟨2, _⟩ => exact Fin.ext ((by show o2 + 1 * k.val = c.val; omega))
  | ⟨3, _⟩ => exact Fin.ext ((by show o3 + 1 * l.val = e.val; omega))

/-! ## Places -/

/-- Place `r, l` of chunk `c`. -/
abbrev pi (c : Fin 4) (r : Fin 32) (l : Fin 128) : Fin 16384 := ⟨4096 * c.val + 128 * r.val + l.val, by omega⟩
/-- Place `R, l` of the whole. -/
abbrev pj (R l : Fin 128) : Fin 16384 := ⟨128 * R.val + l.val, by omega⟩
/-- Row `r` of chunk `c`. -/
abbrev row (c : Fin 4) (r : Fin 32) : Fin 128 := ⟨32 * c.val + r.val, by omega⟩

theorem pj_row (c : Fin 4) (r : Fin 32) (l : Fin 128) : pj (row c r) l = pi c r l := Fin.ext (by show 128 * (32 * c.val + r.val) + l.val = _; ring)

theorem base_eq (c : Fin 4) : Ideal.ofBits .f32 (baseBits c) = (((4096 * c.val : ℕ) : ℝ) : EReal) := by
  match c with
  | ⟨0, _⟩ => show Ideal.ofBits .f32 0x00000000#32 = (((4096 * 0 : ℕ) : ℝ) : EReal); simp [Ideal.ofBits, Ideal.ieee]
  | ⟨1, _⟩ => show Ideal.ofBits .f32 0x45800000#32 = (((4096 * 1 : ℕ) : ℝ) : EReal); simp [Ideal.ofBits, Ideal.ieee, -EReal.coe_mul]; norm_num
  | ⟨2, _⟩ => show Ideal.ofBits .f32 0x46000000#32 = (((4096 * 2 : ℕ) : ℝ) : EReal); simp [Ideal.ofBits, Ideal.ieee, -EReal.coe_mul]; norm_num
  | ⟨3, _⟩ => show Ideal.ofBits .f32 0x46400000#32 = (((4096 * 3 : ℕ) : ℝ) : EReal); simp [Ideal.ofBits, Ideal.ieee, -EReal.coe_mul]; norm_num

/-! ## The truths, the priors and their overlaps -/

section Match

variable {x1 : FVec Ideal S1x21x128x128 .f32} {x2 : FVec Ideal S1x4x128x128 .f32} {x3 : FVec Ideal S4x128x128 .f32}
  {x4 : FVec Ideal S1x50x5 .f32} {tg : Fin 50 → Fin 5 → EReal} {q : Fin 16384 → Fin 4 → EReal} {lc : Fin 16384 → Fin 4 → EReal}

/-- The blocks hold these truths and priors. -/
structure Blocks (x3 : FVec Ideal S4x128x128 .f32) (x4 : FVec Ideal S1x50x5 .f32) (tg : Fin 50 → Fin 5 → EReal)
    (q : Fin 16384 → Fin 4 → EReal) : Prop where
  p : ∀ (j : Fin 4) (R l : Fin 128), (x3 (ix3 j R l) : EReal) = q (pj R l) j
  t : ∀ (t : Fin 50) (c : Fin 5), (x4 (ix3 0 t c) : EReal) = tg t c

theorem txAt_x1 (h : Blocks x3 x4 tg q) (t : Fin 50) : ((txAt x4 t).x1 (ix2 0 0) : EReal) = tg t 0 := by
  pointwise [txAt, window]
  rw [← h.t]; exact congrArg x4 (emb3 _ _ _ _ _ _ _ _ _ _ rfl rfl rfl)
theorem txAt_y1 (h : Blocks x3 x4 tg q) (t : Fin 50) : ((txAt x4 t).y1 (ix2 0 0) : EReal) = tg t 1 := by
  pointwise [txAt, window]
  rw [← h.t]; exact congrArg x4 (emb3 _ _ _ _ _ _ _ _ _ _ rfl rfl rfl)
theorem txAt_x2 (h : Blocks x3 x4 tg q) (t : Fin 50) : ((txAt x4 t).x2 (ix2 0 0) : EReal) = tg t 2 := by
  pointwise [txAt, window]
  rw [← h.t]; exact congrArg x4 (emb3 _ _ _ _ _ _ _ _ _ _ rfl rfl rfl)
theorem txAt_y2 (h : Blocks x3 x4 tg q) (t : Fin 50) : ((txAt x4 t).y2 (ix2 0 0) : EReal) = tg t 3 := by
  pointwise [txAt, window]
  rw [← h.t]; exact congrArg x4 (emb3 _ _ _ _ _ _ _ _ _ _ rfl rfl rfl)
theorem txAt_lab (h : Blocks x3 x4 tg q) (t : Fin 50) : ((txAt x4 t).lab (ix2 0 0) : EReal) = tg t 4 := by
  pointwise [txAt, window]
  rw [← h.t]; exact congrArg x4 (emb3 _ _ _ _ _ _ _ _ _ _ rfl rfl rfl)

theorem priorAt_eq (h : Blocks x3 x4 tg q) (j c : Fin 4) (r : Fin 32) (l : Fin 128) :
    (priorAt x3 j c (ix2 r l) : EReal) = q (pi c r l) j := by
  pointwise [priorAt, window]
  rw [← pj_row, ← h.p]; exact congrArg x3 (emb3 _ _ _ _ _ _ _ _ _ _ rfl rfl (Nat.zero_add _).symm)

theorem ovAt_eq (h : Blocks x3 x4 tg q) (c : Fin 4) (t : Fin 50) (r : Fin 32) (l : Fin 128) :
    (ovAt x3 x4 c t (ix2 r l) : EReal) = ovS (tg t) (q (pi c r l)) := by
  pointwise [ovAt, ovVec, boxAt, boxOf]
  rw [txAt_x1 h, txAt_y1 h, txAt_x2 h, txAt_y2 h, priorAt_eq h, priorAt_eq h, priorAt_eq h, priorAt_eq h, c_half]
  rfl

theorem ovArr_eq (h : Blocks x3 x4 tg q) (t : Fin 50) (R l : Fin 128) :
    (ovArr x3 x4 (ix3 t R l) : EReal) = ovS (tg t) (q (pj R l)) := by
  show (ovAt x3 x4 ⟨R.val / 32, _⟩ t (ix2 ⟨R.val % 32, _⟩ l) : EReal) = _
  rw [ovAt_eq h]
  congr 2
  apply Fin.ext
  show 4096 * (R.val / 32) + 128 * (R.val % 32) + l.val = 128 * R.val + l.val
  omega

theorem ovRow_eq (h : Blocks x3 x4 tg q) (t : Fin 50) (R l : Fin 128) :
    (ovRow x3 x4 t (ix3 0 R l) : EReal) = ovS (tg t) (q (pj R l)) := by
  rw [← ovArr_eq h]
  exact congrArg (ovArr x3 x4) (emb3 _ _ _ _ _ _ _ _ _ _ rfl (Nat.zero_add _).symm (Nat.zero_add _).symm)

/-! ## The best prior of a truth -/

theorem pj_surj (p : Fin 16384) : ∃ R l, pj R l = p :=
  ⟨⟨p.val / 128, by omega⟩, ⟨p.val % 128, by omega⟩, Fin.ext (by show 128 * (p.val / 128) + p.val % 128 = p.val; omega)⟩

/-- The places' maximum, taken by lanes and then by columns. -/
theorem fold_max_places (o : Fin 16384 → EReal) :
    (Finset.univ : Finset (Fin 128)).fold max ⊥ (fun l => (Finset.univ : Finset (Fin 128)).fold max ⊥ fun R => o (pj R l))
      = o (first o) := by
  have hf := first_spec o
  obtain ⟨R, l, e⟩ := pj_surj (first o)
  have hle : ∀ l', (Finset.univ : Finset (Fin 128)).fold max ⊥ (fun R => o (pj R l')) ≤ o (first o) := fun l' =>
    Finset.fold_max_le _ |>.2 ⟨bot_le, fun R' _ => hf.1 _⟩
  apply le_antisymm
  · exact Finset.fold_max_le _ |>.2 ⟨bot_le, fun l' _ => hle l'⟩
  · exact Finset.le_fold_max _ |>.2 (.inr ⟨l, Finset.mem_univ _, Finset.le_fold_max _ |>.2 (.inr ⟨R, Finset.mem_univ _, (congrArg o e).ge⟩)⟩)

theorem fold_min_places (o : Fin 16384 → EReal) (i : Fin 16384) (h : ∀ p, o i ≤ o p) :
    (Finset.univ : Finset (Fin 128)).fold min ⊤ (fun l => (Finset.univ : Finset (Fin 128)).fold min ⊤ fun R => o (pj R l))
      = o i := by
  obtain ⟨R, l, e⟩ := pj_surj i
  apply le_antisymm
  · exact Finset.fold_min_le _ |>.2 (.inr ⟨l, Finset.mem_univ _, Finset.fold_min_le _ |>.2 (.inr ⟨R, Finset.mem_univ _, (congrArg o e).le⟩)⟩)
  · exact Finset.le_fold_min _ |>.2 ⟨le_top, fun l' _ => Finset.le_fold_min _ |>.2 ⟨le_top, fun R' _ => h _⟩⟩

theorem mxCol_eq (h : Blocks x3 x4 tg q) (t : Fin 50) :
    (mxCol x3 x4 (ix2 t 0) : EReal) = ovS (tg t) (q (bestX tg q t)) := by
  pointwise [mxCol, colMax, laneArr, rowMax]
  simp only [ovRow_eq h, c_bot]
  exact fold_max_places fun p => ovS (tg t) (q p)

/-- The word of a small sum, as an extended real. -/
theorem word_eq (a b n : Nat) (hn : n = a * 128 + b) (h : n < 2 ^ 31) :
    (FloatOps.sitofp (F := Ideal) .f32 (IntOp.addi (IntOp.muli (BitVec.ofNat 32 a) 128#32) (BitVec.ofNat 32 b)) : EReal) = ((n : ℝ) : EReal) := by
  have e : IntOp.addi (IntOp.muli (BitVec.ofNat 32 a) 128#32) (BitVec.ofNat 32 b) = BitVec.ofNat 32 n := by
    subst hn
    show BitVec.ofNat 32 a * BitVec.ofNat 32 128 + BitVec.ofNat 32 b = _
    rw [← BitVec.ofNat_mul, ← BitVec.ofNat_add]
  rw [e]
  show (((BitVec.ofNat 32 n).toInt : ℝ) : EReal) = _
  rw [toInt_ofNat n h]
  norm_cast

theorem bpAt_eq (h : Blocks x3 x4 tg q) (t : Fin 50) :
    (bpAt x3 x4 t (ix2 0 0) : EReal) = (((bestX tg q t).val : ℝ) : EReal) := by
  pointwise [bpAt, entry, bpCol, colMin, laneArr, rowCand, pFull]
  simp only [ovRow_eq h, mxCol_eq h, c_top]
  have hf := first_spec fun p => ovS (tg t) (q p)
  have w : ∀ R l : Fin 128, (FloatOps.sitofp (F := Ideal) .f32 (IntOp.addi (IntOp.muli (BitVec.ofNat 32 R.val) 128#32) (BitVec.ofNat 32 l.val)) : EReal)
      = (((pj R l).val : ℝ) : EReal) := fun R l => word_eq _ _ _ (by show 128 * R.val + l.val = _; omega) (by have := (pj R l).isLt; omega)
  simp only [w]
  refine (fold_min_places (fun p : Fin 16384 => if ovS (tg t) (q p) = ovS (tg t) (q (bestX tg q t)) then ((p.val : ℝ) : EReal)
    else Ideal.ofBits .f32 0x7F61B1E6#32) (bestX tg q t) ?_).trans (if_pos rfl)
  intro p
  simp only [if_true]
  split
  · next hp =>
    have : (bestX tg q t).val ≤ p.val := by
      by_contra hlt
      exact absurd hp (hf.2 p (Fin.lt_def.2 (not_le.1 hlt))).ne
    exact_mod_cast this
  · refine le_trans ?_ c_big
    have := (bestX tg q t).isLt
    exact_mod_cast this.le

/-! ## The matching of a chunk -/

/-- What the matching holds at a place. -/
def accV (a : Acc Ideal) (r : Fin 32) (l : Fin 128) : EReal × (Fin 5 → EReal) :=
  ((a.bto (ix2 r l) : EReal), ![(a.x1 (ix2 r l) : EReal), (a.y1 (ix2 r l) : EReal), (a.x2 (ix2 r l) : EReal),
    (a.y2 (ix2 r l) : EReal), (a.lab (ix2 r l) : EReal)])

/-- The truth's decision at a place. -/
theorem forced_eq (h : Blocks x3 x4 tg q) (c : Fin 4) (t : Fin 50) (r : Fin 32) (l : Fin 128) :
    (if (FloatOps.sitofp (F := Ideal) .f32 (IntOp.addi (IntOp.muli (BitVec.ofNat 32 r.val) 128#32) (BitVec.ofNat 32 l.val)) : EReal)
        = (bpAt x3 x4 t (ix2 0 0) : EReal) - Ideal.ofBits .f32 (baseBits c) then Ideal.ofBits .f32 0x40000000#32
      else (ovAt x3 x4 c t (ix2 r l) : EReal)) = fo tg q (pi c r l) t := by
  rw [bpAt_eq h, ovAt_eq h, word_eq _ _ (128 * r.val + l.val) (by omega) (by omega), c_two, base_eq, ← EReal.coe_sub]
  unfold fo
  have : (((128 * r.val + l.val : ℕ) : ℝ) : EReal) = (((bestX tg q t).val : ℝ) - ((4096 * c.val : ℕ) : ℝ) : ℝ) ↔ pi c r l = bestX tg q t := by
    rw [EReal.coe_eq_coe_iff, eq_sub_iff_add_eq]
    constructor
    · intro e
      have e' : 128 * r.val + l.val + 4096 * c.val = (bestX tg q t).val := by exact_mod_cast e
      apply Fin.ext
      show 4096 * c.val + 128 * r.val + l.val = _
      omega
    · intro e
      have e' : 4096 * c.val + 128 * r.val + l.val = (bestX tg q t).val := congrArg Fin.val e
      rw [← e']
      push_cast
      ring
  by_cases hc : pi c r l = bestX tg q t
  · rw [if_pos hc, if_pos (this.2 hc)]
  · rw [if_neg hc, if_neg fun e => hc (this.1 e)]

theorem accV_step (h : Blocks x3 x4 tg q) (c : Fin 4) (t : Fin 50) (r : Fin 32) (l : Fin 128) (a : Acc Ideal) :
    accV (matchStep (baseBits c) (txAt x4 t) (bpAt x3 x4 t) (ovAt x3 x4 c t) a) r l
      = mstep (fo tg q (pi c r l) t) (tg t) (accV a r l) := by
  have e := forced_eq h c t r l
  have hx1 : ((matchStep (baseBits c) (txAt x4 t) (bpAt x3 x4 t) (ovAt x3 x4 c t) a).x1 (ix2 r l) : EReal)
      = if (a.bto (ix2 r l) : EReal) ≤ fo tg q (pi c r l) t then tg t 0 else (a.x1 (ix2 r l) : EReal) := by
    pointwise [matchStep, iotaJ]
    rw [e, txAt_x1 h]
  have hy1 : ((matchStep (baseBits c) (txAt x4 t) (bpAt x3 x4 t) (ovAt x3 x4 c t) a).y1 (ix2 r l) : EReal)
      = if (a.bto (ix2 r l) : EReal) ≤ fo tg q (pi c r l) t then tg t 1 else (a.y1 (ix2 r l) : EReal) := by
    pointwise [matchStep, iotaJ]
    rw [e, txAt_y1 h]
  have hx2 : ((matchStep (baseBits c) (txAt x4 t) (bpAt x3 x4 t) (ovAt x3 x4 c t) a).x2 (ix2 r l) : EReal)
      = if (a.bto (ix2 r l) : EReal) ≤ fo tg q (pi c r l) t then tg t 2 else (a.x2 (ix2 r l) : EReal) := by
    pointwise [matchStep, iotaJ]
    rw [e, txAt_x2 h]
  have hy2 : ((matchStep (baseBits c) (txAt x4 t) (bpAt x3 x4 t) (ovAt x3 x4 c t) a).y2 (ix2 r l) : EReal)
      = if (a.bto (ix2 r l) : EReal) ≤ fo tg q (pi c r l) t then tg t 3 else (a.y2 (ix2 r l) : EReal) := by
    pointwise [matchStep, iotaJ]
    rw [e, txAt_y2 h]
  have hlab : ((matchStep (baseBits c) (txAt x4 t) (bpAt x3 x4 t) (ovAt x3 x4 c t) a).lab (ix2 r l) : EReal)
      = if (a.bto (ix2 r l) : EReal) ≤ fo tg q (pi c r l) t then tg t 4 else (a.lab (ix2 r l) : EReal) := by
    pointwise [matchStep, iotaJ]
    rw [e, txAt_lab h]
  have hbto : ((matchStep (baseBits c) (txAt x4 t) (bpAt x3 x4 t) (ovAt x3 x4 c t) a).bto (ix2 r l) : EReal)
      = if (a.bto (ix2 r l) : EReal) ≤ fo tg q (pi c r l) t then fo tg q (pi c r l) t else (a.bto (ix2 r l) : EReal) := by
    pointwise [matchStep, iotaJ]
    rw [e]
  unfold accV mstep
  rw [hbto, hx1, hy1, hx2, hy2, hlab]
  split
  · refine Prod.ext rfl (funext fun d => ?_)
    match d with
    | ⟨0, _⟩ => rfl
    | ⟨1, _⟩ => rfl
    | ⟨2, _⟩ => rfl
    | ⟨3, _⟩ => rfl
    | ⟨4, _⟩ => rfl
  · rfl

theorem accN_eq (h : Blocks x3 x4 tg q) (c : Fin 4) (r : Fin 32) (l : Fin 128) : ∀ n, n ≤ 50 →
    accV (accN x3 x4 c n) r l = mrun (fo tg q (pi c r l)) tg (accV (acc0 : Acc Ideal) r l) n
  | 0, _ => rfl
  | n + 1, hn => by
      have hn' : n < 50 := by omega
      rw [accN, dif_pos hn', accV_step h, accN_eq h c r l n (by omega), mrun, dif_pos hn']

theorem accAt_eq (h : Blocks x3 x4 tg q) (h0 : ∀ t p, 0 ≤ ovS (tg t) (q p)) (c : Fin 4) (r : Fin 32) (l : Fin 128) :
    accV (accAt x3 x4 c) r l = (fo tg q (pi c r l) (mt tg q (pi c r l)), tg (mt tg q (pi c r l))) := by
  rw [accAt, accN_eq h c r l 50 le_rfl]
  refine mrun_last (fo tg q (pi c r l)) tg _ fun t => ?_
  have e : (accV (acc0 : Acc Ideal) r l).1 = ((-1 : ℝ) : EReal) := by
    unfold accV
    pointwise [acc0]
    exact c_neg_one
  have hm : ((-1 : ℝ) : EReal) ≤ 0 := by exact_mod_cast (by norm_num : (-1 : ℝ) ≤ 0)
  rw [e]
  unfold fo
  split
  · exact_mod_cast (by norm_num : (-1 : ℝ) ≤ 2)
  · exact hm.trans (h0 _ _)

end Match

end Cert.Body

end
-- ==== Proof.KerVal.lean ====
/-
  The body's pure steps over extended reals, read at an index: the localisation sums and the count are the ones the
  specification names.
-/
module

public import proofs.«01_k».proof.Proof.KerMatch
public import Idealize.ShloMosaic.Lib.Pointwise

@[expose] public section

set_option maxRecDepth 16384

noncomputable section

namespace Cert.Body

open Idealize.ShloMosaic Cert.Spec
open VecWindow (window)

section Match

variable {x1 : FVec Ideal S1x21x128x128 .f32} {x2 : FVec Ideal S1x4x128x128 .f32} {x3 : FVec Ideal S4x128x128 .f32}
  {x4 : FVec Ideal S1x50x5 .f32} {tg : Fin 50 → Fin 5 → EReal} {q : Fin 16384 → Fin 4 → EReal} {lc : Fin 16384 → Fin 4 → EReal}

theorem accV_x1 (a : Acc Ideal) (r : Fin 32) (l : Fin 128) : (a.x1 (ix2 r l) : EReal) = (accV a r l).2 0 := rfl
theorem accV_y1 (a : Acc Ideal) (r : Fin 32) (l : Fin 128) : (a.y1 (ix2 r l) : EReal) = (accV a r l).2 1 := rfl
theorem accV_x2 (a : Acc Ideal) (r : Fin 32) (l : Fin 128) : (a.x2 (ix2 r l) : EReal) = (accV a r l).2 2 := rfl
theorem accV_y2 (a : Acc Ideal) (r : Fin 32) (l : Fin 128) : (a.y2 (ix2 r l) : EReal) = (accV a r l).2 3 := rfl
theorem accV_lab (a : Acc Ideal) (r : Fin 32) (l : Fin 128) : (a.lab (ix2 r l) : EReal) = (accV a r l).2 4 := rfl
theorem accV_bto (a : Acc Ideal) (r : Fin 32) (l : Fin 128) : (a.bto (ix2 r l) : EReal) = (accV a r l).1 := rfl
theorem posOf_at (a : Acc Ideal) (r : Fin 32) (l : Fin 128) :
    posOf a (ix2 r l) = BitVec.ofBool (decide (Ideal.ofBits .f32 0x3F000000#32 ≤ (a.bto (ix2 r l) : EReal))) := rfl

attribute [local irreducible] accN

theorem bto_eq (h : Blocks x3 x4 tg q) (h0 : ∀ t p, 0 ≤ ovS (tg t) (q p)) (c : Fin 4) (r : Fin 32) (l : Fin 128) :
    ((accAt x3 x4 c).bto (ix2 r l) : EReal) = fo tg q (pi c r l) (mt tg q (pi c r l)) := by
  rw [accV_bto, accAt_eq h h0]

theorem acc_x1 (h : Blocks x3 x4 tg q) (h0 : ∀ t p, 0 ≤ ovS (tg t) (q p)) (c : Fin 4) (r : Fin 32) (l : Fin 128) :
    ((accAt x3 x4 c).x1 (ix2 r l) : EReal) = tg (mt tg q (pi c r l)) 0 := by
  rw [accV_x1, accAt_eq h h0]

theorem acc_y1 (h : Blocks x3 x4 tg q) (h0 : ∀ t p, 0 ≤ ovS (tg t) (q p)) (c : Fin 4) (r : Fin 32) (l : Fin 128) :
    ((accAt x3 x4 c).y1 (ix2 r l) : EReal) = tg (mt tg q (pi c r l)) 1 := by
  rw [accV_y1, accAt_eq h h0]

theorem acc_x2 (h : Blocks x3 x4 tg q) (h0 : ∀ t p, 0 ≤ ovS (tg t) (q p)) (c : Fin 4) (r : Fin 32) (l : Fin 128) :
    ((accAt x3 x4 c).x2 (ix2 r l) : EReal) = tg (mt tg q (pi c r l)) 2 := by
  rw [accV_x2, accAt_eq h h0]

theorem acc_y2 (h : Blocks x3 x4 tg q) (h0 : ∀ t p, 0 ≤ ovS (tg t) (q p)) (c : Fin 4) (r : Fin 32) (l : Fin 128) :
    ((accAt x3 x4 c).y2 (ix2 r l) : EReal) = tg (mt tg q (pi c r l)) 3 := by
  rw [accV_y2, accAt_eq h h0]

theorem acc_lab (h : Blocks x3 x4 tg q) (h0 : ∀ t p, 0 ≤ ovS (tg t) (q p)) (c : Fin 4) (r : Fin 32) (l : Fin 128) :
    ((accAt x3 x4 c).lab (ix2 r l) : EReal) = tg (mt tg q (pi c r l)) 4 := by
  rw [accV_lab, accAt_eq h h0]

theorem posAt_eq (h : Blocks x3 x4 tg q) (h0 : ∀ t p, 0 ≤ ovS (tg t) (q p)) (c : Fin 4) (r : Fin 32) (l : Fin 128) :
    posAt x3 x4 c (ix2 r l) = BitVec.ofBool (decide (IsPos tg q (pi c r l))) := by
  rw [posAt, posOf_at, bto_eq h h0, c_half]
  exact congrArg _ (decide_eq_decide.2 Iff.rfl)

/-! ## The localisation loss and the count of a place -/

theorem locAt_eq (hl : ∀ (j : Fin 4) (R l : Fin 128), (x2 (ix4 0 j R l) : EReal) = lc (pj R l) j) (j c : Fin 4) (r : Fin 32) (l : Fin 128) :
    (locAt x2 j c (ix2 r l) : EReal) = lc (pi c r l) j := by
  pointwise [locAt, window]
  rw [← pj_row, ← hl]; exact congrArg x2 (emb4 _ _ _ _ _ _ _ _ _ _ _ _ _ rfl rfl rfl (Nat.zero_add _).symm)

theorem sl1At_eq (h : Blocks x3 x4 tg q) (h0 : ∀ t p, 0 ≤ ovS (tg t) (q p))
    (hl : ∀ (j : Fin 4) (R l : Fin 128), (x2 (ix4 0 j R l) : EReal) = lc (pj R l) j) (c : Fin 4) (r : Fin 32) (l : Fin 128) :
    (sl1At x2 x3 x4 c (ix2 r l) : EReal) = L1 (lc (pi c r l)) (tg (mt tg q (pi c r l))) (q (pi c r l)) := by
  pointwise [sl1At, sl1Sum, sl1Of, gCen, gLog, recip]
  simp only [acc_x1 h h0, acc_y1 h h0, acc_x2 h h0, acc_y2 h h0, priorAt_eq h, locAt_eq hl, c_half, c_ten, c_five]
  rfl

/-- The localisation loss of a place: nothing where it is not matched. -/
def llP (tg : Fin 50 → Fin 5 → EReal) (q : Fin 16384 → Fin 4 → EReal) (lc : Fin 16384 → Fin 4 → EReal) (p : Fin 16384) : EReal :=
  if IsPos tg q p then L1 (lc p) (tg (mt tg q p)) (q p) else 0

def npP (tg : Fin 50 → Fin 5 → EReal) (q : Fin 16384 → Fin 4 → EReal) (p : Fin 16384) : EReal :=
  if IsPos tg q p then 1 else 0

/-- A sum over places, taken chunk by chunk within a row and a lane. -/
theorem sum_places (f : Fin 16384 → EReal) :
    (∑ r : Fin 32, ∑ l : Fin 128, (f (pi 0 r l) + f (pi 1 r l) + f (pi 2 r l) + f (pi 3 r l))) = ∑ p, f p := by
  have e : ∑ p, f p = ∑ c : Fin 4, ∑ r : Fin 32, ∑ l : Fin 128, f (pi c r l) := by
    rw [← (finProdFinEquiv : Fin 128 × Fin 128 ≃ Fin (128 * 128)).sum_comp, Fintype.sum_prod_type]
    rw [← (finProdFinEquiv : Fin 4 × Fin 32 ≃ Fin (4 * 32)).sum_comp, Fintype.sum_prod_type]
    refine Finset.sum_congr rfl fun c _ => Finset.sum_congr rfl fun r _ => Finset.sum_congr rfl fun l _ => congrArg f (Fin.ext ?_)
    show l.val + 128 * (r.val + 32 * c.val) = 4096 * c.val + 128 * r.val + l.val
    ring
  rw [e, Fin.sum_univ_four]
  simp only [Finset.sum_add_distrib]

theorem laneSum32_eq (x : FVec Ideal S32x128 .f32) :
    (laneSum32 x (ix2 0 0) : EReal) = ∑ r : Fin 32, ∑ l : Fin 128, (x (ix2 r l) : EReal) := by
  pointwise [laneSum32, dot32, ones]

theorem step_ll (h : Blocks x3 x4 tg q) (h0 : ∀ t p, 0 ≤ ovS (tg t) (q p))
    (hl : ∀ (j : Fin 4) (R l : Fin 128), (x2 (ix4 0 j R l) : EReal) = lc (pj R l) j) (a : Sums Ideal) (c : Fin 4) (r : Fin 32) (l : Fin 128) :
    ((sumsStep x1 x2 x3 x4 c a).ll (ix2 r l) : EReal) = (a.ll (ix2 r l) : EReal) + llP tg q lc (pi c r l) := by
  show (a.ll (ix2 r l) : EReal) + (if posAt x3 x4 c (ix2 r l) = 1#1 then (sl1At x2 x3 x4 c (ix2 r l) : EReal) else Ideal.ofBits .f32 0x00000000#32) = _
  rw [posAt_eq h h0, sl1At_eq h h0 hl, Ideal.ofBits_zero_f32]
  unfold llP
  by_cases hp : IsPos tg q (pi c r l)
  · rw [if_pos hp, if_pos (by rw [decide_eq_true hp]; rfl)]
  · rw [if_neg hp, if_neg (by rw [decide_eq_false hp]; decide)]

theorem step_np (h : Blocks x3 x4 tg q) (h0 : ∀ t p, 0 ≤ ovS (tg t) (q p)) (a : Sums Ideal) (c : Fin 4) (r : Fin 32) (l : Fin 128) :
    ((sumsStep x1 x2 x3 x4 c a).np (ix2 r l) : EReal) = (a.np (ix2 r l) : EReal) + npP tg q (pi c r l) := by
  show (a.np (ix2 r l) : EReal) + (if posAt x3 x4 c (ix2 r l) = 1#1 then Ideal.ofBits .f32 0x3F800000#32 else Ideal.ofBits .f32 0x00000000#32) = _
  rw [posAt_eq h h0, Ideal.ofBits_zero_f32, c_one, EReal.coe_one]
  unfold npP
  by_cases hp : IsPos tg q (pi c r l)
  · rw [if_pos hp, if_pos (by rw [decide_eq_true hp]; rfl)]
  · rw [if_neg hp, if_neg (by rw [decide_eq_false hp]; decide)]

theorem ll_eq (h : Blocks x3 x4 tg q) (h0 : ∀ t p, 0 ≤ ovS (tg t) (q p))
    (hl : ∀ (j : Fin 4) (R l : Fin 128), (x2 (ix4 0 j R l) : EReal) = lc (pj R l) j) :
    (laneSum32 (sumsAt x1 x2 x3 x4).ll (ix2 0 0) : EReal) = ∑ p, llP tg q lc p := by
  rw [← sum_places, laneSum32_eq]
  refine Finset.sum_congr rfl fun r _ => Finset.sum_congr rfl fun l _ => ?_
  rw [sumsAt, step_ll h h0 hl, step_ll h h0 hl, step_ll h h0 hl, step_ll h h0 hl]
  rw [show ((sums0 : Sums Ideal).ll (ix2 r l) : EReal) = 0 from Ideal.ofBits_zero_f32, zero_add]

theorem np_eq (h : Blocks x3 x4 tg q) (h0 : ∀ t p, 0 ≤ ovS (tg t) (q p)) :
    (laneSum32 (sumsAt x1 x2 x3 x4).np (ix2 0 0) : EReal) = ∑ p, npP tg q p := by
  rw [← sum_places, laneSum32_eq]
  refine Finset.sum_congr rfl fun r _ => Finset.sum_congr rfl fun l _ => ?_
  rw [sumsAt, step_np h h0, step_np h h0, step_np h h0, step_np h h0]
  rw [show ((sums0 : Sums Ideal).np (ix2 r l) : EReal) = 0 from Ideal.ofBits_zero_f32, zero_add]

theorem outVec_eq (x : FVec Ideal S1x1 .f32) (i : Fin 8) (l : Fin 128) : outVec x (ix3 0 i l) = x (ix2 0 0) := by
  pointwise [outVec]

theorem out5_eq (h : Blocks x3 x4 tg q) (h0 : ∀ t p, 0 ≤ ovS (tg t) (q p))
    (hl : ∀ (j : Fin 4) (R l : Fin 128), (x2 (ix4 0 j R l) : EReal) = lc (pj R l) j) (i : Fin 8) (l : Fin 128) :
    (out5 x1 x2 x3 x4 (ix3 0 i l) : EReal) = ∑ p, llP tg q lc p := by
  rw [← ll_eq (x1 := x1) h h0 hl]
  exact outVec_eq _ i l

theorem out7_eq (h : Blocks x3 x4 tg q) (h0 : ∀ t p, 0 ≤ ovS (tg t) (q p)) (i : Fin 8) (l : Fin 128) :
    (out7 x1 x2 x3 x4 (ix3 0 i l) : EReal) = ∑ p, npP tg q p := by
  rw [← np_eq (x1 := x1) (x2 := x2) h h0]
  exact outVec_eq _ i l

end Match

end Cert.Body

end
-- ==== Proof.Host.lean ====
/-
  The host operations around the two pipelines, over extended reals: what each pipeline is given, and what the results
  are made of.
-/
module

public import proofs.«01_k».proof.Proof.KernelIdealFrame
public import proofs.«01_k».proof.Proof.KerVal
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KernelIdeal.Own

open Idealize.ShloMosaic Idealize.ShloMosaic.TcCoe Idealize.ShloMosaic.Tactic
open Idealize.ShloMosaic.Pipeline (Dat Cfg Window)
open Cert.KernelIdeal Cert.KernelIdeal.Gen Cert.Spec Cert.Body

/-- The predictions, padded as the kernel pads them. -/
def extL (lc : Fin 16320 → Fin 4 → EReal) (p : Fin 16384) (j : Fin 4) : EReal :=
  if h : p.val < 16320 then lc ⟨p.val, h⟩ j else FloatOps.sitofp (F := Ideal) .f32 (0#32)

section Lines
variable (V : Valuation τ sig (Elt Ideal))

/-- The first result from the two pipelines' arrays. -/
theorem res0 (a b c d : Fin 16 → EReal) (ha : ∀ x, V (Proc.devRef .tc main_call0_v15_0) (ix3 x 0 0) = a x)
    (hb : ∀ x, V (Proc.devRef .tc main_call0_v25_0) (ix3 x 0 0) = b x)
    (hc : ∀ x, V (Proc.devRef .tc main_call0_v15_2) (ix3 x 0 0) = c x)
    (hd : ∀ x, V (Proc.devRef .tc main_call0_v25_2) (ix3 x 0 0) = d x) :
    StableHlo.after hostOps2 V (Proc.devRef .tc main_v0_0) ix0 =
      Ideal.div ((∑ x : Fin 16, a x) + ∑ x : Fin 16, b x) (max ((∑ x : Fin 16, c x) + ∑ x : Fin 16, d x) 1) := by
  after_reads_at
  simp only [ha, hb, hc, hd]

/-- The padded priors. -/
theorem pri (j : Fin 4) (R l : Fin 128) : (StableHlo.after hostOps0 V (Proc.devRef .tc main_call0_v5) (ix3 j R l) : EReal) =
    ext (fun p c => V (Proc.devRef .tc main_arg4) (ix2 p c)) (pj R l) j := by
  after_reads_at
  have e : 128 * R.val + l.val = R.val * 128 + l.val := by omega
  by_cases hp : R.val * 128 + l.val < 16320
  · rw [dif_pos hp]
    after_reads_at
    unfold ext pj
    rw [dif_pos (by show 128 * R.val + l.val < 16320; omega)]
    simp only [e]
  · rw [dif_neg hp]
    after_reads_at
    unfold ext pj
    rw [dif_neg (by show ¬ 128 * R.val + l.val < 16320; omega)]
    fin_cases j
    · exact (congrArg (Ideal.ofBits .f32) (by decide : lit0 (S4x1.rowMajor (ix2 0 0)) = 0xC2C80000#32)).trans c_neg_hundred
    · exact (congrArg (Ideal.ofBits .f32) (by decide : lit0 (S4x1.rowMajor (ix2 1 0)) = 0xC2C80000#32)).trans c_neg_hundred
    · exact (congrArg (Ideal.ofBits .f32) (by decide : lit0 (S4x1.rowMajor (ix2 2 0)) = 0x3F800000#32)).trans c_one
    · exact (congrArg (Ideal.ofBits .f32) (by decide : lit0 (S4x1.rowMajor (ix2 3 0)) = 0x3F800000#32)).trans c_one

/-- The localisation predictions that half 0 is given. -/
theorem loc0 (t : Fin 16) (j : Fin 4) (R l : Fin 128) :
    (StableHlo.after hostOps0 V (Proc.devRef .tc main_call0_v14) (ix4 t j R l) : EReal) =
      extL (fun p c => V (Proc.devRef .tc main_arg0) (ix3 ⟨t.val, by omega⟩ p c)) (pj R l) j := by
  after_reads_at
  have e : 128 * R.val + l.val = R.val * 128 + l.val := by omega
  unfold extL pj
  by_cases hp : R.val * 128 + l.val < 16320
  · rw [dif_pos hp, dif_pos (by show 128 * R.val + l.val < 16320; omega)]
    simp only [e]
  · rw [dif_neg hp, dif_neg (by show ¬ 128 * R.val + l.val < 16320; omega)]

/-- The truths that half 0 is given. -/
theorem tgt0 (t : Fin 16) (j : Fin 50) (c : Fin 5) :
    (StableHlo.after hostOps0 V (Proc.devRef .tc main_call0_v8) (ix3 t j c) : EReal) =
      V (Proc.devRef .tc main_arg5) (ix3 ⟨t.val, by omega⟩ j c) := by
  after_reads_at

/-- The localisation predictions that half 1 is given. -/
theorem loc1 (t : Fin 16) (j : Fin 4) (R l : Fin 128) :
    (StableHlo.after hostOps1 V (Proc.devRef .tc main_call0_v24) (ix4 t j R l) : EReal) =
      extL (fun p c => V (Proc.devRef .tc main_arg0) (ix3 ⟨16 + t.val, by omega⟩ p c)) (pj R l) j := by
  after_reads_at
  have e : 128 * R.val + l.val = R.val * 128 + l.val := by omega
  unfold extL pj
  by_cases hp : R.val * 128 + l.val < 16320
  · rw [dif_pos hp, dif_pos (by show 128 * R.val + l.val < 16320; omega)]
    simp only [e]
  · rw [dif_neg hp, dif_neg (by show ¬ 128 * R.val + l.val < 16320; omega)]

/-- The truths that half 1 is given. -/
theorem tgt1 (t : Fin 16) (j : Fin 50) (c : Fin 5) :
    (StableHlo.after hostOps1 V (Proc.devRef .tc main_call0_v18) (ix3 t j c) : EReal) =
      V (Proc.devRef .tc main_arg5) (ix3 ⟨16 + t.val, by omega⟩ j c) := by
  after_reads_at

end Lines

variable (V : (c : Dev nD) → (b : Ref sig .tc) → Buf (Elt Ideal) ((c : Thread nD τ).loc b))

theorem idx0_1 : ∀ t : Fin cfg0.N, win0_1.index t = ![t.val, 0, 0, 0] := by decide +kernel
theorem idx0_2 : ∀ t : Fin cfg0.N, win0_2.index t = ![0, 0, 0] := by decide +kernel
theorem idx0_3 : ∀ t : Fin cfg0.N, win0_3.index t = ![t.val, 0, 0] := by decide +kernel
theorem idx0_4 : ∀ t : Fin cfg0.N, win0_4.index t = ![t.val, 0, 0] := by decide +kernel
theorem idx0_6 : ∀ t : Fin cfg0.N, win0_6.index t = ![t.val, 0, 0] := by decide +kernel

/-- What half 0 leaves in the array of window 4: image `t`'s block. -/
theorem arr0_4 (c : Dev nD) : (dat0 V c).arrAt 4 cfg0.N =
    fun i => (outsAt0 V c ⟨(i 0).val, (i 0).isLt⟩).1 (ix3 0 ⟨(i 1).val, (i 1).isLt⟩ ⟨(i 2).val, (i 2).isLt⟩) := by
  refine (dat0 V c).arrAt_eq_of_covers 4 _ (by decide +kernel) fun t hf y => ?_
  rw [after0_4]
  generalize (outsAt0 V c) = f
  have key : ∀ (u : Fin cfg0.N) (z : Shape.Idx S1x8x128), u = t → z = y → (f t).1 y = (f u).1 z := by
    rintro _ _ rfl rfl; rfl
  blk_simp [idx0_4 t]
  apply key
  · apply Fin.ext
    have h0 : (y 0).val < 1 := (y 0).isLt
    blk_simp [idx0_4 t]
    try omega
  · have h0 : (y 0).val < 1 := (y 0).isLt
    refine funext fun a => Fin.ext ?_
    match a with
    | ⟨0, _⟩ => exact (show (0 : ℕ) = (y 0).val by omega)
    | ⟨1, _⟩ => rfl
    | ⟨2, _⟩ => rfl

/-- What half 0 leaves in the array of window 6: image `t`'s block. -/
theorem arr0_6 (c : Dev nD) : (dat0 V c).arrAt 6 cfg0.N =
    fun i => (outsAt0 V c ⟨(i 0).val, (i 0).isLt⟩).2.2 (ix3 0 ⟨(i 1).val, (i 1).isLt⟩ ⟨(i 2).val, (i 2).isLt⟩) := by
  refine (dat0 V c).arrAt_eq_of_covers 6 _ (by decide +kernel) fun t hf y => ?_
  rw [after0_6]
  generalize (outsAt0 V c) = f
  have key : ∀ (u : Fin cfg0.N) (z : Shape.Idx S1x8x128), u = t → z = y → (f t).2.2 y = (f u).2.2 z := by
    rintro _ _ rfl rfl; rfl
  blk_simp [idx0_6 t]
  apply key
  · apply Fin.ext
    have h0 : (y 0).val < 1 := (y 0).isLt
    blk_simp [idx0_6 t]
    try omega
  · have h0 : (y 0).val < 1 := (y 0).isLt
    refine funext fun a => Fin.ext ?_
    match a with
    | ⟨0, _⟩ => exact (show (0 : ℕ) = (y 0).val by omega)
    | ⟨1, _⟩ => rfl
    | ⟨2, _⟩ => rfl

theorem blkp0 (c : Dev nD) (t : Fin cfg0.N) (j : Fin 4) (R l : Fin 128) :
    iblk0 V c 2 t (ix3 j R l) = V c main_call0_v5 (ix3 j R l) := by
  blk_ext [iblk0, idx0_2 t]
theorem blkt0 (c : Dev nD) (t : Fin cfg0.N) (j : Fin 50) (k : Fin 5) :
    iblk0 V c 3 t (ix3 0 j k) = V c main_call0_v8 (ix3 ⟨t.val, t.isLt⟩ j k) := by
  blk_ext [iblk0, idx0_3 t]
theorem blkl0 (c : Dev nD) (t : Fin cfg0.N) (j : Fin 4) (R l : Fin 128) :
    iblk0 V c 1 t (ix4 0 j R l) = V c main_call0_v14 (ix4 ⟨t.val, t.isLt⟩ j R l) := by
  blk_ext [iblk0, idx0_1 t]

theorem idx1_1 : ∀ t : Fin cfg1.N, win1_1.index t = ![t.val, 0, 0, 0] := by decide +kernel
theorem idx1_2 : ∀ t : Fin cfg1.N, win1_2.index t = ![0, 0, 0] := by decide +kernel
theorem idx1_3 : ∀ t : Fin cfg1.N, win1_3.index t = ![t.val, 0, 0] := by decide +kernel
theorem idx1_4 : ∀ t : Fin cfg1.N, win1_4.index t = ![t.val, 0, 0] := by decide +kernel
theorem idx1_6 : ∀ t : Fin cfg1.N, win1_6.index t = ![t.val, 0, 0] := by decide +kernel

/-- What half 1 leaves in the array of window 4: image `t`'s block. -/
theorem arr1_4 (c : Dev nD) : (dat1 V c).arrAt 4 cfg1.N =
    fun i => (outsAt1 V c ⟨(i 0).val, (i 0).isLt⟩).1 (ix3 0 ⟨(i 1).val, (i 1).isLt⟩ ⟨(i 2).val, (i 2).isLt⟩) := by
  refine (dat1 V c).arrAt_eq_of_covers 4 _ (by decide +kernel) fun t hf y => ?_
  rw [after1_4]
  generalize (outsAt1 V c) = f
  have key : ∀ (u : Fin cfg1.N) (z : Shape.Idx S1x8x128), u = t → z = y → (f t).1 y = (f u).1 z := by
    rintro _ _ rfl rfl; rfl
  blk_simp [idx1_4 t]
  apply key
  · apply Fin.ext
    have h0 : (y 0).val < 1 := (y 0).isLt
    blk_simp [idx1_4 t]
    try omega
  · have h0 : (y 0).val < 1 := (y 0).isLt
    refine funext fun a => Fin.ext ?_
    match a with
    | ⟨0, _⟩ => exact (show (0 : ℕ) = (y 0).val by omega)
    | ⟨1, _⟩ => rfl
    | ⟨2, _⟩ => rfl

/-- What half 1 leaves in the array of window 6: image `t`'s block. -/
theorem arr1_6 (c : Dev nD) : (dat1 V c).arrAt 6 cfg1.N =
    fun i => (outsAt1 V c ⟨(i 0).val, (i 0).isLt⟩).2.2 (ix3 0 ⟨(i 1).val, (i 1).isLt⟩ ⟨(i 2).val, (i 2).isLt⟩) := by
  refine (dat1 V c).arrAt_eq_of_covers 6 _ (by decide +kernel) fun t hf y => ?_
  rw [after1_6]
  generalize (outsAt1 V c) = f
  have key : ∀ (u : Fin cfg1.N) (z : Shape.Idx S1x8x128), u = t → z = y → (f t).2.2 y = (f u).2.2 z := by
    rintro _ _ rfl rfl; rfl
  blk_simp [idx1_6 t]
  apply key
  · apply Fin.ext
    have h0 : (y 0).val < 1 := (y 0).isLt
    blk_simp [idx1_6 t]
    try omega
  · have h0 : (y 0).val < 1 := (y 0).isLt
    refine funext fun a => Fin.ext ?_
    match a with
    | ⟨0, _⟩ => exact (show (0 : ℕ) = (y 0).val by omega)
    | ⟨1, _⟩ => rfl
    | ⟨2, _⟩ => rfl

theorem blkp1 (c : Dev nD) (t : Fin cfg1.N) (j : Fin 4) (R l : Fin 128) :
    iblk1 V c 2 t (ix3 j R l) = V c main_call0_v5 (ix3 j R l) := by
  blk_ext [iblk1, idx1_2 t]
theorem blkt1 (c : Dev nD) (t : Fin cfg1.N) (j : Fin 50) (k : Fin 5) :
    iblk1 V c 3 t (ix3 0 j k) = V c main_call0_v18 (ix3 ⟨t.val, t.isLt⟩ j k) := by
  blk_ext [iblk1, idx1_3 t]
theorem blkl1 (c : Dev nD) (t : Fin cfg1.N) (j : Fin 4) (R l : Fin 128) :
    iblk1 V c 1 t (ix4 0 j R l) = V c main_call0_v24 (ix4 ⟨t.val, t.isLt⟩ j R l) := by
  blk_ext [iblk1, idx1_1 t]

end Cert.KernelIdeal.Own

end
-- ==== Proof.Value.lean ====
/-
  The first result of the kernel over extended reals: the localisation losses of the matched priors over all images,
  over the number of matched priors.
-/
module

public import proofs.«01_k».proof.Proof.Host

@[expose] public section

set_option maxRecDepth 16384

noncomputable section

namespace Cert.KernelIdeal.Own

open Idealize.ShloMosaic Idealize.ShloMosaic.TcCoe Idealize.ShloMosaic.Tactic
open Cert.KernelIdeal Cert.KernelIdeal.Gen Cert.Spec Cert.Body

section Sums

/-- A sum over the padded places whose padding adds nothing. -/
theorem sum_up (f : Fin 16384 → EReal) (h : ∀ p : Fin 16384, ¬ p.val < 16320 → f p = 0) :
    ∑ p : Fin 16384, f p = ∑ p : Fin 16320, f (up p) := by
  have e := Fin.sum_univ_add (a := 16320) (b := 64) (f := f)
  refine (show ∑ p : Fin 16384, f p = ∑ p : Fin (16320 + 64), f p from rfl).trans (e.trans ?_)
  rw [Finset.sum_eq_zero (s := Finset.univ) (f := fun i : Fin 64 => f (Fin.natAdd 16320 i)), add_zero]
  · exact Finset.sum_congr rfl fun p _ => congrArg f (Fin.ext rfl)
  · intro i _
    exact h _ (by rw [Fin.val_natAdd]; omega)

/-- Two halves make the whole. -/
theorem sum_halves (f : Fin 32 → EReal) :
    (∑ t : Fin 16, f ⟨t.val, by omega⟩) + (∑ t : Fin 16, f ⟨16 + t.val, by omega⟩) = ∑ b, f b :=
  (Fin.sum_univ_add (a := 16) (b := 16) (f := f)).symm

end Sums

variable (m : (ℓ : Loc nD τ sig) → Buf (Elt Ideal) ℓ) (ρ : Dev nD → PrngReg)

/-- An image's truths. -/
def tgK (c : Dev nD) (b : Fin 32) : Fin 50 → Fin 5 → EReal := fun t k => m ((c : Thread nD τ).loc main_arg5) (ix3 b t k)
/-- The priors. -/
def prK (c : Dev nD) : Fin 16320 → Fin 4 → EReal := fun p k => m ((c : Thread nD τ).loc main_arg4) (ix2 p k)
/-- An image's localisation predictions. -/
def lcK (c : Dev nD) (b : Fin 32) : Fin 16320 → Fin 4 → EReal := fun p k => m ((c : Thread nD τ).loc main_arg0) (ix3 b p k)

/-- The localisation loss of one prior. -/
def llK (c : Dev nD) (b : Fin 32) (p : Fin 16320) : EReal :=
  if IsPos (tgK m c b) (ext (prK m c)) (up p) then
    L1 (lcK m c b p) (tgK m c b (mt (tgK m c b) (ext (prK m c)) (up p))) (prK m c p) else 0

def npK (c : Dev nD) (b : Fin 32) (p : Fin 16320) : EReal := if IsPos (tgK m c b) (ext (prK m c)) (up p) then 1 else 0

theorem blocks0 (c : Dev nD) (t : Fin 16) :
    Blocks (iblk0 (V1 m ρ) c 2 t) (iblk0 (V1 m ρ) c 3 t) (tgK m c ⟨t.val, by omega⟩) (ext (prK m c)) where
  p j R l := (blkp0 (V1 m ρ) c t j R l).trans (pri (W0 m ρ c) j R l)
  t j k := (blkt0 (V1 m ρ) c t j k).trans (tgt0 (W0 m ρ c) _ j k)

theorem locs0 (c : Dev nD) (t : Fin 16) (j : Fin 4) (R l : Fin 128) :
    (iblk0 (V1 m ρ) c 1 t (ix4 0 j R l) : EReal) = extL (lcK m c ⟨t.val, by omega⟩) (pj R l) j :=
  (blkl0 (V1 m ρ) c t j R l).trans (loc0 (W0 m ρ c) _ j R l)

theorem v5_kept (c : Dev nD) : V3 m ρ c main_call0_v5 = W1 m ρ c main_call0_v5 :=
  (W3_of m ρ c main_call0_v5 (by decide)).trans (W2_of m ρ c main_call0_v5 (by decide))

theorem blocks1 (c : Dev nD) (t : Fin 16) :
    Blocks (iblk1 (V3 m ρ) c 2 t) (iblk1 (V3 m ρ) c 3 t) (tgK m c ⟨16 + t.val, by omega⟩) (ext (prK m c)) where
  p j R l := (blkp1 (V3 m ρ) c t j R l).trans ((congrFun (v5_kept m ρ c) _).trans (pri (W0 m ρ c) j R l))
  t j k := (blkt1 (V3 m ρ) c t j k).trans ((tgt1 (W2 m ρ c) _ j k).trans
    (congrFun (W2_args m ρ c main_arg5 (by decide)) _))

theorem locs1 (c : Dev nD) (t : Fin 16) (j : Fin 4) (R l : Fin 128) :
    (iblk1 (V3 m ρ) c 1 t (ix4 0 j R l) : EReal) = extL (lcK m c ⟨16 + t.val, by omega⟩) (pj R l) j := by
  refine (blkl1 (V3 m ρ) c t j R l).trans ((loc1 (W2 m ρ c) _ j R l).trans ?_)
  have e : W2 m ρ c (Proc.devRef .tc main_arg0) = m ((c : Thread nD τ).loc main_arg0) := W2_args m ρ c main_arg0 (by decide)
  rw [e]
  rfl

variable {m} {c : Dev nD} (hg : ∀ b, Good (tgK m c b) (prK m c))
include hg

theorem image_ll (b : Fin 32) :
    ∑ p : Fin 16384, llP (tgK m c b) (ext (prK m c)) (extL (lcK m c b)) p = ∑ p, llK m c b p := by
  refine (sum_up _ fun p hp => if_neg (not_pos_pad (hg b) p hp)).trans (Finset.sum_congr rfl fun p _ => ?_)
  unfold llK
  have e : extL (lcK m c b) (up p) = lcK m c b p := by
    funext j
    exact dif_pos p.isLt
  rw [e, ext_up]

theorem image_np (b : Fin 32) :
    ∑ p : Fin 16384, npP (tgK m c b) (ext (prK m c)) p = ∑ p, npK m c b p :=
  sum_up _ fun p hp => if_neg (not_pos_pad (hg b) p hp)

theorem over (b : Fin 32) (t : Fin 50) (p : Fin 16384) : 0 ≤ ovS (tgK m c b t) (ext (prK m c) p) :=
  ovS_nonneg ((hg b).t t) ((hg b).ext p)

theorem ll0 (t : Fin 16) : (W4 m ρ c (Proc.devRef .tc main_call0_v15_0) (ix3 t 0 0) : EReal) = ∑ p, llK m c ⟨t.val, by omega⟩ p := by
  have e : W4 m ρ c (Proc.devRef .tc main_call0_v15_0) = (dat0 (V1 m ρ) c).arrAt 4 cfg0.N :=
    (W4_of m ρ c main_call0_v15_0 (by decide)).trans ((W3_of m ρ c main_call0_v15_0 (by decide)).trans (W2_arr m ρ c 4))
  rw [e, arr0_4, ← image_ll hg]
  exact out5_eq (blocks0 m ρ c t) (over hg _) (locs0 m ρ c t) 0 0

theorem np0 (t : Fin 16) : (W4 m ρ c (Proc.devRef .tc main_call0_v15_2) (ix3 t 0 0) : EReal) = ∑ p, npK m c ⟨t.val, by omega⟩ p := by
  have e : W4 m ρ c (Proc.devRef .tc main_call0_v15_2) = (dat0 (V1 m ρ) c).arrAt 6 cfg0.N :=
    (W4_of m ρ c main_call0_v15_2 (by decide)).trans ((W3_of m ρ c main_call0_v15_2 (by decide)).trans (W2_arr m ρ c 6))
  rw [e, arr0_6, ← image_np hg]
  exact out7_eq (blocks0 m ρ c t) (over hg _) 0 0

theorem ll1 (t : Fin 16) : (W4 m ρ c (Proc.devRef .tc main_call0_v25_0) (ix3 t 0 0) : EReal) = ∑ p, llK m c ⟨16 + t.val, by omega⟩ p := by
  have e : W4 m ρ c (Proc.devRef .tc main_call0_v25_0) = (dat1 (V3 m ρ) c).arrAt 4 cfg1.N := W4_arr m ρ c 4
  rw [e, arr1_4, ← image_ll hg]
  exact out5_eq (blocks1 m ρ c t) (over hg _) (locs1 m ρ c t) 0 0

theorem np1 (t : Fin 16) : (W4 m ρ c (Proc.devRef .tc main_call0_v25_2) (ix3 t 0 0) : EReal) = ∑ p, npK m c ⟨16 + t.val, by omega⟩ p := by
  have e : W4 m ρ c (Proc.devRef .tc main_call0_v25_2) = (dat1 (V3 m ρ) c).arrAt 6 cfg1.N := W4_arr m ρ c 6
  rw [e, arr1_6, ← image_np hg]
  exact out7_eq (blocks1 m ρ c t) (over hg _) 0 0

/-- The first result. -/
theorem value0 : (W5 m ρ c (Proc.devRef .tc main_v0_0) ix0 : EReal) =
    Ideal.div (∑ b, ∑ p, llK m c b p) (max (∑ b, ∑ p, npK m c b p) 1) := by
  refine (res0 (W4 m ρ c) _ _ _ _ (ll0 ρ hg) (ll1 ρ hg) (np0 ρ hg) (np1 ρ hg)).trans ?_
  rw [sum_halves fun b => ∑ p, llK m c b p, sum_halves fun b => ∑ p, npK m c b p]

end Cert.KernelIdeal.Own

end
-- ==== Proof.HostCls.lean ====
/-
  The host operations around the two pipelines as far as the classes are concerned: what each pipeline is given of the
  confidences, and what the second result is made of.
-/
module

public import proofs.«01_k».proof.Proof.Host
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KernelIdeal.Own

open Idealize.ShloMosaic Idealize.ShloMosaic.TcCoe Idealize.ShloMosaic.Tactic
open Idealize.ShloMosaic.Pipeline (Dat Cfg Window)
open Cert.KernelIdeal Cert.KernelIdeal.Gen Cert.Spec Cert.Body

/-- The confidences, padded as the kernel pads them. -/
def extC (cf : Fin 16320 → Fin 21 → EReal) (p : Fin 16384) (j : Fin 21) : EReal :=
  if h : p.val < 16320 then cf ⟨p.val, h⟩ j else FloatOps.sitofp (F := Ideal) .f32 (0#32)

section Lines
variable (V : Valuation τ sig (Elt Ideal))

/-- The second result from the two pipelines' arrays. -/
theorem res1 (a b c d : Fin 16 → EReal) (ha : ∀ x, V (Proc.devRef .tc main_call0_v15_1) (ix3 x 0 0) = a x)
    (hb : ∀ x, V (Proc.devRef .tc main_call0_v25_1) (ix3 x 0 0) = b x)
    (hc : ∀ x, V (Proc.devRef .tc main_call0_v15_2) (ix3 x 0 0) = c x)
    (hd : ∀ x, V (Proc.devRef .tc main_call0_v25_2) (ix3 x 0 0) = d x) :
    StableHlo.after hostOps2 V (Proc.devRef .tc main_v0_1) ix0 =
      Ideal.div ((∑ x : Fin 16, a x) + ∑ x : Fin 16, b x) (max ((∑ x : Fin 16, c x) + ∑ x : Fin 16, d x) 1) := by
  after_reads_at
  simp only [ha, hb, hc, hd]

/-- The confidences that half 0 is given. -/
theorem conf0 (t : Fin 16) (j : Fin 21) (R l : Fin 128) :
    (StableHlo.after hostOps0 V (Proc.devRef .tc main_call0_v11) (ix4 t j R l) : EReal) =
      extC (fun p c => V (Proc.devRef .tc main_arg1) (ix3 ⟨t.val, by omega⟩ p c)) (pj R l) j := by
  after_reads_at
  have e : 128 * R.val + l.val = R.val * 128 + l.val := by omega
  unfold extC pj
  by_cases hp : R.val * 128 + l.val < 16320
  · rw [dif_pos hp, dif_pos (by show 128 * R.val + l.val < 16320; omega)]
    simp only [e]
  · rw [dif_neg hp, dif_neg (by show ¬ 128 * R.val + l.val < 16320; omega)]

/-- The confidences that half 1 is given. -/
theorem conf1 (t : Fin 16) (j : Fin 21) (R l : Fin 128) :
    (StableHlo.after hostOps1 V (Proc.devRef .tc main_call0_v21) (ix4 t j R l) : EReal) =
      extC (fun p c => V (Proc.devRef .tc main_arg1) (ix3 ⟨16 + t.val, by omega⟩ p c)) (pj R l) j := by
  after_reads_at
  have e : 128 * R.val + l.val = R.val * 128 + l.val := by omega
  unfold extC pj
  by_cases hp : R.val * 128 + l.val < 16320
  · rw [dif_pos hp, dif_pos (by show 128 * R.val + l.val < 16320; omega)]
    simp only [e]
  · rw [dif_neg hp, dif_neg (by show ¬ 128 * R.val + l.val < 16320; omega)]

end Lines

variable (V : (c : Dev nD) → (b : Ref sig .tc) → Buf (Elt Ideal) ((c : Thread nD τ).loc b))

theorem idx0_0 : ∀ t : Fin cfg0.N, win0_0.index t = ![t.val, 0, 0, 0] := by decide +kernel
theorem idx0_5 : ∀ t : Fin cfg0.N, win0_5.index t = ![t.val, 0, 0] := by decide +kernel

/-- What half 0 leaves in the array of window 5: image `t`'s block. -/
theorem arr0_5 (c : Dev nD) : (dat0 V c).arrAt 5 cfg0.N =
    fun i => (outsAt0 V c ⟨(i 0).val, (i 0).isLt⟩).2.1 (ix3 0 ⟨(i 1).val, (i 1).isLt⟩ ⟨(i 2).val, (i 2).isLt⟩) := by
  refine (dat0 V c).arrAt_eq_of_covers 5 _ (by decide +kernel) fun t hf y => ?_
  rw [after0_5]
  generalize (outsAt0 V c) = f
  have key : ∀ (u : Fin cfg0.N) (z : Shape.Idx S1x8x128), u = t → z = y → (f t).2.1 y = (f u).2.1 z := by
    rintro _ _ rfl rfl; rfl
  blk_simp [idx0_5 t]
  apply key
  · apply Fin.ext
    have h0 : (y 0).val < 1 := (y 0).isLt
    blk_simp [idx0_5 t]
    try omega
  · have h0 : (y 0).val < 1 := (y 0).isLt
    refine funext fun a => Fin.ext ?_
    match a with
    | ⟨0, _⟩ => exact (show (0 : ℕ) = (y 0).val by omega)
    | ⟨1, _⟩ => rfl
    | ⟨2, _⟩ => rfl

theorem blkc0 (c : Dev nD) (t : Fin cfg0.N) (j : Fin 21) (R l : Fin 128) :
    iblk0 V c 0 t (ix4 0 j R l) = V c main_call0_v11 (ix4 ⟨t.val, t.isLt⟩ j R l) := by
  blk_ext [iblk0, idx0_0 t]

theorem idx1_0 : ∀ t : Fin cfg1.N, win1_0.index t = ![t.val, 0, 0, 0] := by decide +kernel
theorem idx1_5 : ∀ t : Fin cfg1.N, win1_5.index t = ![t.val, 0, 0] := by decide +kernel

/-- What half 1 leaves in the array of window 5: image `t`'s block. -/
theorem arr1_5 (c : Dev nD) : (dat1 V c).arrAt 5 cfg1.N =
    fun i => (outsAt1 V c ⟨(i 0).val, (i 0).isLt⟩).2.1 (ix3 0 ⟨(i 1).val, (i 1).isLt⟩ ⟨(i 2).val, (i 2).isLt⟩) := by
  refine (dat1 V c).arrAt_eq_of_covers 5 _ (by decide +kernel) fun t hf y => ?_
  rw [after1_5]
  generalize (outsAt1 V c) = f
  have key : ∀ (u : Fin cfg1.N) (z : Shape.Idx S1x8x128), u = t → z = y → (f t).2.1 y = (f u).2.1 z := by
    rintro _ _ rfl rfl; rfl
  blk_simp [idx1_5 t]
  apply key
  · apply Fin.ext
    have h0 : (y 0).val < 1 := (y 0).isLt
    blk_simp [idx1_5 t]
    try omega
  · have h0 : (y 0).val < 1 := (y 0).isLt
    refine funext fun a => Fin.ext ?_
    match a with
    | ⟨0, _⟩ => exact (show (0 : ℕ) = (y 0).val by omega)
    | ⟨1, _⟩ => rfl
    | ⟨2, _⟩ => rfl

theorem blkc1 (c : Dev nD) (t : Fin cfg1.N) (j : Fin 21) (R l : Fin 128) :
    iblk1 V c 0 t (ix4 0 j R l) = V c main_call0_v21 (ix4 ⟨t.val, t.isLt⟩ j R l) := by
  blk_ext [iblk1, idx1_0 t]

end Cert.KernelIdeal.Own

end
-- ==== Proof.Mine.lean ====
/-
  The search of the hard negatives over extended reals: a threshold within a 65536th of the greatest loss below the
  least loss mined, and so the sum of the losses mined wherever the next loss lies that far below.
-/
module

public import proofs.«01_k».proof.Proof.KerVal
public import Idealize.ShloMosaic.Lib.Pointwise

@[expose] public section

set_option maxRecDepth 16384

noncomputable section

namespace Cert.Body

open Idealize.ShloMosaic Cert.Spec

/-! ## Over the reals -/

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The losses mined: those of `S`, the least of them by a 65536th of the greatest loss above any other. -/
structure Mined {ι : Type} (L : ι → ℝ) (S : Finset ι) (M : ℝ) (p0 : ι) : Prop where
  nn : ∀ p, 0 ≤ L p
  le : ∀ p, L p ≤ M
  mem : p0 ∈ S
  least : ∀ p ∈ S, L p0 ≤ L p
  apart : ∀ q, q ∉ S → L q + M / 65536 ≤ L p0

section Real
variable {ι : Type} [Fintype ι] {L : ι → ℝ} {S : Finset ι} {M : ℝ} {p0 : ι}

theorem Mined.count (h : Mined L S M p0) (m : ℝ) :
    S.card ≤ (Finset.univ.filter fun p => m ≤ L p).card ↔ m ≤ L p0 := by
  have hM : 0 ≤ M := (h.nn p0).trans (h.le p0)
  constructor
  · intro hc
    by_contra hm
    rw [not_le] at hm
    have hs : (Finset.univ.filter fun p => m ≤ L p) ⊂ S := by
      refine (Finset.ssubset_iff_of_subset fun p hp => ?_).2 ⟨p0, h.mem, fun hp => ?_⟩
      · by_contra hq
        have h1 := h.apart p hq
        have h2 := (Finset.mem_filter.1 hp).2
        linarith
      · have h2 := (Finset.mem_filter.1 hp).2
        linarith
    exact absurd (Finset.card_lt_card hs) (not_lt.2 hc)
  · intro hm
    exact Finset.card_le_card fun p hp => Finset.mem_filter.2 ⟨Finset.mem_univ _, hm.trans (h.least p hp)⟩

theorem Mined.sum (h : Mined L S M p0) (θ : ℝ) (h0 : θ ≤ L p0) (h1 : L p0 ≤ θ + M / 65536) :
    (∑ p, (if θ < L p then (1 : ℝ) else 0) * L p) + ((S.card : ℝ) - ∑ p, if θ < L p then (1 : ℝ) else 0) * θ = ∑ p ∈ S, L p := by
  classical
  have out : ∀ q, q ∉ S → ¬ θ < L q := fun q hq => by
    have := h.apart q hq
    rw [not_lt]; linarith
  have e1 : (∑ p, (if θ < L p then (1 : ℝ) else 0) * L p) = ∑ p ∈ S, (if θ < L p then (1 : ℝ) else 0) * L p :=
    (Finset.sum_subset (Finset.subset_univ S) fun q _ hq => by rw [if_neg (out q hq), zero_mul]).symm
  have e2 : (∑ p, if θ < L p then (1 : ℝ) else 0) = ∑ p ∈ S, if θ < L p then (1 : ℝ) else 0 :=
    (Finset.sum_subset (Finset.subset_univ S) fun q _ hq => by rw [if_neg (out q hq)]).symm
  have e3 : (S.card : ℝ) = ∑ p ∈ S, (1 : ℝ) := by simp
  rw [e1, e2, e3, ← Finset.sum_sub_distrib, Finset.sum_mul, ← Finset.sum_add_distrib]
  refine Finset.sum_congr rfl fun p hp => ?_
  have := h.least p hp
  split
  · ring
  · have : L p = θ := le_antisymm (by linarith) (by linarith)
    rw [this]; ring

end Real

/-- A count of sixteenths of a bracket: the last that is not above `a`. -/
structure Sixt (lo s a : ℝ) (N n : ℕ) : Prop where
  le : n ≤ N
  low : lo + s * ((n : ℝ) / 16) ≤ a
  high : n = N ∨ a < lo + s * (((n : ℝ) + 1) / 16)

theorem Sixt.next {lo s a : ℝ} {N n : ℕ} (hs : 0 ≤ s) (h : Sixt lo s a N n) :
    Sixt lo s a (N + 1) (n + if lo + s * (((N : ℝ) + 1) / 16) ≤ a then 1 else 0) := by
  by_cases hN : lo + s * (((N : ℝ) + 1) / 16) ≤ a
  · rw [if_pos hN]
    have e : n = N := by
      rcases h.high with e | e
      · exact e
      · have h1 : (n : ℝ) ≤ N := by exact_mod_cast h.le
        have h2 : s * (((n : ℝ) + 1) / 16) ≤ s * (((N : ℝ) + 1) / 16) := mul_le_mul_of_nonneg_left (by linarith) hs
        exact absurd hN (not_le.2 (by linarith))
    subst e
    exact ⟨le_rfl, by push_cast; exact hN, Or.inl rfl⟩
  · rw [if_neg hN]
    refine ⟨by have := h.le; omega, h.low, Or.inr ?_⟩
    rcases h.high with e | e
    · subst e; exact not_le.1 hN
    · exact e

/-! ## The search -/

theorem laneSum128_eq (x : FVec Ideal S128x128 .f32) (f : Fin 16384 → EReal) (h : ∀ R l, (x (ix2 R l) : EReal) = f (pj R l)) :
    (laneSum128 x (ix2 0 0) : EReal) = ∑ p, f p := by
  have e : ∑ p, f p = ∑ R : Fin 128, ∑ l : Fin 128, f (pj R l) := by
    rw [← (finProdFinEquiv : Fin 128 × Fin 128 ≃ Fin (128 * 128)).sum_comp, Fintype.sum_prod_type]
    refine Finset.sum_congr rfl fun R _ => Finset.sum_congr rfl fun l _ => congrArg f (Fin.ext ?_)
    show l.val + 128 * R.val = 128 * R.val + l.val
    ring
  rw [e]
  have g : (laneSum128 x (ix2 0 0) : EReal) = ∑ R : Fin 128, ∑ l : Fin 128, (x (ix2 R l) : EReal) := by
    pointwise [laneSum128, dot128, ones]
  rw [g]
  exact Finset.sum_congr rfl fun R _ => Finset.sum_congr rfl fun l _ => h R l

theorem up_at (x : FVec Ideal S1x1 .f32) (R l : Fin 128) : up128 x (ix2 R l) = x (ix2 0 0) := by
  pointwise [up128]

/-- Ones where a loss reaches a bound. -/
def reach (lc : FVec Ideal S128x128 .f32) (t : FVec Ideal S1x1 .f32) : FVec Ideal S128x128 .f32 :=
  select (cmpf .oge lc (up128 t)) (k128 0x3F800000#32) (k128 0x00000000#32)

/-- Ones where a loss is above a bound. -/
def above (lc : FVec Ideal S128x128 .f32) (t : FVec Ideal S1x1 .f32) : FVec Ideal S128x128 .f32 :=
  select (cmpf .ogt lc (up128 t)) (k128 0x3F800000#32) (k128 0x00000000#32)

section Search
variable {lc : FVec Ideal S128x128 .f32} {L : Fin 16384 → ℝ} {S : Finset (Fin 16384)} {M : ℝ} {p0 : Fin 16384}
  {k : FVec Ideal S1x1 .f32}

/-- Ones where a loss reaches a bound, over the reals. -/
theorem ones_ge (hlc : ∀ R l, (lc (ix2 R l) : EReal) = ((L (pj R l) : ℝ) : EReal)) (t : FVec Ideal S1x1 .f32) (m : ℝ)
    (ht : (t (ix2 0 0) : EReal) = m) :
    (laneSum128 (reach lc t) (ix2 0 0) : EReal)
      = (((Finset.univ.filter fun p => m ≤ L p).card : ℝ) : EReal) := by
  rw [laneSum128_eq _ fun p => ((if m ≤ L p then (1 : ℝ) else 0 : ℝ) : EReal)]
  · rw [coe_sum, Finset.sum_boole]
  · intro R l
    show (if BitVec.ofBool (decide ((up128 t (ix2 R l) : EReal) ≤ lc (ix2 R l))) = 1#1 then Ideal.ofBits .f32 0x3F800000#32 else Ideal.ofBits .f32 0x00000000#32) = _
    rw [up_at, ht, hlc, Ideal.ofBits_zero_f32, c_one]
    by_cases h : m ≤ L (pj R l)
    · rw [if_pos h, if_pos (by rw [decide_eq_true (EReal.coe_le_coe_iff.2 h)]; rfl)]
    · rw [if_neg h, if_neg (by rw [decide_eq_false (fun h' => h (EReal.coe_le_coe_iff.1 h'))]; decide), EReal.coe_zero]

theorem hit_eq (h : Mined L S M p0) (hlc : ∀ R l, (lc (ix2 R l) : EReal) = ((L (pj R l) : ℝ) : EReal))
    (hk : (k (ix2 0 0) : EReal) = ((S.card : ℝ) : EReal)) (lo span : FVec Ideal S1x1 .f32) (b : BitVec 32) (u s β : ℝ)
    (hlo : (lo (ix2 0 0) : EReal) = u) (hs : (span (ix2 0 0) : EReal) = s) (hb : Ideal.ofBits .f32 b = (β : EReal)) :
    (hitOf lc k lo span b (ix2 0 0) : EReal) = (((if u + s * β ≤ L p0 then 1 else 0 : ℕ) : ℝ) : EReal) := by
  have ht : (addf lo (mulf span (k1 b)) (ix2 0 0) : EReal) = ((u + s * β : ℝ) : EReal) := by
    show (lo (ix2 0 0) : EReal) + (span (ix2 0 0) : EReal) * Ideal.ofBits .f32 b = _
    rw [hlo, hs, hb, ← EReal.coe_mul, ← EReal.coe_add]
  show (if BitVec.ofBool (decide ((k (ix2 0 0) : EReal) ≤ laneSum128 (reach lc (addf lo (mulf span (k1 b)))) (ix2 0 0))) = 1#1 then Ideal.ofBits .f32 0x3F800000#32 else Ideal.ofBits .f32 0x00000000#32) = _
  rw [ones_ge hlc _ _ ht, hk, Ideal.ofBits_zero_f32, c_one]
  have e := h.count (u + s * β)
  by_cases g : u + s * β ≤ L p0
  · rw [if_pos g, if_pos (by rw [decide_eq_true (EReal.coe_le_coe_iff.2 (Nat.cast_le.2 (e.2 g)))]; rfl)]; norm_num
  · rw [if_neg g, if_neg (by rw [decide_eq_false (fun h' => g (e.1 (Nat.cast_le.1 (EReal.coe_le_coe_iff.1 h'))))]; decide)]; norm_num

/-- Words that are sixteenths, from the `N`-th on. -/
def Words : ℕ → List (BitVec 32) → Prop
  | _, [] => True
  | N, b :: bs => Ideal.ofBits .f32 b = (((((N : ℝ) + 1) / 16 : ℝ)) : EReal) ∧ Words (N + 1) bs

theorem words : Words 0 sixteenths := by
  refine ⟨?_, ?_, ?_, ?_, ?_, ?_, ?_, ?_, ?_, ?_, ?_, ?_, ?_, ?_, ?_, trivial⟩ <;>
    (simp [Ideal.ofBits, Ideal.ieee]; try (rw [← EReal.coe_mul, EReal.coe_eq_coe_iff]); norm_num)

theorem hits_eq (h : Mined L S M p0) (hlc : ∀ R l, (lc (ix2 R l) : EReal) = ((L (pj R l) : ℝ) : EReal))
    (hk : (k (ix2 0 0) : EReal) = ((S.card : ℝ) : EReal)) (lo span : FVec Ideal S1x1 .f32) (u s : ℝ)
    (hlo : (lo (ix2 0 0) : EReal) = u) (hs : (span (ix2 0 0) : EReal) = s) (h0 : 0 ≤ s) :
    ∀ (bs : List (BitVec 32)) (N n : ℕ) (js : FVec Ideal S1x1 .f32), Words N bs → (js (ix2 0 0) : EReal) = ((n : ℝ) : EReal) →
      Sixt u s (L p0) N n → ∃ n' : ℕ, (hits lc k lo span bs js (ix2 0 0) : EReal) = ((n' : ℝ) : EReal) ∧ Sixt u s (L p0) (N + bs.length) n'
  | [], N, n, js, _, hj, hx => ⟨n, hj, hx⟩
  | b :: bs, N, n, js, hw, hj, hx => by
    have e : ((addf js (hitOf lc k lo span b)) (ix2 0 0) : EReal)
        = (((n + if u + s * (((N : ℝ) + 1) / 16) ≤ L p0 then 1 else 0 : ℕ) : ℝ) : EReal) := by
      show (js (ix2 0 0) : EReal) + hitOf lc k lo span b (ix2 0 0) = _
      rw [hit_eq h hlc hk lo span b u s _ hlo hs hw.1, hj, ← EReal.coe_add, Nat.cast_add]
    obtain ⟨n', h1, h2⟩ := hits_eq h hlc hk lo span u s hlo hs h0 bs (N + 1) _ _ hw.2 e (hx.next h0)
    refine ⟨n', h1, ?_⟩
    rw [show N + (b :: bs).length = N + 1 + bs.length by rw [List.length_cons]; omega]
    exact h2

/-- A round keeps the least loss mined within its bracket. -/
theorem round_eq (h : Mined L S M p0) (hlc : ∀ R l, (lc (ix2 R l) : EReal) = ((L (pj R l) : ℝ) : EReal))
    (hk : (k (ix2 0 0) : EReal) = ((S.card : ℝ) : EReal)) (r : Br Ideal) (u s : ℝ)
    (hlo : (r.lo (ix2 0 0) : EReal) = u) (hs : (r.span (ix2 0 0) : EReal) = s) (h0 : 0 ≤ s) (h1 : u ≤ L p0) (h2 : L p0 ≤ u + s) :
    ∃ u' : ℝ, ((round lc k r).lo (ix2 0 0) : EReal) = u' ∧ ((round lc k r).span (ix2 0 0) : EReal) = ((s / 16 : ℝ) : EReal)
      ∧ u' ≤ L p0 ∧ L p0 ≤ u' + s / 16 := by
  have c16 : Ideal.ofBits .f32 0x3D800000#32 = ((1 / 16 : ℝ) : EReal) := by
    have := words.1
    rw [this]; norm_num
  obtain ⟨n, e, hx⟩ := hits_eq h hlc hk r.lo r.span u s hlo hs h0 sixteenths 0 0 (k1 0x00000000#32) words
    (by show Ideal.ofBits .f32 0x00000000#32 = _; rw [Ideal.ofBits_zero_f32]; norm_num) ⟨le_rfl, by norm_num; exact h1, Or.inl rfl⟩
  refine ⟨u + s * ((n : ℝ) / 16), ?_, ?_, hx.low, ?_⟩
  · show (r.lo (ix2 0 0) : EReal) + r.span (ix2 0 0) * (hits lc k r.lo r.span sixteenths (k1 0x00000000#32) (ix2 0 0) * Ideal.ofBits .f32 0x3D800000#32) = _
    rw [hlo, hs, e, c16, ← EReal.coe_mul, ← EReal.coe_mul, ← EReal.coe_add]
    congr 1; ring
  · show (r.span (ix2 0 0) : EReal) * Ideal.ofBits .f32 0x3D800000#32 = _
    rw [hs, c16, ← EReal.coe_mul]
    congr 1; ring
  · rcases hx.high with g | g
    · rw [g, show ((0 + sixteenths.length : ℕ) : ℝ) = 15 by norm_num [sixteenths]]
      linarith
    · linarith

theorem rounds_eq (h : Mined L S M p0) (hlc : ∀ R l, (lc (ix2 R l) : EReal) = ((L (pj R l) : ℝ) : EReal))
    (hk : (k (ix2 0 0) : EReal) = ((S.card : ℝ) : EReal)) : ∀ (n : ℕ) (r : Br Ideal) (u s : ℝ),
    (r.lo (ix2 0 0) : EReal) = u → (r.span (ix2 0 0) : EReal) = s → 0 ≤ s → u ≤ L p0 → L p0 ≤ u + s →
    ∃ u' : ℝ, ((rounds lc k n r).lo (ix2 0 0) : EReal) = u' ∧ u' ≤ L p0 ∧ L p0 ≤ u' + s / 16 ^ n
  | 0, r, u, s, hlo, _, _, h1, h2 => ⟨u, hlo, h1, by simpa using h2⟩
  | n + 1, r, u, s, hlo, hs, h0, h1, h2 => by
    obtain ⟨u', e1, e2, g1, g2⟩ := round_eq h hlc hk r u s hlo hs h0 h1 h2
    obtain ⟨u'', e, g3, g4⟩ := rounds_eq h hlc hk n (round lc k r) u' (s / 16) e1 e2 (by positivity) g1 g2
    refine ⟨u'', e, g3, ?_⟩
    rw [pow_succ, mul_comm, ← div_div]
    exact g4

theorem maxAll_eq (hlc : ∀ R l, (lc (ix2 R l) : EReal) = ((L (pj R l) : ℝ) : EReal)) (hle : ∀ p, L p ≤ M) (hat : ∃ p, L p = M) :
    (maxAll lc (ix2 0 0) : EReal) = (M : EReal) := by
  pointwise [maxAll]
  simp only [hlc, c_bot]
  obtain ⟨i, hi⟩ := hat
  have key : (Finset.univ : Finset (Fin 128)).fold max ⊥ (fun R => (Finset.univ : Finset (Fin 128)).fold max ⊥ fun l => ((L (pj l R) : ℝ) : EReal)) = (M : EReal) := by
    obtain ⟨R, l, e⟩ := pj_surj i
    apply le_antisymm
    · exact Finset.fold_max_le _ |>.2 ⟨bot_le, fun l' _ => Finset.fold_max_le _ |>.2 ⟨bot_le, fun R' _ => EReal.coe_le_coe_iff.2 (hle _)⟩⟩
    · exact Finset.le_fold_max _ |>.2 (.inr ⟨l, Finset.mem_univ _, Finset.le_fold_max _ |>.2 (.inr ⟨R, Finset.mem_univ _, by rw [e, hi]⟩)⟩)
  exact key

theorem topk_eq (h : Mined L S M p0) (hat : ∃ p, L p = M) (hlc : ∀ R l, (lc (ix2 R l) : EReal) = ((L (pj R l) : ℝ) : EReal))
    (hk : (k (ix2 0 0) : EReal) = ((S.card : ℝ) : EReal)) :
    (topk lc k (ix2 0 0) : EReal) = ((∑ p ∈ S, L p : ℝ) : EReal) := by
  have hM : 0 ≤ M := (h.nn p0).trans (h.le p0)
  obtain ⟨θ, e, g1, g2⟩ := rounds_eq h hlc hk 4 ⟨k1 0x00000000#32, maxAll lc⟩ 0 M
    (by show Ideal.ofBits .f32 0x00000000#32 = _; rw [Ideal.ofBits_zero_f32]; norm_num) (maxAll_eq hlc h.le hat) hM (h.nn p0)
    (by have := h.le p0; linarith)
  rw [show (16 : ℝ) ^ 4 = 65536 by norm_num] at g2
  have hg : ∀ R l, (above lc (rounds lc k 4 ⟨k1 0x00000000#32, maxAll lc⟩).lo (ix2 R l) : EReal)
      = ((if θ < L (pj R l) then (1 : ℝ) else 0 : ℝ) : EReal) := by
    intro R l
    show (if BitVec.ofBool (decide ((up128 (rounds lc k 4 ⟨k1 0x00000000#32, maxAll lc⟩).lo (ix2 R l) : EReal) < lc (ix2 R l))) = 1#1 then Ideal.ofBits .f32 0x3F800000#32 else Ideal.ofBits .f32 0x00000000#32) = _
    rw [up_at, e, hlc, Ideal.ofBits_zero_f32, c_one]
    by_cases h : θ < L (pj R l)
    · rw [if_pos h, if_pos (by rw [decide_eq_true (EReal.coe_lt_coe_iff.2 h)]; rfl)]
    · rw [if_neg h, if_neg (by rw [decide_eq_false (fun h' => h (EReal.coe_lt_coe_iff.1 h'))]; decide), EReal.coe_zero]
  show (laneSum128 (mulf (above lc (rounds lc k 4 ⟨k1 0x00000000#32, maxAll lc⟩).lo) lc) (ix2 0 0) : EReal)
    + ((k (ix2 0 0) : EReal) - laneSum128 (above lc (rounds lc k 4 ⟨k1 0x00000000#32, maxAll lc⟩).lo) (ix2 0 0))
      * (rounds lc k 4 ⟨k1 0x00000000#32, maxAll lc⟩).lo (ix2 0 0) = _
  rw [laneSum128_eq _ (fun p => (((if θ < L p then (1 : ℝ) else 0) * L p : ℝ) : EReal)) fun R l => ?_,
    laneSum128_eq _ (fun p => ((if θ < L p then (1 : ℝ) else 0 : ℝ) : EReal)) hg, coe_sum, coe_sum, hk, e,
    ← EReal.coe_sub, ← EReal.coe_mul, ← EReal.coe_add, h.sum θ g1 g2]
  show (above lc (rounds lc k 4 ⟨k1 0x00000000#32, maxAll lc⟩).lo (ix2 R l) : EReal) * lc (ix2 R l) = _
  rw [hg, hlc, ← EReal.coe_mul]

end Search

end Cert.Body

end
-- ==== Proof.Loss.lean ====
/-
  The classification loss of one prior over the reals, and what the losses mined are when the priors are padded.
-/
module

public import proofs.«01_k».proof.Proof.Mine

@[expose] public section

set_option maxRecDepth 16384

noncomputable section

namespace Cert.Spec

open Idealize.ShloMosaic Cert.Body

/-- The loss of a prior with confidences `X` and class `k`. -/
def lossOf (X : Fin 21 → ℝ) (k : Fin 21) : ℝ := Real.log (∑ j, Real.exp (X j)) - X k

theorem sum_exp_pos (X : Fin 21 → ℝ) : 0 < ∑ j, Real.exp (X j) :=
  Finset.sum_pos (fun j _ => Real.exp_pos _) ⟨0, Finset.mem_univ _⟩

theorem lossOf_nonneg (X : Fin 21 → ℝ) (k : Fin 21) : 0 ≤ lossOf X k := by
  have h : Real.exp (X k) ≤ ∑ j, Real.exp (X j) :=
    Finset.single_le_sum (f := fun j => Real.exp (X j)) (fun j _ => (Real.exp_pos _).le) (Finset.mem_univ k)
  have := Real.log_le_log (Real.exp_pos _) h
  rw [Real.log_exp] at this
  unfold lossOf
  linarith

/-- The greatest confidence may be taken out of the sum. -/
theorem shifted (X : Fin 21 → ℝ) (m : ℝ) (k : Fin 21) :
    X k - (m + Real.log (∑ j, Real.exp (X j - m))) = - lossOf X k := by
  have e : ∑ j, Real.exp (X j - m) = (∑ j, Real.exp (X j)) / Real.exp m := by
    rw [Finset.sum_div]
    exact Finset.sum_congr rfl fun j _ => Real.exp_sub _ _
  rw [e, Real.log_div (sum_exp_pos X).ne' (Real.exp_pos m).ne', Real.log_exp]
  unfold lossOf
  ring

theorem log_real {y : ℝ} (hy : 0 < y) : Ideal.log (y : EReal) = ((Real.log y : ℝ) : EReal) := by
  rw [Ideal.log_coe, if_neg (not_le.2 hy)]

/-! ## The padding -/

/-- Losses with the padding's, which are nothing. -/
def padL (L : Fin 16320 → ℝ) (p : Fin 16384) : ℝ := if h : p.val < 16320 then L ⟨p.val, h⟩ else 0

theorem padL_up (L : Fin 16320 → ℝ) (p : Fin 16320) : padL L (up p) = L p := dif_pos p.isLt

/-- The places of the priors. -/
def upE : Fin 16320 ↪ Fin 16384 := ⟨up, fun a b h => Fin.ext (congrArg Fin.val h : (up a).val = (up b).val)⟩

theorem Mined.pad {L : Fin 16320 → ℝ} {S : Finset (Fin 16320)} {M : ℝ} {p0 : Fin 16320} (h : Mined L S M p0)
    (ho : ∃ q, q ∉ S) : Mined (padL L) (S.map upE) M (up p0) where
  nn p := by
    unfold padL; split
    · exact h.nn _
    · exact le_rfl
  le p := by
    unfold padL; split
    · exact h.le _
    · exact (h.nn p0).trans (h.le p0)
  mem := Finset.mem_map.2 ⟨p0, h.mem, rfl⟩
  least p hp := by
    obtain ⟨a, ha, rfl⟩ := Finset.mem_map.1 hp
    show padL L (up p0) ≤ padL L (up a)
    rw [padL_up, padL_up]
    exact h.least a ha
  apart q hq := by
    rw [padL_up]
    unfold padL
    split
    · next hl =>
      exact h.apart _ fun hs => hq (Finset.mem_map.2 ⟨_, hs, rfl⟩)
    · obtain ⟨q', hq'⟩ := ho
      have := h.apart q' hq'
      have := h.nn q'
      linarith

theorem sum_pad (L : Fin 16320 → ℝ) (S : Finset (Fin 16320)) : ∑ p ∈ S.map upE, padL L p = ∑ p ∈ S, L p := by
  rw [Finset.sum_map]
  exact Finset.sum_congr rfl fun p _ => padL_up L p

/-! ## The losses mined, from the condition on them -/

theorem fold_max_real {ι : Type} [Fintype ι] [Nonempty ι] (L : ι → ℝ) :
    ∃ i, (∀ p, L p ≤ L i) ∧ (Finset.univ.fold max ⊥ fun p => ((L p : ℝ) : EReal)) = ((L i : ℝ) : EReal) := by
  obtain ⟨i, -, hi⟩ := Finset.exists_max_image Finset.univ L Finset.univ_nonempty
  refine ⟨i, fun p => hi p (Finset.mem_univ _), le_antisymm ?_ ?_⟩
  · exact Finset.fold_max_le _ |>.2 ⟨bot_le, fun p _ => EReal.coe_le_coe_iff.2 (hi p (Finset.mem_univ _))⟩
  · exact Finset.le_fold_max _ |>.2 (.inr ⟨i, Finset.mem_univ _, le_rfl⟩)

theorem mined_of {ι : Type} [Fintype ι] [Nonempty ι] (L : ι → ℝ) (S : Finset ι) (P : ι → Prop) [DecidablePred P]
    (hP : ∀ p, P p ↔ p ∈ S) (nn : ∀ p, 0 ≤ L p) (hS : S.Nonempty) (ho : ∃ q, q ∉ S)
    (h : Ideal.div (Finset.univ.fold max ⊥ fun p => ((L p : ℝ) : EReal)) ((65536 : ℝ) : EReal)
      ≤ (Finset.univ.fold min ⊤ fun p => if P p then ((L p : ℝ) : EReal) else ⊤)
        - Finset.univ.fold max ⊥ fun p => if P p then ⊥ else ((L p : ℝ) : EReal)) :
    ∃ i p0, Mined L S (L i) p0 := by
  classical
  obtain ⟨i, hi, ei⟩ := fold_max_real L
  obtain ⟨p0, hp0, h0⟩ := Finset.exists_min_image S L hS
  obtain ⟨q0, hq0, h1⟩ := Finset.exists_max_image (Finset.univ.filter fun q => q ∉ S) L (by
    obtain ⟨q, hq⟩ := ho; exact ⟨q, Finset.mem_filter.2 ⟨Finset.mem_univ _, hq⟩⟩)
  have hq0' := (Finset.mem_filter.1 hq0).2
  have e0 : (Finset.univ.fold min ⊤ fun p => if P p then ((L p : ℝ) : EReal) else ⊤) ≤ ((L p0 : ℝ) : EReal) :=
    Finset.fold_min_le _ |>.2 (.inr ⟨p0, Finset.mem_univ _, by rw [if_pos ((hP p0).2 hp0)]⟩)
  have e1 : ((L q0 : ℝ) : EReal) ≤ Finset.univ.fold max ⊥ fun p => if P p then ⊥ else ((L p : ℝ) : EReal) :=
    Finset.le_fold_max _ |>.2 (.inr ⟨q0, Finset.mem_univ _, by rw [if_neg fun hp => hq0' ((hP q0).1 hp)]⟩)
  have key := h.trans (EReal.sub_le_sub e0 e1)
  rw [ei, div_real (by norm_num : (65536 : ℝ) ≠ 0), ← EReal.coe_mul, ← EReal.coe_sub, EReal.coe_le_coe_iff, ← div_eq_mul_inv] at key
  refine ⟨i, p0, nn, hi, hp0, h0, fun q hq => ?_⟩
  have := h1 q (Finset.mem_filter.2 ⟨Finset.mem_univ _, hq⟩)
  linarith

/-! ## The ranks -/

theorem card_rank {f : Fin 16320 → Fin 16320} (hf : Function.Injective f) (k : ℕ) (hk : k < 16320) :
    (Finset.univ.filter fun p => (f p).val < k).card = k := by
  have hs : Function.Surjective f := Finite.injective_iff_surjective.1 hf
  have e : (Finset.univ.filter fun p => (f p).val < k).card = (Finset.Iio (⟨k, hk⟩ : Fin 16320)).card := by
    refine Finset.card_bij (fun p _ => f p) (fun p hp => Finset.mem_Iio.2 (Finset.mem_filter.1 hp).2) (fun a _ b _ h => hf h) fun r hr => ?_
    obtain ⟨p, rfl⟩ := hs r
    exact ⟨p, Finset.mem_filter.2 ⟨Finset.mem_univ _, (show f p < ⟨k, hk⟩ from Finset.mem_Iio.1 hr)⟩, rfl⟩
  rw [e, Fin.card_Iio]

/-- A whole label among the twenty. -/
theorem label_nat {x : EReal} (h0 : 0 ≤ x) (h1 : x ≤ ((19 : ℝ) : EReal)) (hw : x = Ideal.liftRound Int.floor x) :
    ∃ n : Fin 20, x = ((n.val : ℝ) : EReal) := by
  induction x using EReal.rec with
  | bot => exact absurd h0 (not_le.2 EReal.bot_lt_zero)
  | top => exact absurd h1 (not_le.2 (EReal.coe_lt_top _))
  | coe r =>
  have r0 : (0 : ℝ) ≤ r := by exact_mod_cast h0
  have r1 : r ≤ 19 := by exact_mod_cast h1
  have f0 : 0 ≤ ⌊r⌋ := Int.floor_nonneg.2 r0
  have f1 : ⌊r⌋ < 20 := Int.floor_lt.2 (by push_cast; linarith)
  have e : r = ((⌊r⌋ : ℤ) : ℝ) := EReal.coe_eq_coe_iff.1 hw
  refine ⟨⟨⌊r⌋.toNat, by omega⟩, ?_⟩
  show ((r : ℝ) : EReal) = (((⌊r⌋.toNat : ℕ) : ℝ) : EReal)
  have e2 : ((⌊r⌋.toNat : ℕ) : ℤ) = ⌊r⌋ := Int.toNat_of_nonneg f0
  have e3 : ((⌊r⌋.toNat : ℕ) : ℝ) = ((⌊r⌋ : ℤ) : ℝ) := by exact_mod_cast congrArg (fun z : ℤ => (z : ℝ)) e2
  rw [e3, ← e]

end Cert.Spec

end
-- ==== Proof.KerCls.lean ====
/-
  The body's classification loss over extended reals: the losses of the matched places, and those the search mines.
-/
module

public import proofs.«01_k».proof.Proof.Loss

@[expose] public section

set_option maxRecDepth 16384

noncomputable section

namespace Cert.Body

open Idealize.ShloMosaic Cert.Spec
open VecWindow (window)

/-- Words that count, from the `N`-th on. -/
def Nums : ℕ → List (BitVec 32) → Prop
  | _, [] => True
  | N, b :: bs => Ideal.ofBits .f32 b = ((N : ℝ) : EReal) ∧ Nums (N + 1) bs

theorem nums : Nums 0 classBits := by
  refine ⟨?_, ?_, ?_, ?_, ?_, ?_, ?_, ?_, ?_, ?_, ?_, ?_, ?_, ?_, ?_, ?_, ?_, ?_, ?_, ?_, ?_, trivial⟩ <;>
    (simp [Ideal.ofBits, Ideal.ieee, -EReal.coe_mul]; try norm_num)

theorem lim_eq (c : Fin 4) : Ideal.ofBits .f32 (limBits c) = (((16320 - 4096 * c.val : ℕ) : ℝ) : EReal) := by
  match c with
  | ⟨0, _⟩ => show Ideal.ofBits .f32 0x467F0000#32 = (((16320 - 4096 * 0 : ℕ) : ℝ) : EReal); simp [Ideal.ofBits, Ideal.ieee, -EReal.coe_mul]; norm_num
  | ⟨1, _⟩ => show Ideal.ofBits .f32 0x463F0000#32 = (((16320 - 4096 * 1 : ℕ) : ℝ) : EReal); simp [Ideal.ofBits, Ideal.ieee, -EReal.coe_mul]; norm_num
  | ⟨2, _⟩ => show Ideal.ofBits .f32 0x45FE0000#32 = (((16320 - 4096 * 2 : ℕ) : ℝ) : EReal); simp [Ideal.ofBits, Ideal.ieee, -EReal.coe_mul]; norm_num
  | ⟨3, _⟩ => show Ideal.ofBits .f32 0x457C0000#32 = (((16320 - 4096 * 3 : ℕ) : ℝ) : EReal); simp [Ideal.ofBits, Ideal.ieee, -EReal.coe_mul]; norm_num

section Match

variable {x1 : FVec Ideal S1x21x128x128 .f32} {x2 : FVec Ideal S1x4x128x128 .f32} {x3 : FVec Ideal S4x128x128 .f32}
  {x4 : FVec Ideal S1x50x5 .f32} {tg : Fin 50 → Fin 5 → EReal} {q : Fin 16384 → Fin 4 → EReal}
  {X : Fin 16384 → Fin 21 → ℝ} {K : Fin 16384 → Fin 21}

attribute [local irreducible] accN

theorem confAt_eq (hc : ∀ (j : Fin 21) (R l : Fin 128), (x1 (ix4 0 j R l) : EReal) = ((X (pj R l) j : ℝ) : EReal))
    (j : Fin 21) (c : Fin 4) (r : Fin 32) (l : Fin 128) :
    (confAt x1 j c (ix2 r l) : EReal) = ((X (pi c r l) j : ℝ) : EReal) := by
  pointwise [confAt, window]
  rw [← pj_row, ← hc]; exact congrArg x1 (emb4 _ _ _ _ _ _ _ _ _ _ _ _ _ rfl rfl rfl (Nat.zero_add _).symm)

/-- The places' classes. -/
def Classes (tg : Fin 50 → Fin 5 → EReal) (q : Fin 16384 → Fin 4 → EReal) (K : Fin 16384 → Fin 21) : Prop :=
  ∀ p, (if IsPos tg q p then tg (mt tg q p) 4 + ((1 : ℝ) : EReal) else 0) = (((K p).val : ℝ) : EReal)

theorem ctAt_eq (h : Blocks x3 x4 tg q) (h0 : ∀ t p, 0 ≤ ovS (tg t) (q p)) (hK : Classes tg q K) (c : Fin 4) (r : Fin 32) (l : Fin 128) :
    (ctAt x3 x4 c (ix2 r l) : EReal) = (((K (pi c r l)).val : ℝ) : EReal) := by
  rw [← hK]
  show (if posAt x3 x4 c (ix2 r l) = 1#1 then ((accAt x3 x4 c).lab (ix2 r l) : EReal) + Ideal.ofBits .f32 0x3F800000#32 else Ideal.ofBits .f32 0x00000000#32) = _
  rw [posAt_eq h h0, acc_lab h h0, Ideal.ofBits_zero_f32, c_one]
  by_cases hp : IsPos tg q (pi c r l)
  · rw [if_pos hp, if_pos (by rw [decide_eq_true hp]; rfl)]
  · rw [if_neg hp, if_neg (by rw [decide_eq_false hp]; decide)]

/-- The sum of the first exponentials. -/
def part (Y : Fin 21 → ℝ) (j : ℕ) : ℝ := ∑ i ∈ Finset.univ.filter (fun i : Fin 21 => i.val < j), Real.exp (Y i)

theorem part_zero (Y : Fin 21 → ℝ) : part Y 0 = 0 := by
  unfold part
  rw [Finset.filter_false_of_mem (by simp), Finset.sum_empty]

theorem part_succ (Y : Fin 21 → ℝ) (j : ℕ) (h : j < 21) : part Y (j + 1) = part Y j + Real.exp (Y ⟨j, h⟩) := by
  unfold part
  have e : (Finset.univ.filter fun i : Fin 21 => i.val < j + 1) = insert ⟨j, h⟩ (Finset.univ.filter fun i : Fin 21 => i.val < j) := by
    ext i
    simp only [Finset.mem_filter, Finset.mem_univ, true_and, Finset.mem_insert, Fin.ext_iff]
    omega
  rw [e, Finset.sum_insert (by simp), add_comm]

theorem part_all (Y : Fin 21 → ℝ) : part Y 21 = ∑ i, Real.exp (Y i) := by
  unfold part
  rw [Finset.filter_true_of_mem fun i _ => i.isLt]

theorem cls_eq (hc : ∀ (j : Fin 21) (R l : Fin 128), (x1 (ix4 0 j R l) : EReal) = ((X (pj R l) j : ℝ) : EReal))
    (c : Fin 4) (r : Fin 32) (l : Fin 128) (ct : FVec Ideal S32x128 .f32) (k : Fin 21) (hct : (ct (ix2 r l) : EReal) = ((k.val : ℝ) : EReal)) :
    ∀ (bs : List (BitVec 32)) (j : ℕ) (h : j + bs.length ≤ 21) (a : Cls Ideal), Nums j bs →
      (a.s (ix2 r l) : EReal) = ((part (X (pi c r l)) j : ℝ) : EReal) →
      (a.g (ix2 r l) : EReal) = ((if k.val < j then X (pi c r l) k else 0 : ℝ) : EReal) →
      ((clsFold x1 c ct bs j h a).s (ix2 r l) : EReal) = ((part (X (pi c r l)) (j + bs.length) : ℝ) : EReal)
      ∧ ((clsFold x1 c ct bs j h a).g (ix2 r l) : EReal) = ((if k.val < j + bs.length then X (pi c r l) k else 0 : ℝ) : EReal)
  | [], j, _, a, _, hs, hg => ⟨hs, hg⟩
  | b :: bs, j, h, a, hb, hs, hg => by
    have hj : j < 21 := by simp only [List.length_cons] at h; omega
    have e := cls_eq hc c r l ct k hct bs (j + 1) (by simp only [List.length_cons] at h; omega)
      (clsStep ct b (confAt x1 ⟨j, hj⟩ c) a) hb.2 ?_ ?_
    · rw [show j + (b :: bs).length = j + 1 + bs.length by rw [List.length_cons]; omega]
      exact e
    · show (a.s (ix2 r l) : EReal) + Ideal.exp (confAt x1 ⟨j, hj⟩ c (ix2 r l)) = _
      rw [hs, confAt_eq hc, part_succ _ _ hj, EReal.coe_add]
      rfl
    · show (if BitVec.ofBool (decide ((ct (ix2 r l) : EReal) = Ideal.ofBits .f32 b)) = 1#1 then (confAt x1 ⟨j, hj⟩ c (ix2 r l) : EReal) else (a.g (ix2 r l) : EReal)) = _
      rw [hct, hb.1, confAt_eq hc, hg]
      by_cases hk : k.val = j
      · have hk' : k = ⟨j, hj⟩ := Fin.ext hk
        rw [if_pos (by rw [hk, decide_eq_true rfl]; rfl), if_pos (by omega), ← hk']
      · rw [if_neg (by
          rw [decide_eq_false fun e => hk (Nat.cast_injective (EReal.coe_eq_coe_iff.1 e))]; decide)]
        by_cases hk2 : k.val < j
        · rw [if_pos hk2, if_pos (by omega)]
        · rw [if_neg hk2, if_neg (by omega)]

section Loss
variable (h : Blocks x3 x4 tg q) (h0 : ∀ t p, 0 ≤ ovS (tg t) (q p)) (hK : Classes tg q K)
  (hc : ∀ (j : Fin 21) (R l : Fin 128), (x1 (ix4 0 j R l) : EReal) = ((X (pj R l) j : ℝ) : EReal))
include h h0 hK hc

theorem lossC_eq (c : Fin 4) (r : Fin 32) (l : Fin 128) :
    (lossC (clsAt x1 x3 x4 c) (ix2 r l) : EReal) = ((lossOf (X (pi c r l)) (K (pi c r l)) : ℝ) : EReal) := by
  obtain ⟨e1, e2⟩ := cls_eq hc c r l (ctAt x3 x4 c) (K (pi c r l)) (ctAt_eq h h0 hK c r l) classBits 0 (by decide) cls0 nums
    (by rw [part_zero]; exact Ideal.ofBits_zero_f32) (by rw [if_neg (by omega)]; exact Ideal.ofBits_zero_f32)
  have e1' : ((clsAt x1 x3 x4 c).s (ix2 r l) : EReal) = ((∑ i, Real.exp (X (pi c r l) i) : ℝ) : EReal) := by
    rw [← part_all]; exact e1
  have e2' : ((clsAt x1 x3 x4 c).g (ix2 r l) : EReal) = ((X (pi c r l) (K (pi c r l)) : ℝ) : EReal) := by
    refine e2.trans ?_
    rw [if_pos (show (K (pi c r l)).val < 0 + classBits.length from (K (pi c r l)).isLt.trans_le (by decide))]
  show Ideal.log ((clsAt x1 x3 x4 c).s (ix2 r l)) - ((clsAt x1 x3 x4 c).g (ix2 r l) : EReal) = _
  rw [e1', e2', log_real (sum_exp_pos _), ← EReal.coe_sub]
  rfl

/-- The loss of a place, where it may be mined. -/
def deadL (tg : Fin 50 → Fin 5 → EReal) (q : Fin 16384 → Fin 4 → EReal) (X : Fin 16384 → Fin 21 → ℝ) (K : Fin 16384 → Fin 21)
    (p : Fin 16384) : ℝ := if IsPos tg q p ∨ 16320 ≤ p.val then 0 else lossOf (X p) (K p)

/-- The loss of a place, where it is matched. -/
def posL (tg : Fin 50 → Fin 5 → EReal) (q : Fin 16384 → Fin 4 → EReal) (X : Fin 16384 → Fin 21 → ℝ) (K : Fin 16384 → Fin 21)
    (p : Fin 16384) : ℝ := if IsPos tg q p then lossOf (X p) (K p) else 0

theorem dead_eq (c : Fin 4) (r : Fin 32) (l : Fin 128) :
    (deadAt x1 x3 x4 c (ix2 r l) : EReal) = ((deadL tg q X K (pi c r l) : ℝ) : EReal) := by
  have e : deadAt x1 x3 x4 c (ix2 r l) = deadLoss (posAt x3 x4 c) (limBits c) (lossC (clsAt x1 x3 x4 c)) (ix2 r l) := by
    unfold deadAt
    generalize deadLoss (posAt x3 x4 c) (limBits c) (lossC (clsAt x1 x3 x4 c)) = y
    pointwise []
  rw [e]
  show (if (posAt x3 x4 c (ix2 r l) ||| BitVec.ofBool (decide (Ideal.ofBits .f32 (limBits c) ≤ (iotaJ (F := Ideal) (ix2 r l) : EReal)))) = 1#1
    then Ideal.ofBits .f32 0x00000000#32 else (lossC (clsAt x1 x3 x4 c) (ix2 r l) : EReal)) = _
  have ei : (iotaJ (F := Ideal) (ix2 r l) : EReal) = (((128 * r.val + l.val : ℕ) : ℝ) : EReal) := by
    pointwise [iotaJ]
    exact word_eq _ _ (128 * r.val + l.val) (by omega) (by omega)
  have el : Ideal.ofBits .f32 (limBits c) ≤ (iotaJ (F := Ideal) (ix2 r l) : EReal) ↔ 16320 ≤ (pi c r l).val := by
    rw [lim_eq, ei, EReal.coe_le_coe_iff, Nat.cast_le]
    show _ ↔ 16320 ≤ 4096 * c.val + 128 * r.val + l.val
    omega
  rw [posAt_eq h h0, lossC_eq h h0 hK hc, Ideal.ofBits_zero_f32, decide_eq_decide.2 el]
  unfold deadL
  by_cases hp : IsPos tg q (pi c r l)
  · by_cases hq : 16320 ≤ (pi c r l).val
    · rw [decide_eq_true hp, decide_eq_true hq, if_pos (by decide), if_pos (Or.inl hp), EReal.coe_zero]
    · rw [decide_eq_true hp, decide_eq_false hq, if_pos (by decide), if_pos (Or.inl hp), EReal.coe_zero]
  · by_cases hq : 16320 ≤ (pi c r l).val
    · rw [decide_eq_false hp, decide_eq_true hq, if_pos (by decide), if_pos (Or.inr hq), EReal.coe_zero]
    · rw [decide_eq_false hp, decide_eq_false hq, if_neg (by decide), if_neg (not_or.2 ⟨hp, hq⟩)]

theorem lcArr_eq (R l : Fin 128) : (lcArr x1 x3 x4 (ix2 R l) : EReal) = ((deadL tg q X K (pj R l) : ℝ) : EReal) := by
  show (deadAt x1 x3 x4 ⟨R.val / 32, _⟩ (ix2 ⟨R.val % 32, _⟩ l) : EReal) = _
  rw [dead_eq h h0 hK hc]
  have e : pi ⟨R.val / 32, by omega⟩ ⟨R.val % 32, by omega⟩ l = pj R l := by
    apply Fin.ext
    show 4096 * (R.val / 32) + 128 * (R.val % 32) + l.val = 128 * R.val + l.val
    omega
  rw [e]

theorem step_lp (a : Sums Ideal) (c : Fin 4) (r : Fin 32) (l : Fin 128) :
    ((sumsStep x1 x2 x3 x4 c a).lp (ix2 r l) : EReal) = (a.lp (ix2 r l) : EReal) + ((posL tg q X K (pi c r l) : ℝ) : EReal) := by
  show (a.lp (ix2 r l) : EReal) + (if posAt x3 x4 c (ix2 r l) = 1#1 then Ideal.ofBits .f32 0x3F800000#32 else Ideal.ofBits .f32 0x00000000#32)
    * (lossC (clsAt x1 x3 x4 c) (ix2 r l) : EReal) = _
  rw [posAt_eq h h0, lossC_eq h h0 hK hc, Ideal.ofBits_zero_f32, c_one, EReal.coe_one]
  unfold posL
  by_cases hp : IsPos tg q (pi c r l)
  · rw [if_pos hp, if_pos (by rw [decide_eq_true hp]; rfl), one_mul]
  · rw [if_neg hp, if_neg (by rw [decide_eq_false hp]; decide), zero_mul, EReal.coe_zero]

theorem lp_eq : (laneSum32 (sumsAt x1 x2 x3 x4).lp (ix2 0 0) : EReal) = ((∑ p, posL tg q X K p : ℝ) : EReal) := by
  rw [← coe_sum, ← sum_places, laneSum32_eq]
  refine Finset.sum_congr rfl fun r _ => Finset.sum_congr rfl fun l _ => ?_
  rw [sumsAt, step_lp h h0 hK hc, step_lp h h0 hK hc, step_lp h h0 hK hc, step_lp h h0 hK hc]
  rw [show ((sums0 : Sums Ideal).lp (ix2 r l) : EReal) = 0 from Ideal.ofBits_zero_f32, zero_add]

omit hK hc in
theorem kOf_eq : (kOf (laneSum32 (sumsAt x1 x2 x3 x4).np) (ix2 0 0) : EReal)
    = (((min (3 * (Finset.univ.filter fun p => IsPos tg q p).card) 16319 : ℕ) : ℝ) : EReal) := by
  have c3 : Ideal.ofBits .f32 0x40400000#32 = ((3 : ℝ) : EReal) := by
    simp [Ideal.ofBits, Ideal.ieee, -EReal.coe_mul]; norm_num
  have ck : Ideal.ofBits .f32 0x467EFC00#32 = ((16319 : ℝ) : EReal) := by
    simp [Ideal.ofBits, Ideal.ieee, -EReal.coe_mul]; norm_num
  have e : ∑ p, npP tg q p = (((Finset.univ.filter fun p => IsPos tg q p).card : ℝ) : EReal) := by
    have e' : ∀ p, npP tg q p = ((if IsPos tg q p then (1 : ℝ) else 0 : ℝ) : EReal) := by
      intro p
      unfold npP
      split
      · exact EReal.coe_one.symm
      · exact EReal.coe_zero.symm
    rw [Finset.sum_congr rfl fun p _ => e' p, coe_sum, Finset.sum_boole]
  show min (Ideal.ofBits .f32 0x40400000#32 * (laneSum32 (sumsAt x1 x2 x3 x4).np (ix2 0 0) : EReal)) (Ideal.ofBits .f32 0x467EFC00#32) = _
  rw [np_eq h h0, e, c3, ck, ← EReal.coe_mul, ← EReal.coe_strictMono.monotone.map_min, Nat.cast_min, Nat.cast_mul]
  rfl

theorem out6_eq {S : Finset (Fin 16384)} {M : ℝ} {p0 : Fin 16384} (hm : Mined (deadL tg q X K) S M p0)
    (hat : ∃ p, deadL tg q X K p = M) (hS : S.card = min (3 * (Finset.univ.filter fun p => IsPos tg q p).card) 16319) (i : Fin 8) (l : Fin 128) :
    (out6 x1 x2 x3 x4 (ix3 0 i l) : EReal) = ((∑ p, posL tg q X K p + ∑ p ∈ S, deadL tg q X K p : ℝ) : EReal) := by
  rw [out6, outVec_eq, EReal.coe_add, ← lp_eq (x2 := x2) h h0 hK hc,
    ← topk_eq hm hat (lcArr_eq h h0 hK hc) (k := kOf (laneSum32 (sumsAt x1 x2 x3 x4).np)) (by rw [kOf_eq h h0, hS])]
  rfl

end Loss
end Match
end Cert.Body

end
-- ==== Proof.Image.lean ====
/-
  One image's classification loss as the body leaves it, over the priors without their padding.
-/
module

public import proofs.«01_k».proof.Proof.KerCls

@[expose] public section

set_option maxRecDepth 16384

noncomputable section

namespace Cert.Body

open Idealize.ShloMosaic Cert.Spec

/-- Confidences with the padding's. -/
def padX (X : Fin 16320 → Fin 21 → ℝ) (p : Fin 16384) (j : Fin 21) : ℝ := if h : p.val < 16320 then X ⟨p.val, h⟩ j else 0

theorem padX_up (X : Fin 16320 → Fin 21 → ℝ) (p : Fin 16320) : padX X (up p) = X p := funext fun j => dif_pos p.isLt

/-- Classes with the padding's. -/
def padK (K : Fin 16320 → Fin 21) (p : Fin 16384) : Fin 21 := if h : p.val < 16320 then K ⟨p.val, h⟩ else 0

theorem padK_up (K : Fin 16320 → Fin 21) (p : Fin 16320) : padK K (up p) = K p := dif_pos p.isLt

theorem place (p : Fin 16384) : (∃ a : Fin 16320, up a = p) ∨ ¬ p.val < 16320 := by
  by_cases h : p.val < 16320
  · exact Or.inl ⟨⟨p.val, h⟩, rfl⟩
  · exact Or.inr h

theorem sum_padL (L : Fin 16320 → ℝ) : ∑ p, padL L p = ∑ p, L p := by
  refine Eq.trans (Finset.sum_subset (Finset.subset_univ (Finset.univ.map upE)) fun p _ hp => ?_).symm (sum_pad L Finset.univ)
  rcases place p with ⟨a, rfl⟩ | h
  · exact absurd (Finset.mem_map.2 ⟨a, Finset.mem_univ _, rfl⟩) hp
  · exact dif_neg h

section Image
variable {tg : Fin 50 → Fin 5 → EReal} {pr : Fin 16320 → Fin 4 → EReal} (hg : Good tg pr) (X : Fin 16320 → Fin 21 → ℝ)
  (K : Fin 16320 → Fin 21) (lb : Fin 50 → Fin 20) (hb : ∀ t, tg t 4 = (((lb t).val : ℝ) : EReal))
  (hK : ∀ p, K p = if IsPos tg (ext pr) (up p) then (lb (mt tg (ext pr) (up p))).succ else 0)

include hg hb hK in
theorem classes_pad : Classes tg (ext pr) (padK K) := by
  intro p
  rcases place p with ⟨a, rfl⟩ | h
  · rw [padK_up, hK]
    by_cases hp : IsPos tg (ext pr) (up a)
    · rw [if_pos hp, if_pos hp, hb, ← EReal.coe_add, Fin.val_succ, Nat.cast_add, Nat.cast_one]
    · rw [if_neg hp, if_neg hp]
      norm_num
  · rw [if_neg (not_pos_pad hg p h), padK, dif_neg h]
    norm_num

omit hg in
theorem deadL_pad : deadL tg (ext pr) (padX X) (padK K)
    = padL fun p => if IsPos tg (ext pr) (up p) then 0 else lossOf (X p) (K p) := by
  funext p
  rcases place p with ⟨a, rfl⟩ | h
  · rw [padL_up, deadL, padX_up, padK_up]
    have hl : ¬ 16320 ≤ (up a).val := not_le.2 a.isLt
    by_cases hp : IsPos tg (ext pr) (up a)
    · rw [if_pos hp, if_pos (Or.inl hp)]
    · rw [if_neg hp, if_neg (not_or.2 ⟨hp, hl⟩)]
  · rw [deadL, if_pos (Or.inr (not_lt.1 h)), padL, dif_neg h]

include hg in
theorem posL_pad : posL tg (ext pr) (padX X) (padK K)
    = padL fun p => if IsPos tg (ext pr) (up p) then lossOf (X p) (K p) else 0 := by
  funext p
  rcases place p with ⟨a, rfl⟩ | h
  · rw [padL_up, posL, padX_up, padK_up]
  · rw [posL, if_neg (not_pos_pad hg p h), padL, dif_neg h]

include hg in
theorem card_pad : (Finset.univ.filter fun p => IsPos tg (ext pr) p).card
    = (Finset.univ.filter fun p => IsPos tg (ext pr) (up p)).card := by
  rw [← Finset.card_map upE]
  refine congrArg Finset.card (Finset.ext fun p => ?_)
  rw [Finset.mem_filter, Finset.mem_map]
  constructor
  · rintro ⟨-, hp⟩
    rcases place p with ⟨a, rfl⟩ | h
    · exact ⟨a, Finset.mem_filter.2 ⟨Finset.mem_univ _, hp⟩, rfl⟩
    · exact absurd hp (not_pos_pad hg p h)
  · rintro ⟨a, ha, rfl⟩
    exact ⟨Finset.mem_univ _, (Finset.mem_filter.1 ha).2⟩

variable {x1 : FVec Ideal S1x21x128x128 .f32} {x2 : FVec Ideal S1x4x128x128 .f32} {x3 : FVec Ideal S4x128x128 .f32}
  {x4 : FVec Ideal S1x50x5 .f32}

include hg hb hK in
theorem image_cls (h : Blocks x3 x4 tg (ext pr))
    (hc : ∀ (j : Fin 21) (R l : Fin 128), (x1 (ix4 0 j R l) : EReal) = ((padX X (pj R l) j : ℝ) : EReal))
    {S : Finset (Fin 16320)} {a p0 : Fin 16320}
    (hm : Mined (fun p => if IsPos tg (ext pr) (up p) then 0 else lossOf (X p) (K p)) S
      (if IsPos tg (ext pr) (up a) then 0 else lossOf (X a) (K a)) p0) (ho : ∃ q, q ∉ S)
    (hS : S.card = min (3 * (Finset.univ.filter fun p => IsPos tg (ext pr) (up p)).card) 16319) (i : Fin 8) (l : Fin 128) :
    (out6 x1 x2 x3 x4 (ix3 0 i l) : EReal)
      = (((∑ p, if IsPos tg (ext pr) (up p) then lossOf (X p) (K p) else 0)
        + ∑ p ∈ S, if IsPos tg (ext pr) (up p) then 0 else lossOf (X p) (K p) : ℝ) : EReal) := by
  have h0 : ∀ t p, 0 ≤ ovS (tg t) (ext pr p) := fun t p => ovS_nonneg (hg.t t) (hg.ext p)
  have hd := deadL_pad (tg := tg) (pr := pr) X K
  have hm' := Cert.Spec.Mined.pad hm ho
  rw [← hd] at hm'
  have key := out6_eq (x2 := x2) h h0 (classes_pad hg K lb hb hK) hc hm' ⟨up a, by rw [hd, padL_up]⟩
    (by rw [Finset.card_map, hS, card_pad hg]) i l
  rw [key, posL_pad hg, sum_padL, hd, sum_pad]

end Image

end Cert.Body

end
-- ==== Proof.Mask.lean ====
/-
  What the mask of the second result says, over extended reals: finite confidences, whole labels, and in each image the
  least loss mined apart from the greatest not mined.
-/
module

public import proofs.«01_k».proof.Proof.Gen.On_separated
public import proofs.«01_k».proof.Proof.Gen.ReferenceIdeal.Read
public import proofs.«01_k».proof.Proof.Facts
public import Idealize.ShloMosaic.Lib.Pointwise
public import Idealize.ShloMosaic.Lib.ReduceAll

@[expose] public section

set_option maxRecDepth 16384

noncomputable section

namespace Cert.On_separated.Own

open Idealize.ShloMosaic Cert.On_separated Cert.On_separated.Gen Cert.Spec
open Cert.ReferenceIdeal.Read (val_main_v245 val_main_v248 val_main_v251 val_main_v252)

theorem and_bits {x y : BitVec 1} (h : IntOp.andi x y = 1#1) : x = 1#1 ∧ y = 1#1 := by
  revert x y; decide

theorem c_64k : Ideal.ofBits .f32 1199570944#32 = ((65536 : ℝ) : EReal) := by
  simp [Ideal.ofBits, Ideal.ieee, -EReal.coe_mul]; norm_num

/-- A prior mined, from its rank and the two words whose product bounds it. -/
def MinedB (r : IVec S32x16320 32) (u v : IVec S32x1 32) (b : Fin 32) (p : Fin 16320) : BitVec 1 :=
  IntOp.cmpi .slt (r (ix2 b p)) (IntOp.minsi (IntOp.muli (v (ix2 b 0)) (u (ix2 b 0))) 16319#32)

section Parts
variable (x1 : FVec Ideal S32x16320x21 .f32) (x5 : FVec Ideal S32x50x5 .f32) (L : FVec Ideal S32x16320 .f32)
  (r : IVec S32x16320 32) (u v : IVec S32x1 32)

/-- The three conditions as the mask prints them. -/
def c1 : IVec S32 1 :=
  let v143 : IVec S32x1 32 := minsi (muli v u) (broadcastInDim S32x1 ![] bcast_S_S32x1 (constantI S_ 32 16319#32))
  let v145 : IVec S32x16320 1 := cmpi .slt r (broadcastInDim S32x16320 ![0, 1] bcast_S32x1_S32x16320_0_1 v143)
  let v147 : FVec Ideal S32 .f32 := Host.reduce FloatOps.minimumf (fn_where_6 (F := Ideal) v145 L (constant S_ .f32 0x7F800000#32))
    (constant S_ .f32 0x7F800000#32) reducesTo_S32x16320_S32_d1 h_S_
  let v149 : FVec Ideal S32 .f32 := Host.reduce FloatOps.maximumf (fn_where_1 (F := Ideal) v145 (constant S_ .f32 0xFF800000#32) L)
    (constant S_ .f32 0xFF800000#32) reducesTo_S32x16320_S32_d1 h_S_
  let v151 : FVec Ideal S32 .f32 := Host.reduce FloatOps.maximumf L (constant S_ .f32 0xFF800000#32) reducesTo_S32x16320_S32_d1 h_S_
  cmpf .oge (subf v147 v149) (Host.divf v151 (broadcastInDim S32 ![] bcast_S_S32 (constant S_ .f32 0x47800000#32)))

def c2 : IVec S32x16320x21 1 :=
  cmpf (F := Ideal) .olt (Host.absf x1) (broadcastInDim S32x16320x21 ![] bcast_S_S32x16320x21 (constant S_ .f32 0x7F800000#32) : FVec Ideal S32x16320x21 .f32)

def lab : FVec Ideal S32x50 .f32 :=
  shapeCast S32x50 ((extractStridedSlice S32x50x1 ![0, 0, 4] · slices_S32x50x5_S32x50x1_0_0_4) x5) shapeCasts_S32x50x1_S32x50

def c3 : IVec S32x50 1 := cmpf .oeq (lab x5) (Host.floor (lab x5))

theorem part7_eq : (fn_part7 (F := Ideal) x1 x5 L r u v).2 =
    andi (andi (Host.reduce IntOp.andi (c1 L r u v) (constantI S_ 1 1#1) reducesTo_S32_S_d0 h_S_)
      (Host.reduce IntOp.andi (c2 x1) (constantI S_ 1 1#1) reducesTo_S32x16320x21_S_d0_1_2 h_S_))
      (Host.reduce IntOp.andi (c3 x5) (constantI S_ 1 1#1) reducesTo_S32x50_S_d0_1 h_S_) := rfl

variable {x1 x5 L r u v}

theorem parts (h : (fn_part7 (F := Ideal) x1 x5 L r u v).2 ix0 = 1#1) :
    (∀ b, c1 L r u v (ix1 b) = 1#1) ∧ (∀ b p c, c2 x1 (ix3 b p c) = 1#1) ∧ ∀ b t, c3 x5 (ix2 b t) = 1#1 := by
  rw [part7_eq] at h
  obtain ⟨h1, h3⟩ := and_bits h
  obtain ⟨h1, h2⟩ := and_bits h1
  exact ⟨fun b => Host.reduce_andi_all _ _ _ _ _ h1 _, fun b p c => Host.reduce_andi_all _ _ _ _ _ h2 _,
    fun b t => Host.reduce_andi_all _ _ _ _ _ h3 _⟩

theorem finite_of (b : Fin 32) (p : Fin 16320) (c : Fin 21) (h : c2 x1 (ix3 b p c) = 1#1) :
    ∃ y : ℝ, (x1 (ix3 b p c) : EReal) = y := by
  revert h
  pointwise [c2]
  intro h
  have h' := Cert.Pre_well_posed.Own.of_bit h
  revert h'
  generalize (x1 (ix3 b p c) : EReal) = z
  intro h'
  induction z using EReal.rec with
  | coe y => exact ⟨y, rfl⟩
  | top => exact absurd h' (not_lt.2 (c_top.trans_le (show (⊤ : EReal) ≤ max ⊤ (-⊤) from le_max_left _ _)))
  | bot => exact absurd h' (not_lt.2 (c_top.trans_le (show (⊤ : EReal) ≤ max ⊥ (-⊥) from le_max_right _ _)))

theorem whole_of (b : Fin 32) (t : Fin 50) (h : c3 x5 (ix2 b t) = 1#1) :
    (x5 (ix3 b t 4) : EReal) = Ideal.liftRound Int.floor (x5 (ix3 b t 4)) := by
  revert h
  pointwise [c3, lab]
  intro h
  exact Cert.Pre_well_posed.Own.of_bit h

theorem apart_of (b : Fin 32) (h : c1 L r u v (ix1 b) = 1#1) :
    Ideal.div (Finset.univ.fold max ⊥ fun p : Fin 16320 => (L (ix2 b p) : EReal)) ((65536 : ℝ) : EReal)
      ≤ (Finset.univ.fold min ⊤ fun p : Fin 16320 => if MinedB r u v b p = 1#1 then (L (ix2 b p) : EReal) else ⊤)
        - Finset.univ.fold max ⊥ fun p : Fin 16320 => if MinedB r u v b p = 1#1 then ⊥ else (L (ix2 b p) : EReal) := by
  revert h
  pointwise [c1, fn_where_6, fn_where_1]
  intro h
  have h' := Cert.Pre_well_posed.Own.of_bit h
  rw [c_64k, c_bot, c_top] at h'
  refine h'.trans_eq ?_
  have et : (id (constant (F := Ideal) S_ FTy.f32 2139095040#32) ix0 : EReal) = ⊤ := c_top
  have eb : (id (constant (F := Ideal) S_ FTy.f32 4286578688#32) ix0 : EReal) = ⊥ := c_bot
  rw [et, eb]
  rfl

end Parts

theorem split (x0 : FVec Ideal S32x16320x4 .f32) (x1 : FVec Ideal S32x16320x21 .f32) (x2 : FVec Ideal S32x16320x4 .f32)
    (x3 : FVec Ideal S32x16320x21 .f32) (x4 : FVec Ideal S16320x4 .f32) (x5 : FVec Ideal S32x50x5 .f32) :
    fn (F := Ideal) x0 x1 x2 x3 x4 x5 = fn_part7 x1 x5 (val_main_v245 (F := Ideal) x1 x4 x5) (val_main_v248 (F := Ideal) x1 x4 x5)
      (val_main_v251 (F := Ideal) x4 x5) (val_main_v252 (F := Ideal)) := rfl

theorem one (x0 : FVec Ideal S32x16320x4 .f32) (x1 : FVec Ideal S32x16320x21 .f32) (x2 : FVec Ideal S32x16320x4 .f32)
    (x3 : FVec Ideal S32x16320x21 .f32) (x4 : FVec Ideal S16320x4 .f32) (x5 : FVec Ideal S32x50x5 .f32) :
    (fn (F := Ideal) x0 x1 x2 x3 x4 x5).1 = fun _ => 1#1 := rfl

end Cert.On_separated.Own

end
-- ==== Proof.RefCls.lean ====
/-
  The reference's classification loss, at an index and summed.
-/
module

public import proofs.«01_k».proof.Proof.Mask
public import proofs.«01_k».proof.Proof.Loss
public import Idealize.ShloMosaic.Lib.SortFacts

@[expose] public section

set_option maxRecDepth 16384

noncomputable section

namespace Cert.Ref

open Idealize.ShloMosaic Cert.Spec Cert.ReferenceIdeal Cert.ReferenceIdeal.Read Cert.On_separated.Own

variable {x1 : (⟨S32x16320x21, .f32⟩ : BufTy).Contents (Elt Ideal)}
  {x4 : (⟨S16320x4, .f32⟩ : BufTy).Contents (Elt Ideal)} {x5 : (⟨S32x50x5, .f32⟩ : BufTy).Contents (Elt Ideal)}
  {b : Fin 32} {p : Fin 16320} {X : Fin 32 → Fin 16320 → Fin 21 → ℝ} {lb : Fin 32 → Fin 50 → Fin 20}

/-! ## The class of a prior -/

/-- The class of a prior from the labels: nothing where it is not matched. -/
def clsR (x4 : (⟨S16320x4, .f32⟩ : BufTy).Contents (Elt Ideal)) (x5 : (⟨S32x50x5, .f32⟩ : BufTy).Contents (Elt Ideal))
    (lb : Fin 32 → Fin 50 → Fin 20) (b : Fin 32) (p : Fin 16320) : Fin 21 :=
  if PosR x4 x5 b p then (lb b (mtR x4 x5 b p)).succ else 0

theorem fptosi_coe (n : Fin 20) : FloatOps.fptosi (F := Ideal) (φ := .f32) 32 (((n.val : ℝ) : EReal) : Ideal .f32) = BitVec.ofNat 32 n.val := by
  show Ideal.fptosi 32 (((n.val : ℝ)) : EReal) = _
  have e : Ideal.toIntClamped (-(2 ^ (32 - 1) : Nat)) ((2 ^ (32 - 1) : Nat) - 1) (((n.val : ℝ)) : EReal) = (n.val : ℤ) := by
    show max (-((2 ^ (32 - 1) : Nat) : ℤ)) (min (((2 ^ (32 - 1) : Nat) : ℤ) - 1) (if (0 : ℝ) ≤ (n.val : ℝ) then ⌊(n.val : ℝ)⌋ else ⌈(n.val : ℝ)⌉)) = _
    rw [if_pos (Nat.cast_nonneg _), Int.floor_natCast]
    have := n.isLt
    norm_num
    omega
  unfold Ideal.fptosi
  rw [e]
  exact BitVec.ofInt_natCast 32 _

theorem succ_word (n : Fin 20) : IntOp.addi (BitVec.ofNat 32 n.val) 1#32 = BitVec.ofNat 32 (n.val + 1) := by
  show BitVec.ofNat 32 n.val + BitVec.ofNat 32 1 = _
  rw [BitVec.ofNat_add]

theorem cls_word (hg : Good (tgR x5 b) (prR x4)) (hu : Untied (tgR x5 b) (prR x4))
    (hb : ∀ t, tgR x5 b t 4 = (((lb b t).val : ℝ) : EReal)) :
    val_main_v115 (F := Ideal) x4 x5 (ix2 b p) = BitVec.ofNat 32 (clsR x4 x5 lb b p).val := by
  rw [v115_eq hg]
  unfold clsR
  by_cases hp : PosR x4 x5 b p
  · rw [if_pos hp, if_pos hp, v107_pos hg hu hp, hb, fptosi_coe, succ_word, Fin.val_succ]
  · rw [if_neg hp, if_neg hp]; rfl

/-! ## The log-softmax -/

theorem v230_eq (hx : ∀ b p c, (x1 (ix3 b p c) : EReal) = ((X b p c : ℝ) : EReal)) :
    ∃ m : ℝ, (val_main_v230 (F := Ideal) x1 (ix2 b p) : EReal) = (m : EReal) := by
  obtain ⟨i, -, e⟩ := fold_max_real (X b p)
  refine ⟨X b p i, ?_⟩
  pointwise [val_main_cst_41, val_main_v230]
  simp only [hx, c_bot]
  exact e

theorem idx_231 (c : Fin 1) : idx_main_v231 (ix3 b p c) = ix2 b p := by
  funext a
  match a with
  | ⟨0, _⟩ => rfl
  | ⟨1, _⟩ => rfl
theorem idx_236 (c : Fin 1) : idx_main_v236 (ix3 b p c) = ix2 b p := by
  funext a
  match a with
  | ⟨0, _⟩ => rfl
  | ⟨1, _⟩ => rfl
theorem idx_232 (c : Fin 21) : idx_main_v232 (ix3 b p c) = ix3 b p 0 := by
  funext a
  match a with
  | ⟨0, _⟩ => rfl
  | ⟨1, _⟩ => rfl
  | ⟨2, _⟩ => rfl
theorem idx_239 (c : Fin 21) : idx_main_v239 (ix3 b p c) = ix3 b p 0 := by
  funext a
  match a with
  | ⟨0, _⟩ => rfl
  | ⟨1, _⟩ => rfl
  | ⟨2, _⟩ => rfl
theorem idx_235 (c : Fin 21) : idx_main_v235 (ix2 b p) c = ix3 b p c := by
  funext a
  match a with
  | ⟨0, _⟩ => rfl
  | ⟨1, _⟩ => rfl
  | ⟨2, _⟩ => rfl

theorem exp_sub_real (a m : ℝ) (x y : EReal) (ha : x = (a : EReal)) (hm : y = (m : EReal)) :
    Ideal.exp (x - y) = ((Real.exp (a - m) : ℝ) : EReal) := by
  rw [ha, hm, ← EReal.coe_sub]; rfl

theorem v234_eq (hx : ∀ b p c, (x1 (ix3 b p c) : EReal) = ((X b p c : ℝ) : EReal)) (m : ℝ)
    (hm : (val_main_v230 (F := Ideal) x1 (ix2 b p) : EReal) = (m : EReal)) (c : Fin 21) :
    (val_main_v234 (F := Ideal) x1 (ix3 b p c) : EReal) = ((Real.exp (X b p c - m) : ℝ) : EReal) := by
  rw [val_main_v234_apply, val_main_v233_apply, val_main_v232_apply, idx_232, val_main_v231_apply, idx_231]
  exact exp_sub_real _ _ _ _ (hx b p c) hm

theorem v235_eq (hx : ∀ b p c, (x1 (ix3 b p c) : EReal) = ((X b p c : ℝ) : EReal)) (m : ℝ)
    (hm : (val_main_v230 (F := Ideal) x1 (ix2 b p) : EReal) = (m : EReal)) :
    (val_main_v235 (F := Ideal) x1 (ix2 b p) : EReal) = ((∑ c, Real.exp (X b p c - m) : ℝ) : EReal) := by
  rw [val_main_v235_apply, val_main_cst_42_apply, ← Cert.Body.coe_sum]
  refine (congrArg (· + _) Ideal.ofBits_zero_f32).trans ((zero_add _).trans (Finset.sum_congr rfl fun c _ => ?_))
  rw [idx_235]
  exact v234_eq hx m hm c

theorem lse_real (X : Fin 21 → ℝ) (m : ℝ) (c : Fin 21) (x y z : EReal) (hx : x = ((X c : ℝ) : EReal)) (hy : y = (m : EReal))
    (hz : z = ((∑ c, Real.exp (X c - m) : ℝ) : EReal)) : x - (y + Ideal.log z) = ((- lossOf X c : ℝ) : EReal) := by
  rw [hx, hy, hz, log_real (sum_exp_pos fun k => X k - m), ← EReal.coe_add, ← EReal.coe_sub, shifted]

theorem v240_eq (hx : ∀ b p c, (x1 (ix3 b p c) : EReal) = ((X b p c : ℝ) : EReal)) (c : Fin 21) :
    (val_main_v240 (F := Ideal) x1 (ix3 b p c) : EReal) = ((- lossOf (X b p) c : ℝ) : EReal) := by
  obtain ⟨m, hm⟩ := v230_eq (b := b) (p := p) hx
  rw [val_main_v240_apply, val_main_v239_apply, idx_239, val_main_v238_apply, val_main_v237_apply, val_main_v236_apply, idx_236,
    val_main_v231_apply, idx_231]
  exact lse_real (X b p) m c _ _ _ (hx b p c) hm (v235_eq hx m hm)

theorem word21 (n : Fin 21) (w : BitVec 32) (h : w = BitVec.ofNat 32 n.val) :
    Scalar.select (IntOp.cmpi CmpIPredicate.slt w 0#32) (IntOp.addi w 21#32) w = BitVec.ofNat 32 n.val := by
  rw [h, slt_ofNat _ (by omega), select_zero]

theorem word_cls (k : Fin 21) (h : val_main_v115 (F := Ideal) x4 x5 (ix2 b p) = BitVec.ofNat 32 k.val) :
    val_main_call11_v5 (F := Ideal) x4 x5 (ix4 b p 0 0) = BitVec.ofNat 32 k.val := by
  pointwise [val_main_v241, val_main_call11_c, val_main_call11_v0, val_main_call11_v1, val_main_call11_c_0, val_main_call11_v2, val_main_call11_v3, val_main_call11_v4, val_main_call11_v5]
  exact word21 k _ h

/-- The gather of a class by its word. -/
theorem gather_cls (x : S32x16320x21.Idx → EReal) (idx : IVec S32x16320x1x1 32) (k : Fin 21)
    (hk : idx (ix4 b p 0 0) = BitVec.ofNat 32 k.val) :
    Host.gather gather_S32x16320x21_S32x16320x1x1_S32x16320x1_n_2_01_01_2_3_111 x idx (ix3 b p 0) = x (ix3 b p k) := by
  unfold Host.gather
  congr 1
  funext a
  refine Fin.ext ?_
  show GatherDims.start _ _ idx a + GatherDims.batchCoord _ _ a + GatherDims.offCoord _ _ a = _
  match a with
  | ⟨0, _⟩ =>
    show GatherDims.start gather_S32x16320x21_S32x16320x1x1_S32x16320x1_n_2_01_01_2_3_111 (ix3 b p 0) idx 0
      + GatherDims.batchCoord gather_S32x16320x21_S32x16320x1x1_S32x16320x1_n_2_01_01_2_3_111 (ix3 b p 0) 0
      + GatherDims.offCoord gather_S32x16320x21_S32x16320x1x1_S32x16320x1_n_2_01_01_2_3_111 (ix3 b p 0) 0 = b.val
    rw [GatherDims.start_batching _ _ _ _ (by decide), GatherDims.offCoord_eq_zero _ _ _ (by decide)]
    unfold GatherDims.batchCoord
    rw [dif_pos (by decide), Nat.zero_add, Nat.add_zero]
    rfl
  | ⟨1, _⟩ =>
    show GatherDims.start gather_S32x16320x21_S32x16320x1x1_S32x16320x1_n_2_01_01_2_3_111 (ix3 b p 0) idx 1
      + GatherDims.batchCoord gather_S32x16320x21_S32x16320x1x1_S32x16320x1_n_2_01_01_2_3_111 (ix3 b p 0) 1
      + GatherDims.offCoord gather_S32x16320x21_S32x16320x1x1_S32x16320x1_n_2_01_01_2_3_111 (ix3 b p 0) 1 = p.val
    rw [GatherDims.start_batching _ _ _ _ (by decide), GatherDims.offCoord_eq_zero _ _ _ (by decide)]
    unfold GatherDims.batchCoord
    rw [dif_pos (by decide), Nat.zero_add, Nat.add_zero]
    rfl
  | ⟨2, _⟩ =>
    have hs : GatherDims.siIdx gather_S32x16320x21_S32x16320x1x1_S32x16320x1_n_2_01_01_2_3_111 (ix3 b p 0) ⟨0, Nat.one_pos⟩ = ix4 b p 0 0 := by
      funext d; refine Fin.ext ?_
      match d with
      | ⟨0, _⟩ => rfl
      | ⟨1, _⟩ => rfl
      | ⟨2, _⟩ => rfl
      | ⟨3, _⟩ => rfl
    show min (idx (GatherDims.siIdx gather_S32x16320x21_S32x16320x1x1_S32x16320x1_n_2_01_01_2_3_111 (ix3 b p 0) ⟨0, Nat.one_pos⟩)).toInt.toNat (21 - 1) + 0 + 0 = k.val
    rw [hs, hk, toInt_ofNat _ (by omega), Int.toNat_natCast]
    omega

theorem idx_243 : idx_main_v243 (ix2 b p) = ix3 b p 0 := by
  funext a
  match a with
  | ⟨0, _⟩ => exact Fin.ext (by show (b.val * 16320 + p.val) / 16320 = b.val; omega)
  | ⟨1, _⟩ => exact Fin.ext (by show (b.val * 16320 + p.val) / 1 % 16320 = p.val; omega)
  | ⟨2, _⟩ => rfl

/-- The loss of a prior. -/
def lsR (x4 : (⟨S16320x4, .f32⟩ : BufTy).Contents (Elt Ideal)) (x5 : (⟨S32x50x5, .f32⟩ : BufTy).Contents (Elt Ideal))
    (X : Fin 32 → Fin 16320 → Fin 21 → ℝ) (lb : Fin 32 → Fin 50 → Fin 20) (b : Fin 32) (p : Fin 16320) : ℝ :=
  lossOf (X b p) (clsR x4 x5 lb b p)

/-- The loss of a prior, where it may be mined. -/
def mnR (x4 : (⟨S16320x4, .f32⟩ : BufTy).Contents (Elt Ideal)) (x5 : (⟨S32x50x5, .f32⟩ : BufTy).Contents (Elt Ideal))
    (X : Fin 32 → Fin 16320 → Fin 21 → ℝ) (lb : Fin 32 → Fin 50 → Fin 20) (b : Fin 32) (p : Fin 16320) : ℝ :=
  if PosR x4 x5 b p then 0 else lsR x4 x5 X lb b p

theorem mnR_nonneg : 0 ≤ mnR x4 x5 X lb b p := by
  unfold mnR; split
  · exact le_rfl
  · exact lossOf_nonneg _ _

section At
variable (hx : ∀ b p c, (x1 (ix3 b p c) : EReal) = ((X b p c : ℝ) : EReal))
  (hg : ∀ b, Good (tgR x5 b) (prR x4)) (hu : ∀ b, Untied (tgR x5 b) (prR x4))
  (hb : ∀ b t, tgR x5 b t 4 = (((lb b t).val : ℝ) : EReal)) (hl : ∀ b, Labels (tgR x5 b))

include hx hg hu hb in
theorem v243_eq : (val_main_v243 (F := Ideal) x1 x4 x5 (ix2 b p) : EReal) = ((- lsR x4 x5 X lb b p : ℝ) : EReal) := by
  rw [val_main_v243_apply, idx_243]
  exact (gather_cls _ _ (clsR x4 x5 lb b p) (word_cls _ (cls_word (hg b) (hu b) (hb b)))).trans (v240_eq hx _)

theorem v1_at : (val_main_call12_v1 (F := Ideal) (ix2 b p) : EReal) = 0 := by
  pointwise [val_main_cst_43, val_main_call12_v0, val_main_call12_v1]
  exact Ideal.ofBits_zero_f32
theorem v15_at : (val_main_call15_v1 (F := Ideal) (ix2 b p) : EReal) = 0 := by
  pointwise [val_main_cst_47, val_main_call15_v0, val_main_call15_v1]
  exact Ideal.ofBits_zero_f32

include hx hg hu hb hl in
theorem v245_eq : (val_main_v245 (F := Ideal) x1 x4 x5 (ix2 b p) : EReal) = ((mnR x4 x5 X lb b p : ℝ) : EReal) := by
  rw [val_main_v245_apply, val_main_v244_apply, v117_eq (hg b) (hl b)]
  unfold mnR
  by_cases hp : PosR x4 x5 b p
  · rw [if_pos hp, decide_eq_true hp, EReal.coe_zero]
    exact (select_one _ _).trans v1_at
  · rw [if_neg hp, decide_eq_false hp]
    refine (select_zero _ _).trans ?_
    show -(val_main_v243 (F := Ideal) x1 x4 x5 (ix2 b p) : EReal) = _
    rw [v243_eq hx hg hu hb, ← EReal.coe_neg, neg_neg]

end At

end Cert.Ref

end
-- ==== Proof.RefMine.lean ====
/-
  The priors the reference mines: how many, and what their ranks are.
-/
module

public import proofs.«01_k».proof.Proof.Mask
public import proofs.«01_k».proof.Proof.Loss
public import Idealize.ShloMosaic.Lib.SortFacts

@[expose] public section

set_option maxRecDepth 16384

noncomputable section

namespace Cert.Ref

open Idealize.ShloMosaic Cert.Spec Cert.ReferenceIdeal Cert.ReferenceIdeal.Read Cert.On_separated.Own

variable {x1 : (⟨S32x16320x21, .f32⟩ : BufTy).Contents (Elt Ideal)}
  {x4 : (⟨S16320x4, .f32⟩ : BufTy).Contents (Elt Ideal)} {x5 : (⟨S32x50x5, .f32⟩ : BufTy).Contents (Elt Ideal)}
  {b : Fin 32} {p : Fin 16320} {X : Fin 32 → Fin 16320 → Fin 21 → ℝ} {lb : Fin 32 → Fin 50 → Fin 20}

section At
variable (hx : ∀ b p c, (x1 (ix3 b p c) : EReal) = ((X b p c : ℝ) : EReal))
  (hg : ∀ b, Good (tgR x5 b) (prR x4)) (hu : ∀ b, Untied (tgR x5 b) (prR x4))
  (hb : ∀ b t, tgR x5 b t 4 = (((lb b t).val : ℝ) : EReal)) (hl : ∀ b, Labels (tgR x5 b))

/-! ## The ranks -/

theorem along_ix2 (k : Fin 16320) : Shape.Idx.along (s := S32x16320) (ix2 b p) (⟨1, Nat.lt_succ_self 1⟩ : Fin 2) k = ix2 b k := by
  funext a
  match a with
  | ⟨0, _⟩ => rfl
  | ⟨1, _⟩ => rfl

theorem rank_of {α : Type} (cmp : α × BitVec 32 → α × BitVec 32 → BitVec 1) (x : S32x16320.Idx → α) (y : S32x16320.Idx → BitVec 32)
    (hy : ∀ b p, y (ix2 b p) = BitVec.ofNat 32 p.val) (b : Fin 32) :
    ∃ f : Fin 16320 → Fin 16320, Function.Injective f ∧ ∀ p, (Host.sort2 S32x16320 1 cmp x y).2 (ix2 b p) = BitVec.ofNat 32 (f p).val := by
  refine ⟨sortedFrom fun k k' => cmp (x (ix2 b k), y (ix2 b k)) (x (ix2 b k'), y (ix2 b k')) == 1#1, sortedFrom_injective _, fun p => ?_⟩
  unfold Host.sort2
  rw [dif_pos (by decide : 1 < S32x16320.rank)]
  refine (congrArg y (along_ix2 (b := b) (p := p) _)).trans ((hy _ _).trans ?_)
  have key : (fun k k' : Fin 16320 => cmp (x (Shape.Idx.along (s := S32x16320) (ix2 b p) (⟨1, Nat.lt_succ_self 1⟩ : Fin 2) k),
        y (Shape.Idx.along (s := S32x16320) (ix2 b p) (⟨1, Nat.lt_succ_self 1⟩ : Fin 2) k))
      (x (Shape.Idx.along (s := S32x16320) (ix2 b p) (⟨1, Nat.lt_succ_self 1⟩ : Fin 2) k'),
        y (Shape.Idx.along (s := S32x16320) (ix2 b p) (⟨1, Nat.lt_succ_self 1⟩ : Fin 2) k')) == 1#1)
      = fun k k' => cmp (x (ix2 b k), y (ix2 b k)) (x (ix2 b k'), y (ix2 b k')) == 1#1 := by
    funext k k'
    rw [along_ix2, along_ix2]
  exact congrArg (fun g => BitVec.ofNat 32 (sortedFrom g p).val) key

theorem v248_rank (x1 : (⟨S32x16320x21, .f32⟩ : BufTy).Contents (Elt Ideal)) (x4 : (⟨S16320x4, .f32⟩ : BufTy).Contents (Elt Ideal))
    (x5 : (⟨S32x50x5, .f32⟩ : BufTy).Contents (Elt Ideal)) (b : Fin 32) :
    ∃ f : Fin 16320 → Fin 16320, Function.Injective f ∧ ∀ p, val_main_v248 (F := Ideal) x1 x4 x5 (ix2 b p) = BitVec.ofNat 32 (f p).val :=
  rank_of _ _ _ (fun b p => by pointwise [val_main_call14_v0]) b

/-- How many priors of an image are matched. -/
def nmR (x4 : (⟨S16320x4, .f32⟩ : BufTy).Contents (Elt Ideal)) (x5 : (⟨S32x50x5, .f32⟩ : BufTy).Contents (Elt Ideal)) (b : Fin 32) : ℕ :=
  (Finset.univ.filter fun p => PosR x4 x5 b p).card

theorem nmR_le : nmR x4 x5 b ≤ 16320 := (Finset.card_le_univ _).trans (by rw [Fintype.card_fin])

include hg in
theorem nmR_pos : 1 ≤ nmR x4 x5 b :=
  Finset.card_pos.2 ⟨best (tgR x5 b) (prR x4) 0, Finset.mem_filter.2 ⟨Finset.mem_univ _, (forced_mt (hg b) _ ⟨0, rfl⟩).2.2⟩⟩

include hg hl in
theorem v251_eq : val_main_v251 (F := Ideal) x4 x5 (ix2 b 0) = BitVec.ofNat 32 (nmR x4 x5 b) := by
  pointwise [val_main_v249, val_main_c_44, val_main_v250, val_main_v251]
  have e : ∀ p, val_main_v117 (F := Ideal) x4 x5 (ix2 b p) = BitVec.ofBool (decide (PosR x4 x5 b p)) := fun p => v117_eq (hg b) (hl b)
  simp only [e]
  exact fold_addi_count fun p => PosR x4 x5 b p

theorem v252_at : val_main_v252 (F := Ideal) (ix2 b 0) = 3#32 := by pointwise [val_main_c_45, val_main_v252]

theorem slt_iff (a c : ℕ) (ha : a < 2 ^ 31) (hc : c < 2 ^ 31) :
    IntOp.cmpi CmpIPredicate.slt (BitVec.ofNat 32 a) (BitVec.ofNat 32 c) = BitVec.ofBool (decide (a < c)) := by
  show BitVec.ofBool ((BitVec.ofNat 32 a).slt (BitVec.ofNat 32 c)) = _
  congr 1
  rw [BitVec.slt, toInt_ofNat _ ha, toInt_ofNat _ hc]
  exact decide_eq_decide.2 Int.ofNat_lt

theorem min_word (n : ℕ) (hn : n ≤ 16320) :
    IntOp.minsi (IntOp.muli 3#32 (BitVec.ofNat 32 n)) 16319#32 = BitVec.ofNat 32 (min (3 * n) 16319) := by
  have e : IntOp.muli 3#32 (BitVec.ofNat 32 n) = BitVec.ofNat 32 (3 * n) := by
    show BitVec.ofNat 32 3 * BitVec.ofNat 32 n = _
    rw [BitVec.ofNat_mul]
  rw [e]
  show (if (BitVec.ofNat 32 (3 * n)).slt (BitVec.ofNat 32 16319) = true then BitVec.ofNat 32 (3 * n) else BitVec.ofNat 32 16319) = _
  rw [BitVec.slt, toInt_ofNat _ (by omega), toInt_ofNat _ (by omega)]
  by_cases h : 3 * n < 16319
  · rw [if_pos (decide_eq_true (Int.ofNat_lt.2 h)), min_eq_left h.le]
  · rw [if_neg (by rw [decide_eq_false (fun h' => h (Int.ofNat_lt.1 h'))]; decide), min_eq_right (not_lt.1 h)]

/-- The priors mined. -/
def mined (x1 : (⟨S32x16320x21, .f32⟩ : BufTy).Contents (Elt Ideal)) (x4 : (⟨S16320x4, .f32⟩ : BufTy).Contents (Elt Ideal))
    (x5 : (⟨S32x50x5, .f32⟩ : BufTy).Contents (Elt Ideal)) (b : Fin 32) : Finset (Fin 16320) :=
  Finset.univ.filter fun p => MinedB (val_main_v248 (F := Ideal) x1 x4 x5) (val_main_v251 (F := Ideal) x4 x5) (val_main_v252 (F := Ideal)) b p = 1#1

include hg hl in
theorem mined_card : (mined x1 x4 x5 b).card = min (3 * nmR x4 x5 b) 16319 := by
  obtain ⟨f, hf, e⟩ := v248_rank x1 x4 x5 b
  rw [← card_rank hf (min (3 * nmR x4 x5 b) 16319) (by omega)]
  refine congrArg Finset.card (Finset.filter_congr fun p _ => ?_)
  unfold MinedB
  rw [e, v251_eq hg hl, v252_at, min_word _ nmR_le, slt_iff _ _ (by have := (f p).isLt; omega) (by omega)]
  by_cases h : (f p).val < min (3 * nmR x4 x5 b) 16319
  · rw [decide_eq_true h]; exact iff_of_true rfl h
  · rw [decide_eq_false h]; exact iff_of_false (by decide) h

end At

end Cert.Ref

end
-- ==== Proof.RefSum.lean ====
/-
  The reference's second result: the losses of the matched priors and of those mined.
-/
module

public import proofs.«01_k».proof.Proof.RefCls
public import proofs.«01_k».proof.Proof.RefMine

@[expose] public section

set_option maxRecDepth 16384

noncomputable section

namespace Cert.Ref

open Idealize.ShloMosaic Cert.Spec Cert.ReferenceIdeal Cert.ReferenceIdeal.Read Cert.On_separated.Own

variable {x1 : (⟨S32x16320x21, .f32⟩ : BufTy).Contents (Elt Ideal)}
  {x4 : (⟨S16320x4, .f32⟩ : BufTy).Contents (Elt Ideal)} {x5 : (⟨S32x50x5, .f32⟩ : BufTy).Contents (Elt Ideal)}
  {b : Fin 32} {p : Fin 16320} {X : Fin 32 → Fin 16320 → Fin 21 → ℝ} {lb : Fin 32 → Fin 50 → Fin 20}

section At
variable (hx : ∀ b p c, (x1 (ix3 b p c) : EReal) = ((X b p c : ℝ) : EReal))
  (hg : ∀ b, Good (tgR x5 b) (prR x4)) (hu : ∀ b, Untied (tgR x5 b) (prR x4))
  (hb : ∀ b t, tgR x5 b t 4 = (((lb b t).val : ℝ) : EReal)) (hl : ∀ b, Labels (tgR x5 b))

/-! ## The second result -/

/-- An image's classification loss. -/
def clR (x1 : (⟨S32x16320x21, .f32⟩ : BufTy).Contents (Elt Ideal)) (x4 : (⟨S16320x4, .f32⟩ : BufTy).Contents (Elt Ideal))
    (x5 : (⟨S32x50x5, .f32⟩ : BufTy).Contents (Elt Ideal)) (X : Fin 32 → Fin 16320 → Fin 21 → ℝ) (lb : Fin 32 → Fin 50 → Fin 20)
    (b : Fin 32) : ℝ :=
  (∑ p, if PosR x4 x5 b p then lsR x4 x5 X lb b p else 0) + ∑ p ∈ mined x1 x4 x5 b, mnR x4 x5 X lb b p

include hx hg hu hb hl in
theorem v259_eq : (val_main_v259 (F := Ideal) x1 x4 x5 (ix2 b p) : EReal)
    = ((-((if PosR x4 x5 b p then lsR x4 x5 X lb b p else 0) + (if p ∈ mined x1 x4 x5 b then mnR x4 x5 X lb b p else 0)) : ℝ) : EReal) := by
  rw [val_main_v259_apply, val_main_v258_apply, v117_eq (hg b) (hl b)]
  have e : val_main_v257 (F := Ideal) x1 x4 x5 (ix2 b p)
      = MinedB (val_main_v248 (F := Ideal) x1 x4 x5) (val_main_v251 (F := Ideal) x4 x5) (val_main_v252 (F := Ideal)) b p := by
    pointwise [val_main_v253, val_main_c_46, val_main_v254, val_main_v255, val_main_v256, val_main_v257]
    rfl
  have hm : p ∈ mined x1 x4 x5 b ↔ val_main_v257 (F := Ideal) x1 x4 x5 (ix2 b p) = 1#1 := by
    rw [e]; exact Finset.mem_filter.trans (and_iff_right (Finset.mem_univ _))
  have h3 := v243_eq (b := b) (p := p) hx hg hu hb
  have h0 := v15_at (b := b) (p := p)
  have bit : ∀ w : BitVec 1, w ≠ 1#1 → w = 0#1 := by decide
  unfold mnR
  by_cases hp : PosR x4 x5 b p
  · have o : IntOp.ori (BitVec.ofBool (decide (PosR x4 x5 b p))) (val_main_v257 (F := Ideal) x1 x4 x5 (ix2 b p)) = 1#1 := by
      rw [decide_eq_true hp]
      generalize val_main_v257 (F := Ideal) x1 x4 x5 (ix2 b p) = w
      revert w; decide
    rw [o, if_pos hp, if_pos hp, ite_self, add_zero]
    exact (select_one _ _).trans h3
  · by_cases hq : p ∈ mined x1 x4 x5 b
    · rw [decide_eq_false hp, hm.1 hq, if_neg hp, if_pos hq, if_neg hp, zero_add]
      exact (select_one _ _).trans h3
    · rw [decide_eq_false hp, bit _ (mt hm.2 hq), if_neg hp, if_neg hq, add_zero, neg_zero, EReal.coe_zero]
      exact (select_zero _ _).trans h0

theorem total_neg (f : Fin 32 → Fin 16320 → EReal) (a m : Fin 32 → Fin 16320 → ℝ) (S : Fin 32 → Finset (Fin 16320))
    (h : ∀ b p, f b p = ((-(a b p + if p ∈ S b then m b p else 0) : ℝ) : EReal)) :
    -(∑ b, ∑ p, f b p) = ((∑ b, ((∑ p, a b p) + ∑ p ∈ S b, m b p) : ℝ) : EReal) := by
  have e : ∑ b, ∑ p, f b p = ((-(∑ b, ((∑ p, a b p) + ∑ p ∈ S b, m b p)) : ℝ) : EReal) := by
    rw [← Finset.sum_neg_distrib, ← Cert.Body.coe_sum]
    refine Finset.sum_congr rfl fun b _ => ?_
    rw [Finset.sum_congr rfl fun p _ => h b p, Cert.Body.coe_sum, Finset.sum_neg_distrib,
      Finset.sum_add_distrib, Finset.sum_ite_mem, Finset.univ_inter]
  rw [e, ← EReal.coe_neg, neg_neg]

theorem v260_at : (val_main_v260 (F := Ideal) x1 x4 x5 ix0 : EReal) = ∑ b, ∑ p, (val_main_v259 (F := Ideal) x1 x4 x5 (ix2 b p) : EReal) := by
  unfold val_main_v260
  generalize val_main_v259 (F := Ideal) x1 x4 x5 = y
  pointwise [val_main_cst_48]

include hx hg hu hb hl in
theorem v261_eq : (val_main_v261 (F := Ideal) x1 x4 x5 ix0 : EReal) = ((∑ b, clR x1 x4 x5 X lb b : ℝ) : EReal) := by
  rw [val_main_v261_apply]
  refine (congrArg (fun z : EReal => -z) v260_at).trans ?_
  exact total_neg _ _ _ _ fun b p => v259_eq hx hg hu hb hl

include hx hg hu hb hl in
theorem v263_eq : (val_main_v263 (F := Ideal) x1 x4 x5 ix0 : EReal)
    = Ideal.div ((∑ b, clR x1 x4 x5 X lb b : ℝ) : EReal) (max (npR x4 x5) 1) := by
  have e := v261_eq hx hg hu hb hl
  have e2 := v228_eq hg hl
  rw [val_main_v263_apply, val_main_v229_apply, val_main_cst_40_apply]
  rw [show (val_main_v261 (F := Ideal) x1 x4 x5 ix0) = _ from e, show (val_main_v228 (F := Ideal) x4 x5 ix0) = _ from e2]
  exact congrArg (fun z : EReal => Ideal.div _ (max _ z)) (c_one.trans EReal.coe_one)

end At

end Cert.Ref

end
-- ==== Proof.Value2.lean ====
/-
  The second result of the kernel over extended reals: the classification losses of the matched priors and of those
  mined over all images, over the number of matched priors.
-/
module

public import proofs.«01_k».proof.Proof.Value
public import proofs.«01_k».proof.Proof.HostCls
public import proofs.«01_k».proof.Proof.Image
public import proofs.«01_k».proof.Proof.RefSum

@[expose] public section

set_option maxRecDepth 16384

noncomputable section

namespace Cert.KernelIdeal.Own

open Idealize.ShloMosaic Idealize.ShloMosaic.TcCoe Idealize.ShloMosaic.Tactic
open Cert.KernelIdeal Cert.KernelIdeal.Gen Cert.Spec Cert.Body
open Cert.Ref (clR clsR lsR mnR mined nmR nmR_pos mined_card mnR_nonneg)

variable (m : (ℓ : Loc nD τ sig) → Buf (Elt Ideal) ℓ) (ρ : Dev nD → PrngReg)

/-- An image's confidences. -/
def cfK (c : Dev nD) (b : Fin 32) : Fin 16320 → Fin 21 → EReal := fun p j => m ((c : Thread nD τ).loc main_arg1) (ix3 b p j)

theorem confs0 (c : Dev nD) (t : Fin 16) (j : Fin 21) (R l : Fin 128) :
    (iblk0 (V1 m ρ) c 0 t (ix4 0 j R l) : EReal) = extC (cfK m c ⟨t.val, by omega⟩) (pj R l) j :=
  (blkc0 (V1 m ρ) c t j R l).trans (conf0 (W0 m ρ c) _ j R l)

theorem confs1 (c : Dev nD) (t : Fin 16) (j : Fin 21) (R l : Fin 128) :
    (iblk1 (V3 m ρ) c 0 t (ix4 0 j R l) : EReal) = extC (cfK m c ⟨16 + t.val, by omega⟩) (pj R l) j := by
  refine (blkc1 (V3 m ρ) c t j R l).trans ((conf1 (W2 m ρ c) _ j R l).trans ?_)
  have e : W2 m ρ c (Proc.devRef .tc main_arg1) = m ((c : Thread nD τ).loc main_arg1) := W2_args m ρ c main_arg1 (by decide)
  rw [e]
  rfl

theorem pad_zero : (FloatOps.sitofp (F := Ideal) .f32 (0#32) : EReal) = ((0 : ℝ) : EReal) := by
  show (((((0#32).toInt : ℤ) : ℝ)) : EReal) = _
  norm_num

theorem extC_real {cf : Fin 16320 → Fin 21 → EReal} {X : Fin 16320 → Fin 21 → ℝ} (h : ∀ p j, cf p j = ((X p j : ℝ) : EReal))
    (p : Fin 16384) (j : Fin 21) : extC cf p j = ((padX X p j : ℝ) : EReal) := by
  unfold extC padX
  by_cases hp : p.val < 16320
  · rw [dif_pos hp, dif_pos hp, h]
  · rw [dif_neg hp, dif_neg hp]
    exact pad_zero

section Image
variable {x1 : FVec Ideal Cert.ReferenceIdeal.S32x16320x21 .f32} {x4 : FVec Ideal Cert.ReferenceIdeal.S16320x4 .f32}
  {x5 : FVec Ideal Cert.ReferenceIdeal.S32x50x5 .f32} {X : Fin 32 → Fin 16320 → Fin 21 → ℝ} {lb : Fin 32 → Fin 50 → Fin 20}

/-- Some are not mined. -/
theorem some_left (hg : ∀ b, Good (Cert.Ref.tgR x5 b) (Cert.Ref.prR x4)) (hl : ∀ b, Cert.Ref.Labels (Cert.Ref.tgR x5 b)) (b : Fin 32) :
    ∃ q, q ∉ mined x1 x4 x5 b := by
  by_contra hno
  have hall : mined x1 x4 x5 b = Finset.univ := Finset.eq_univ_iff_forall.2 fun q => by
    by_contra hq
    exact hno ⟨q, hq⟩
  have e := mined_card (x1 := x1) (b := b) hg hl
  rw [hall, Finset.card_univ, Fintype.card_fin] at e
  omega

/-- Some are mined. -/
theorem some_mined (hg : ∀ b, Good (Cert.Ref.tgR x5 b) (Cert.Ref.prR x4)) (hl : ∀ b, Cert.Ref.Labels (Cert.Ref.tgR x5 b)) (b : Fin 32) :
    (mined x1 x4 x5 b).Nonempty := by
  refine Finset.card_pos.1 ?_
  have e := mined_card (x1 := x1) (b := b) hg hl
  have e2 := nmR_pos (b := b) hg
  omega

theorem image_cl {y1 : FVec Ideal S1x21x128x128 .f32} {y2 : FVec Ideal S1x4x128x128 .f32} {y3 : FVec Ideal S4x128x128 .f32}
    {y4 : FVec Ideal S1x50x5 .f32}
    (hg : ∀ b, Good (Cert.Ref.tgR x5 b) (Cert.Ref.prR x4)) (hl : ∀ b, Cert.Ref.Labels (Cert.Ref.tgR x5 b))
    (hx : ∀ b p j, (x1 (ix3 b p j) : EReal) = ((X b p j : ℝ) : EReal))
    (hb : ∀ b t, Cert.Ref.tgR x5 b t 4 = (((lb b t).val : ℝ) : EReal)) (b : Fin 32)
    (hm : ∃ i p0, Mined (mnR x4 x5 X lb b) (mined x1 x4 x5 b) (mnR x4 x5 X lb b i) p0)
    (h : Blocks y3 y4 (Cert.Ref.tgR x5 b) (ext (Cert.Ref.prR x4)))
    (hc : ∀ (j : Fin 21) (R l : Fin 128), (y1 (ix4 0 j R l) : EReal) = extC (fun p j => x1 (ix3 b p j)) (pj R l) j)
    (i : Fin 8) (l : Fin 128) : (out6 y1 y2 y3 y4 (ix3 0 i l) : EReal) = ((clR x1 x4 x5 X lb b : ℝ) : EReal) := by
  obtain ⟨a, p0, hm⟩ := hm
  exact image_cls (hg b) (X b) (clsR x4 x5 lb b) (lb b) (hb b) (fun p => rfl) h
    (fun j R l => (hc j R l).trans (extC_real (fun p j => hx b p j) _ _)) hm (some_left hg hl b) (mined_card hg hl) i l

end Image

section Second
variable {m} {c : Dev nD} {X : Fin 32 → Fin 16320 → Fin 21 → ℝ} {lb : Fin 32 → Fin 50 → Fin 20}
  (hg : ∀ b, Good (tgK m c b) (prK m c)) (hl : ∀ b, Cert.Ref.Labels (tgK m c b))
  (hx : ∀ b p j, cfK m c b p j = ((X b p j : ℝ) : EReal))
  (hb : ∀ b t, tgK m c b t 4 = (((lb b t).val : ℝ) : EReal))

/-- The arguments. -/
abbrev a1 (m : (ℓ : Loc nD τ sig) → Buf (Elt Ideal) ℓ) (c : Dev nD) : FVec Ideal Cert.ReferenceIdeal.S32x16320x21 .f32 := m ((c : Thread nD τ).loc main_arg1)
abbrev a4 (m : (ℓ : Loc nD τ sig) → Buf (Elt Ideal) ℓ) (c : Dev nD) : FVec Ideal Cert.ReferenceIdeal.S16320x4 .f32 := m ((c : Thread nD τ).loc main_arg4)
abbrev a5 (m : (ℓ : Loc nD τ sig) → Buf (Elt Ideal) ℓ) (c : Dev nD) : FVec Ideal Cert.ReferenceIdeal.S32x50x5 .f32 := m ((c : Thread nD τ).loc main_arg5)

variable (hm : ∀ b, ∃ i p0, Mined (mnR (a4 m c) (a5 m c) X lb b) (mined (a1 m c) (a4 m c) (a5 m c) b) (mnR (a4 m c) (a5 m c) X lb b i) p0)
include hg hl hx hb hm

theorem cl0 (t : Fin 16) : (W4 m ρ c (Proc.devRef .tc main_call0_v15_1) (ix3 t 0 0) : EReal)
    = ((clR (a1 m c) (a4 m c) (a5 m c) X lb ⟨t.val, by omega⟩ : ℝ) : EReal) := by
  have e : W4 m ρ c (Proc.devRef .tc main_call0_v15_1) = (dat0 (V1 m ρ) c).arrAt 5 cfg0.N :=
    (W4_of m ρ c main_call0_v15_1 (by decide)).trans ((W3_of m ρ c main_call0_v15_1 (by decide)).trans (W2_arr m ρ c 5))
  rw [e, arr0_5]
  exact image_cl (x1 := a1 m c) (x4 := a4 m c) (x5 := a5 m c) hg hl hx hb _ (hm _) (blocks0 m ρ c t) (confs0 m ρ c t) 0 0

theorem cl1 (t : Fin 16) : (W4 m ρ c (Proc.devRef .tc main_call0_v25_1) (ix3 t 0 0) : EReal)
    = ((clR (a1 m c) (a4 m c) (a5 m c) X lb ⟨16 + t.val, by omega⟩ : ℝ) : EReal) := by
  have e : W4 m ρ c (Proc.devRef .tc main_call0_v25_1) = (dat1 (V3 m ρ) c).arrAt 5 cfg1.N := W4_arr m ρ c 5
  rw [e, arr1_5]
  exact image_cl (x1 := a1 m c) (x4 := a4 m c) (x5 := a5 m c) hg hl hx hb _ (hm _) (blocks1 m ρ c t) (confs1 m ρ c t) 0 0

/-- The second result. -/
theorem value1 : (W5 m ρ c (Proc.devRef .tc main_v0_1) ix0 : EReal) =
    Ideal.div ((∑ b, clR (a1 m c) (a4 m c) (a5 m c) X lb b : ℝ) : EReal) (max (∑ b, ∑ p, npK m c b p) 1) := by
  refine (res1 (W4 m ρ c) _ _ _ _ (cl0 ρ hg hl hx hb hm) (cl1 ρ hg hl hx hb hm) (np0 ρ hg) (np1 ρ hg)).trans ?_
  rw [sum_halves fun b => ((clR (a1 m c) (a4 m c) (a5 m c) X lb b : ℝ) : EReal), sum_halves fun b => ∑ p, npK m c b p, coe_sum]

end Second

end Cert.KernelIdeal.Own

end
-- ==== Proof.Algebraic.lean ====
/-
  The two programs side by side: the kernel's results over extended reals are the reference's, the second
  one where the mask is set.
-/
module

public import proofs.«01_k».proof.Defs
public import proofs.«01_k».proof.Proof.Gen.On_separated
public import proofs.«01_k».proof.Proof.Gen.ReferenceIdeal
public import proofs.«01_k».proof.Proof.Gen.ReferenceIdeal.Run
public import proofs.«01_k».proof.Proof.Gen.ReferenceIdeal.Read
public import proofs.«01_k».proof.Proof.Facts
public import proofs.«01_k».proof.Proof.Value2
public import proofs.«01_k».proof.Proof.Mask
public import Idealize.ShloMosaic.Lib.Quiescent

@[expose] public section

set_option maxRecDepth 16384

noncomputable section

namespace Cert.Sides

open Idealize.ShloMosaic Idealize.SL.Sem

/-- The reference leaves its arguments as they were, and it has no counter to move. -/
theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0 :=
  (θ_run _ _ _).mono (fun r h => ⟨fun c => (h c).2.2, sem_eq_zero_of_no_sems (by decide) r.2⟩) (Cert.ReferenceIdeal.Value.run m ρ)

section First
open Cert.ReferenceIdeal Cert.ReferenceIdeal.Read

/-- The reference's first result over the arguments. -/
theorem ref_first (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v262) = val_main_v262 (F := Ideal) (m ((c.tc : Thread nD τ).loc main_arg0))
        (m ((c.tc : Thread nD τ).loc main_arg4)) (m ((c.tc : Thread nD τ).loc main_arg5)) :=
  (θ_run _ _ _).mono (fun r h c => (h c).1.trans (val_main_v262_eq (F := Ideal) (StableHlo.launchContents m c))) (Cert.ReferenceIdeal.Value.run m ρ)

/-- The reference's second result over the arguments. -/
theorem ref_second (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v263) = val_main_v263 (F := Ideal) (m ((c.tc : Thread nD τ).loc main_arg1))
        (m ((c.tc : Thread nD τ).loc main_arg4)) (m ((c.tc : Thread nD τ).loc main_arg5)) :=
  (θ_run _ _ _).mono (fun r h c => (h c).2.1.trans (val_main_v263_eq (F := Ideal) (StableHlo.launchContents m c))) (Cert.ReferenceIdeal.Value.run m ρ)

end First

/-- The kernel's first result is the reference's, of the same arguments. -/
theorem first_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (h : Cert.Pre_well_posed.Own.All (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))) :
    (Cert.ReferenceIdeal.Read.val_main_v262 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) ix0 : EReal)
    = Cert.KernelIdeal.Own.W5 m ρ c (Proc.devRef .tc Cert.KernelIdeal.main_v0_0) ix0 :=
  (Cert.Ref.v262_eq (Cert.Pre_well_posed.Own.good h) (Cert.Pre_well_posed.Own.untied h) (Cert.Pre_well_posed.Own.labels h)).trans
    (Cert.KernelIdeal.Own.value0 ρ (Cert.Pre_well_posed.Own.good h)).symm

open Cert.Ref in
/-- What the mask says of the losses mined. -/
theorem mined_apart {x1 : FVec Ideal Cert.ReferenceIdeal.S32x16320x21 .f32} {x4 : FVec Ideal Cert.ReferenceIdeal.S16320x4 .f32}
    {x5 : FVec Ideal Cert.ReferenceIdeal.S32x50x5 .f32} {X : Fin 32 → Fin 16320 → Fin 21 → ℝ} {lb : Fin 32 → Fin 50 → Fin 20}
    (hx : ∀ b p j, (x1 (ix3 b p j) : EReal) = ((X b p j : ℝ) : EReal))
    (hg : ∀ b, Cert.Spec.Good (tgR x5 b) (prR x4)) (hu : ∀ b, Cert.Spec.Untied (tgR x5 b) (prR x4))
    (hb : ∀ b t, tgR x5 b t 4 = (((lb b t).val : ℝ) : EReal)) (hl : ∀ b, Labels (tgR x5 b)) (b : Fin 32)
    (h : Cert.On_separated.Own.c1 (Cert.ReferenceIdeal.Read.val_main_v245 (F := Ideal) x1 x4 x5)
      (Cert.ReferenceIdeal.Read.val_main_v248 (F := Ideal) x1 x4 x5) (Cert.ReferenceIdeal.Read.val_main_v251 (F := Ideal) x4 x5)
      (Cert.ReferenceIdeal.Read.val_main_v252 (F := Ideal)) (ix1 b) = 1#1) :
    ∃ i p0, Cert.Body.Mined (mnR x4 x5 X lb b) (mined x1 x4 x5 b) (mnR x4 x5 X lb b i) p0 := by
  have e := Cert.On_separated.Own.apart_of _ h
  have e2 : ∀ p, (Cert.ReferenceIdeal.Read.val_main_v245 (F := Ideal) x1 x4 x5 (ix2 b p) : EReal) = _ :=
    fun p => v245_eq hx hg hu hb hl
  simp only [e2] at e
  exact Cert.Spec.mined_of _ _ _ (fun p => (by unfold mined; rw [Finset.mem_filter]; exact ⟨fun h => ⟨Finset.mem_univ _, h⟩, fun h => h.2⟩))
    (fun p => mnR_nonneg) (Cert.KernelIdeal.Own.some_mined hg hl b) (Cert.KernelIdeal.Own.some_left hg hl b) e

/-- The kernel's second result is the reference's, of the same arguments, where the mask is set. -/
theorem second_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (h : Cert.Pre_well_posed.Own.All (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)))
    (hs : (Cert.On_separated.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))).2 ix0 = 1#1) :
    (Cert.ReferenceIdeal.Read.val_main_v263 (F := Ideal)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) ix0 : EReal)
    = Cert.KernelIdeal.Own.W5 m ρ c (Proc.devRef .tc Cert.KernelIdeal.main_v0_1) ix0 := by
  have hg := Cert.Pre_well_posed.Own.good h
  have hu := Cert.Pre_well_posed.Own.untied h
  have hl := Cert.Pre_well_posed.Own.labels h
  rw [Cert.On_separated.Own.split] at hs
  obtain ⟨s1, s2, s3⟩ := Cert.On_separated.Own.parts hs
  have hx : ∀ b p j, ∃ y : ℝ, _ = (y : EReal) := fun b p j => Cert.On_separated.Own.finite_of b p j (s2 b p j)
  choose X hx using hx
  have hb : ∀ b t, ∃ n : Fin 20,
      Cert.Ref.tgR (m ((c.tc : Thread Cert.KernelIdeal.nD Cert.KernelIdeal.τ).loc Cert.KernelIdeal.main_arg5)) b t 4 = ((n.val : ℝ) : EReal) := fun b t =>
    Cert.Spec.label_nat (hl b t).1 (hl b t).2 (Cert.On_separated.Own.whole_of b t (s3 b t))
  choose lb hb using hb
  have hm := fun b => mined_apart hx hg hu hb hl b (s1 b)
  exact (Cert.Ref.v263_eq hx hg hu hb hl).trans (Cert.KernelIdeal.Own.value1 ρ hg hl hx hb hm).symm

theorem algebraic : Cert.algebraic_KernelIdeal_ReferenceIdeal_on_separated_pre_well_posed := by
  intro m g m' g' hpre hagree
  refine ⟨fun c => Cert.KernelIdeal.Own.W5 m g c (Proc.devRef .tc Cert.KernelIdeal.main_v0_0),
    fun c => Cert.KernelIdeal.Own.W5 m g c (Proc.devRef .tc Cert.KernelIdeal.main_v0_1), ?_, ?_⟩
  · refine (θ_run _ _ _).mono ?_ (θ_run_and (Cert.KernelIdeal.Own.run_all m g) (Cert.KernelIdeal.Own.frame m g))
    intro r h c
    exact ⟨fun i _ => congrFun (h.1.1 c _ (Cert.KernelIdeal.Own.mem_uc Cert.KernelIdeal.main_v0_0 (by decide))) i,
      fun i _ => congrFun (h.1.1 c _ (Cert.KernelIdeal.Own.mem_uc Cert.KernelIdeal.main_v0_1 (by decide))) i, h.2.1 c⟩
  · refine (θ_run _ _ _).mono ?_ (θ_run_and (θ_run_and (ref_first m' g') (ref_second m' g')) (ref_frame m' g'))
    intro r h c
    obtain ⟨a0, a1, -, -, a4, a5⟩ := hagree c
    have e := h.1.1 c
    have e2 := h.1.2 c
    rw [a0, a4, a5] at e
    rw [a1, a4, a5] at e2
    refine ⟨fun i _ => ?_, fun i hi => ?_, h.2.1 c⟩
    · obtain rfl : i = ix0 := Subsingleton.elim _ _
      exact (congrFun e ix0).trans (first_eq m g c (hpre c))
    · obtain rfl : i = ix0 := Subsingleton.elim _ _
      exact (congrFun e2 ix0).trans (second_eq m g c (hpre c) hi)

end Cert.Sides

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_well_posed
public import proofs.«01_k».proof.Proof.Gen.On_separated
public import proofs.«01_k».proof.Proof.KernelFrame
public import proofs.«01_k».proof.Proof.KernelIdealFrame
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_well_posed.Gen.facts, Cert.On_separated.Gen.facts,
  fun m ρ _ => Cert.Kernel.Own.frame m ρ, fun m ρ _ => Cert.KernelIdeal.Own.frame m ρ,
  fun m ρ _ => Cert.KernelIdeal.Own.frame m ρ, fun m ρ _ => Cert.Sides.ref_frame m ρ,
  fun m ρ _ => Cert.Sides.ref_frame m ρ, trivial, Cert.Sides.algebraic⟩

end Cert.Proof

end
